-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v59) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v41) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)) (v2 : (c : Dev Cert.ProjIdeal.nD) → Buf (Elt Ideal) ((c.tc : Thread Cert.ProjIdeal.nD Cert.ProjIdeal.τ).loc Cert.ProjIdeal.main_v18_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v18_1) = v1 c
          ∧ r.2.mem ((c.tc : Thread Cert.ProjIdeal.nD Cert.ProjIdeal.τ).loc Cert.ProjIdeal.main_v18_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v44) = v0 c
          ∧ r.2.mem ((c.tc : Thread Cert.ProjReferenceIdeal.nD Cert.ProjReferenceIdeal.τ).loc Cert.ProjReferenceIdeal.main_v47) = v1 c
          ∧ r.2.mem ((c.tc : Thread Cert.ProjReferenceIdeal.nD Cert.ProjReferenceIdeal.τ).loc Cert.ProjReferenceIdeal.main_v49) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hAda : Cert.Ada.Facts) (hAdaIdeal : Cert.AdaIdeal.Facts) (hAdaReferenceIdeal : Cert.AdaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S32768x6144 : Shape := ⟨2, ![32768, 6144]⟩
abbrev S32768x128 : Shape := ⟨2, ![32768, 128]⟩
abbrev S1x1024 : Shape := ⟨2, ![1, 1024]⟩
abbrev S32768x3072 : Shape := ⟨2, ![32768, 3072]⟩
abbrev S32768x8 : Shape := ⟨2, ![32768, 8]⟩
abbrev S32768x3080 : Shape := ⟨2, ![32768, 3080]⟩
abbrev S_ : Shape := ⟨0, ![]⟩

class Facts : Prop where
  bitsLt_bf16_f32 : FTy.bits .bf16 < FTy.bits .f32
  slices_S32768x6144_S32768x3072_0_0 : S32768x6144.Slices ![0, 0] S32768x3072
  slices_S32768x128_S32768x8_0_0 : S32768x128.Slices ![0, 0] S32768x8
  concatenates_S32768x3072_S32768x8_S32768x3080_d1 : Shape.Concatenates [S32768x3072, S32768x8] S32768x3080 1
  bcast_S_S32768x3080 : S_.BroadcastsInDim S32768x3080 (![] : Fin 0 → Fin S32768x3080.rank)

variable [Facts]

def fn {F : FTy → Type} [FloatOps F] (main_arg0 : FVec F S32768x6144 .bf16) (main_arg1 : FVec F S32768x128 .f32) (main_arg2 : FVec F S1x1024 .f32) : IVec S32768x3080 1 :=
  let main_v0 : FVec F S32768x6144 .f32 := (extf .f32 · bitsLt_bf16_f32) main_arg0
  let main_v1 : FVec F S32768x3072 .f32 := (extractStridedSlice S32768x3072 ![0, 0] · slices_S32768x6144_S32768x3072_0_0) main_v0
  let main_v2 : FVec F S32768x8 .f32 := (extractStridedSlice S32768x8 ![0, 0] · slices_S32768x128_S32768x8_0_0) main_arg1
  let main_v3 : FVec F S32768x3080 .f32 := (fun a b => concatenate S32768x3080 1 [⟨S32768x3072, a⟩, ⟨S32768x8, b⟩] concatenates_S32768x3072_S32768x8_S32768x3080_d1) main_v1 main_v2
  let main_v4 : FVec F S32768x3080 .f32 := Host.absf main_v3
  let main_cst : FVec F S_ .f32 := constant S_ .f32 0x7F800000#32
  let main_v5 : FVec F S32768x3080 .f32 := broadcastInDim S32768x3080 ![] bcast_S_S32768x3080 main_cst
  let main_v6 : IVec S32768x3080 1 := cmpf .olt main_v4 main_v5
  main_v6
-- ==== Kernel.lean ====
abbrev S32768x6144 : Shape := ⟨2, ![32768, 6144]⟩
abbrev S32768x128 : Shape := ⟨2, ![32768, 128]⟩
abbrev S1x1024 : Shape := ⟨2, ![1, 1024]⟩
abbrev S16x2048x6144 : Shape := ⟨3, ![16, 2048, 6144]⟩
abbrev S16x2048x128 : Shape := ⟨3, ![16, 2048, 128]⟩
abbrev S16x2048x1024 : Shape := ⟨3, ![16, 2048, 1024]⟩
abbrev S4x256x1024 : Shape := ⟨3, ![4, 256, 1024]⟩
abbrev S4x256x128 : Shape := ⟨3, ![4, 256, 128]⟩
abbrev S16x272x256 : Shape := ⟨3, ![16, 272, 256]⟩
abbrev S16x8x128 : Shape := ⟨3, ![16, 8, 128]⟩
abbrev S256x256 : Shape := ⟨2, ![256, 256]⟩
abbrev S16x256 : Shape := ⟨2, ![16, 256]⟩
abbrev S1x256x128 : Shape := ⟨3, ![1, 256, 128]⟩
abbrev S256x128 : Shape := ⟨2, ![256, 128]⟩
abbrev S128x256 : Shape := ⟨2, ![128, 256]⟩
abbrev S8x256 : Shape := ⟨2, ![8, 256]⟩
abbrev S1x256x256 : Shape := ⟨3, ![1, 256, 256]⟩
abbrev S272x256 : Shape := ⟨2, ![272, 256]⟩
abbrev S1x272x256 : Shape := ⟨3, ![1, 272, 256]⟩
abbrev S1x256 : Shape := ⟨2, ![1, 256]⟩
abbrev S256x1 : Shape := ⟨2, ![256, 1]⟩
abbrev S1x8x128 : Shape := ⟨3, ![1, 8, 128]⟩
abbrev S8x128 : Shape := ⟨2, ![8, 128]⟩
abbrev S1x1 : Shape := ⟨2, ![1, 1]⟩
abbrev S256 : Shape := ⟨1, ![256]⟩
abbrev S1 : Shape := ⟨1, ![1]⟩

abbrev nBuf : Space → Nat
  | .hbm => 6
  | .vmem => 13
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S1x1024, .f32⟩
  | .hbm, ⟨3, _⟩ => ⟨S16x2048x6144, .bf16⟩
  | .hbm, ⟨4, _⟩ => ⟨S16x2048x128, .f32⟩
  | .hbm, ⟨5, _⟩ => ⟨S16x2048x1024, .bf16⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x128, .f32⟩
  | .local _ .vmem, ⟨7, _⟩ => ⟨S4x256x128, .f32⟩
  | .local _ .vmem, ⟨8, _⟩ => ⟨S1x1024, .f32⟩
  | .local _ .vmem, ⟨9, _⟩ => ⟨S4x256x1024, .bf16⟩
  | .local _ .vmem, ⟨10, _⟩ => ⟨S4x256x1024, .bf16⟩
  | .local _ .vmem, ⟨11, _⟩ => ⟨S16x272x256, .f32⟩
  | .local _ .vmem, ⟨12, _⟩ => ⟨S16x8x128, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32768x6144 : Shape := ⟨2, ![32768, 6144]⟩
abbrev S32768x128 : Shape := ⟨2, ![32768, 128]⟩
abbrev S1x1024 : Shape := ⟨2, ![1, 1024]⟩
abbrev S16x2048x6144 : Shape := ⟨3, ![16, 2048, 6144]⟩
abbrev S16x2048x1024 : Shape := ⟨3, ![16, 2048, 1024]⟩
abbrev S16x2048x128 : Shape := ⟨3, ![16, 2048, 128]⟩
abbrev S16x2048x4 : Shape := ⟨3, ![16, 2048, 4]⟩
abbrev S16x2048x4x256 : Shape := ⟨4, ![16, 2048, 4, 256]⟩
abbrev S_ : Shape := ⟨0, ![]⟩
abbrev S16x32x64x4x256 : Shape := ⟨5, ![16, 32, 64, 4, 256]⟩
abbrev S32x16x4x64x256 : Shape := ⟨5, ![32, 16, 4, 64, 256]⟩
abbrev S16x32x64x4 : Shape := ⟨4, ![16, 32, 64, 4]⟩
abbrev S32x16x4x64 : Shape := ⟨4, ![32, 16, 4, 64]⟩
abbrev S64x64 : Shape := ⟨2, ![64, 64]⟩
abbrev S16x4x256x256 : Shape := ⟨4, ![16, 4, 256, 256]⟩
abbrev S16x4x256 : Shape := ⟨3, ![16, 4, 256]⟩
abbrev S16x4 : Shape := ⟨2, ![16, 4]⟩
abbrev S1x16x4x64x256 : Shape := ⟨5, ![1, 16, 4, 64, 256]⟩
abbrev S16x4x64x256 : Shape := ⟨4, ![16, 4, 64, 256]⟩
abbrev S1x16x4x64 : Shape := ⟨4, ![1, 16, 4, 64]⟩
abbrev S16x4x64 : Shape := ⟨3, ![16, 4, 64]⟩
abbrev S16x4x64x1 : Shape := ⟨4, ![16, 4, 64, 1]⟩
abbrev S16x4x1x64 : Shape := ⟨4, ![16, 4, 1, 64]⟩
abbrev S16x4x64x64 : Shape := ⟨4, ![16, 4, 64, 64]⟩
abbrev S16x4x1 : Shape := ⟨3, ![16, 4, 1]⟩
abbrev S16x4x1x1 : Shape := ⟨4, ![16, 4, 1, 1]⟩
abbrev S4x256 : Shape := ⟨2, ![4, 256]⟩
abbrev S16x2048x4x1 : Shape := ⟨4, ![16, 2048, 4, 1]⟩
abbrev S1x1x4x256 : Shape := ⟨4, ![1, 1, 4, 256]⟩

abbrev nBuf : Space → Nat
  | .hbm => 195
  | .vmem => 0
  | .smem => 0
  | _ => 0

abbrev hbmTy0_0 (i : Nat) : BufTy := match i % 128 with
  | 0 => ⟨S32768x6144, .bf16⟩
  | 1 => ⟨S32768x128, .f32⟩
  | 2 => ⟨S1x1024, .f32⟩
  | 3 => ⟨S32768x6144, .f32⟩
  | 4 => ⟨S16x2048x6144, .f32⟩
  | 5 => ⟨S16x2048x1024, .f32⟩
  | 6 => ⟨S16x2048x1024, .f32⟩
  | 7 => ⟨S16x2048x1024, .f32⟩
  | 8 => ⟨S16x2048x128, .f32⟩
  | 9 => ⟨S16x2048x4, .f32⟩
  | 10 => ⟨S16x2048x4, .f32⟩
  | 11 => ⟨S16x2048x4x256, .f32⟩
  | 12 => ⟨S16x2048x4x256, .f32⟩
  | 13 => ⟨S16x2048x4x256, .f32⟩
  | 14 => ⟨S_, .f32⟩
  | 15 => ⟨S16x2048x4x256, .f32⟩
  | 16 => ⟨S16x2048x4x256, .f32⟩
  | 17 => ⟨S16x32x64x4x256, .f32⟩
  | 18 => ⟨S32x16x4x64x256, .f32⟩
  | 19 => ⟨S16x32x64x4x256, .f32⟩
  | 20 => ⟨S32x16x4x64x256, .f32⟩
  | 21 => ⟨S16x32x64x4x256, .f32⟩
  | 22 => ⟨S32x16x4x64x256, .f32⟩
  | 23 => ⟨S16x32x64x4, .f32⟩
  | 24 => ⟨S32x16x4x64, .f32⟩
  | 25 => ⟨S16x32x64x4, .f32⟩
  | 26 => ⟨S32x16x4x64, .f32⟩
  | 27 => ⟨S_, .i1⟩
  | 28 => ⟨S64x64, .i1⟩
  | 29 => ⟨S64x64, .i32⟩
  | 30 => ⟨S_, .i32⟩
  | 31 => ⟨S64x64, .i32⟩
  | 32 => ⟨S64x64, .i32⟩
  | 33 => ⟨S64x64, .i32⟩
  | 34 => ⟨S64x64, .i1⟩
  | 35 => ⟨S_, .i1⟩
  | 36 => ⟨S64x64, .i1⟩
  | 37 => ⟨S64x64, .i1⟩
  | 38 => ⟨S_, .f32⟩
  | 39 => ⟨S16x4x256x256, .f32⟩
  | 40 => ⟨S_, .f32⟩
  | 41 => ⟨S16x4x256, .f32⟩
  | 42 => ⟨S_, .f32⟩
  | 43 => ⟨S16x4, .f32⟩
  | 44 => ⟨S_, .f32⟩
  | 45 => ⟨S32x16x4x64x256, .f32⟩
  | 46 => ⟨S_, .i32⟩
  | 47 => ⟨S32x16x4x64x256, .f32⟩
  | 48 => ⟨S32x16x4x64x256, .f32⟩
  | 49 => ⟨S32x16x4x64x256, .f32⟩
  | 50 => ⟨S32x16x4x64, .f32⟩
  | 51 => ⟨S32x16x4x64, .f32⟩
  | 52 => ⟨S64x64, .i1⟩
  | 53 => ⟨S_, .i32⟩
  | 54 => ⟨S16x4x256x256, .f32⟩
  | 55 => ⟨S16x4x256, .f32⟩
  | 56 => ⟨S16x4, .f32⟩
  | 57 => ⟨S32x16x4x64x256, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1x16x4x64x256, .f32⟩
  | 65 => ⟨S16x4x64x256, .f32⟩
  | 66 => ⟨S_, .i32⟩
  | 67 => ⟨S_, .i32⟩
  | 68 => ⟨S_, .i32⟩
  | 69 => ⟨S_, .i32⟩
  | 70 => ⟨S1x16x4x64x256, .f32⟩
  | 71 => ⟨S16x4x64x256, .f32⟩
  | 72 => ⟨S_, .i32⟩
  | 73 => ⟨S_, .i32⟩
  | 74 => ⟨S_, .i32⟩
  | 75 => ⟨S_, .i32⟩
  | 76 => ⟨S1x16x4x64x256, .f32⟩
  | 77 => ⟨S16x4x64x256, .f32⟩
  | 78 => ⟨S_, .i32⟩
  | 79 => ⟨S_, .i32⟩
  | 80 => ⟨S_, .i32⟩
  | 81 => ⟨S1x16x4x64, .f32⟩
  | 82 => ⟨S16x4x64, .f32⟩
  | 83 => ⟨S_, .i32⟩
  | 84 => ⟨S_, .i32⟩
  | 85 => ⟨S_, .i32⟩
  | 86 => ⟨S1x16x4x64, .f32⟩
  | 87 => ⟨S16x4x64, .f32⟩
  | 88 => ⟨S_, .f32⟩
  | 89 => ⟨S_, .f32⟩
  | 90 => ⟨S16x4x64, .f32⟩
  | 91 => ⟨S16x4x64x1, .f32⟩
  | 92 => ⟨S16x4x1x64, .f32⟩
  | 93 => ⟨S16x4x64x64, .f32⟩
  | 94 => ⟨S16x4x64x64, .f32⟩
  | 95 => ⟨S16x4x64x64, .f32⟩
  | 96 => ⟨S16x4x1x64, .f32⟩
  | 97 => ⟨S16x4x64x64, .f32⟩
  | 98 => ⟨S16x4x64x64, .f32⟩
  | 99 => ⟨S_, .f32⟩
  | 100 => ⟨S_, .f32⟩
  | 101 => ⟨S16x4x64x64, .i1⟩
  | 102 => ⟨S16x4x64x64, .f32⟩
  | 103 => ⟨S16x4x64x64, .f32⟩
  | 104 => ⟨S16x4x1, .f32⟩
  | 105 => ⟨S16x4x64, .f32⟩
  | 106 => ⟨S16x4x64, .f32⟩
  | 107 => ⟨S_, .f32⟩
  | 108 => ⟨S16x4x64, .f32⟩
  | 109 => ⟨S16x4x64, .f32⟩
  | 110 => ⟨S16x4x64x1, .f32⟩
  | 111 => ⟨S16x4x64x64, .f32⟩
  | 112 => ⟨S16x4x64x64, .f32⟩
  | 113 => ⟨S16x4x64x64, .f32⟩
  | 114 => ⟨S16x4x64, .f32⟩
  | 115 => ⟨S16x4x64, .f32⟩
  | 116 => ⟨S16x4x64x64, .f32⟩
  | 117 => ⟨S16x4x64x64, .f32⟩
  | 118 => ⟨S16x4x64x256, .f32⟩
  | 119 => ⟨S16x4x64x1, .f32⟩
  | 120 => ⟨S16x4x64x256, .f32⟩
  | 121 => ⟨S16x4x64x256, .f32⟩
  | 122 => ⟨S16x4x64x256, .f32⟩
  | 123 => ⟨S16x4x64x256, .f32⟩
  | 124 => ⟨S_, .f32⟩
  | 125 => ⟨S16x4x64, .f32⟩
  | 126 => ⟨S16x4x64, .f32⟩
  | 127 => ⟨S16x4x64, .f32⟩
  | _ => ⟨S32768x6144, .bf16⟩

abbrev hbmTy0_1 (i : Nat) : BufTy := match i % 128 with
  | 0 => ⟨S16x4x64, .f32⟩
  | 1 => ⟨S16x4x64, .f32⟩
  | 2 => ⟨S16x4x64, .f32⟩
  | 3 => ⟨S16x4x64, .f32⟩
  | 4 => ⟨S16x4x64, .f32⟩
  | 5 => ⟨S16x4x64x1, .f32⟩
  | 6 => ⟨S16x4x64x256, .f32⟩
  | 7 => ⟨S16x4x64x256, .f32⟩
  | 8 => ⟨S16x4x1, .f32⟩
  | 9 => ⟨S16x4, .f32⟩
  | 10 => ⟨S16x4x1, .f32⟩
  | 11 => ⟨S16x4x64, .f32⟩
  | 12 => ⟨S16x4x64, .f32⟩
  | 13 => ⟨S16x4x64, .f32⟩
  | 14 => ⟨S16x4, .f32⟩
  | 15 => ⟨S_, .f32⟩
  | 16 => ⟨S16x4, .f32⟩
  | 17 => ⟨S16x4, .f32⟩
  | 18 => ⟨S16x4x1, .f32⟩
  | 19 => ⟨S16x4x64, .f32⟩
  | 20 => ⟨S16x4x64, .f32⟩
  | 21 => ⟨S16x4x64, .f32⟩
  | 22 => ⟨S16x4, .f32⟩
  | 23 => ⟨S16x4, .f32⟩
  | 24 => ⟨S16x4, .f32⟩
  | 25 => ⟨S16x4x1x1, .f32⟩
  | 26 => ⟨S16x4x256x256, .f32⟩
  | 27 => ⟨S16x4x256x256, .f32⟩
  | 28 => ⟨S16x4x64x1, .f32⟩
  | 29 => ⟨S16x4x64x256, .f32⟩
  | 30 => ⟨S16x4x64x256, .f32⟩
  | 31 => ⟨S16x4x256x256, .f32⟩
  | 32 => ⟨S16x4x256x256, .f32⟩
  | 33 => ⟨S16x4x1, .f32⟩
  | 34 => ⟨S16x4x256, .f32⟩
  | 35 => ⟨S16x4x256, .f32⟩
  | 36 => ⟨S16x4x256, .f32⟩
  | 37 => ⟨S16x4x256, .f32⟩
  | 38 => ⟨S1x16x4x64x256, .f32⟩
  | 39 => ⟨S_, .i32⟩
  | 40 => ⟨S_, .i32⟩
  | 41 => ⟨S_, .i32⟩
  | 42 => ⟨S_, .i32⟩
  | 43 => ⟨S32x16x4x64x256, .f32⟩
  | 44 => ⟨S_, .i32⟩
  | 45 => ⟨S_, .i32⟩
  | 46 => ⟨S16x32x64x4x256, .f32⟩
  | 47 => ⟨S16x2048x4x256, .f32⟩
  | 48 => ⟨S4x256, .f32⟩
  | 49 => ⟨S16x2048x4x256, .f32⟩
  | 50 => ⟨S_, .f32⟩
  | 51 => ⟨S16x2048x4, .f32⟩
  | 52 => ⟨S16x2048x4x1, .f32⟩
  | 53 => ⟨S_, .f32⟩
  | 54 => ⟨S16x2048x4x1, .f32⟩
  | 55 => ⟨S16x2048x4x1, .f32⟩
  | 56 => ⟨S_, .f32⟩
  | 57 => ⟨S16x2048x4x1, .f32⟩
  | 58 => ⟨S16x2048x4x1, .f32⟩
  | 59 => ⟨S16x2048x4x1, .f32⟩
  | 60 => ⟨S16x2048x4x256, .f32⟩
  | 61 => ⟨S16x2048x4x256, .f32⟩
  | 62 => ⟨S1x1x4x256, .f32⟩
  | 63 => ⟨S16x2048x4x256, .f32⟩
  | 64 => ⟨S16x2048x4x256, .f32⟩
  | 65 => ⟨S16x2048x1024, .f32⟩
  | 66 => ⟨S16x2048x1024, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_c_4 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v29_3 : Ref sig .tc := ⟨.hbm, 50, rfl⟩
abbrev main_v29_4 : Ref sig .tc := ⟨.hbm, 51, rfl⟩
abbrev main_v29_5 : Ref sig .tc := ⟨.hbm, 52, rfl⟩
abbrev main_v29_6 : Ref sig .tc := ⟨.hbm, 53, rfl⟩
abbrev main_v29_7 : Ref sig .tc := ⟨.hbm, 54, rfl⟩
abbrev main_v29_8 : Ref sig .tc := ⟨.hbm, 55, rfl⟩
abbrev main_v29_9 : Ref sig .tc := ⟨.hbm, 56, rfl⟩
abbrev main_v29_10 : Ref sig .tc := ⟨.hbm, 57, rfl⟩
abbrev main_while0c_c_18 : Ref sig .tc := ⟨.hbm, 58, rfl⟩
abbrev main_while0c_v48 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_v0 : Ref sig .tc := ⟨.hbm, 64, rfl⟩
abbrev main_while0b_v48 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_c_2 : Ref sig .tc := ⟨.hbm, 69, rfl⟩
abbrev main_while0b_call2_v0 : Ref sig .tc := ⟨.hbm, 70, rfl⟩
abbrev main_while0b_v49 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_c_2 : Ref sig .tc := ⟨.hbm, 75, rfl⟩
abbrev main_while0b_call3_v0 : Ref sig .tc := ⟨.hbm, 76, rfl⟩
abbrev main_while0b_v50 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_v0 : Ref sig .tc := ⟨.hbm, 81, rfl⟩
abbrev main_while0b_v51 : Ref sig .tc := ⟨.hbm, 82, rfl⟩
abbrev main_while0b_call5_c : Ref sig .tc := ⟨.hbm, 83, rfl⟩
abbrev main_while0b_call5_c_0 : Ref sig .tc := ⟨.hbm, 84, rfl⟩
abbrev main_while0b_call5_c_1 : Ref sig .tc := ⟨.hbm, 85, rfl⟩
abbrev main_while0b_call5_v0 : Ref sig .tc := ⟨.hbm, 86, rfl⟩
abbrev main_while0b_v52 : Ref sig .tc := ⟨.hbm, 87, rfl⟩
abbrev main_while0b_call6_call0_cst : Ref sig .tc := ⟨.hbm, 88, rfl⟩
abbrev main_while0b_call6_call0_v0 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_cst_18 : Ref sig .tc := ⟨.hbm, 99, rfl⟩
abbrev main_while0b_call7_v0 : Ref sig .tc := ⟨.hbm, 100, rfl⟩
abbrev main_while0b_call7_v1 : Ref sig .tc := ⟨.hbm, 101, rfl⟩
abbrev main_while0b_call7_v2 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_cst_19 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_cst_20 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_v85 : Ref sig .tc := ⟨.hbm, 128, rfl⟩
abbrev main_while0b_v86 : Ref sig .tc := ⟨.hbm, 129, rfl⟩
abbrev main_while0b_v87 : Ref sig .tc := ⟨.hbm, 130, rfl⟩
abbrev main_while0b_v88 : Ref sig .tc := ⟨.hbm, 131, rfl⟩
abbrev main_while0b_v89 : Ref sig .tc := ⟨.hbm, 132, rfl⟩
abbrev main_while0b_v90 : Ref sig .tc := ⟨.hbm, 133, rfl⟩
abbrev main_while0b_v91 : Ref sig .tc := ⟨.hbm, 134, rfl⟩
abbrev main_while0b_v92 : Ref sig .tc := ⟨.hbm, 135, rfl⟩
abbrev main_while0b_v93 : Ref sig .tc := ⟨.hbm, 136, rfl⟩
abbrev main_while0b_v94 : Ref sig .tc := ⟨.hbm, 137, rfl⟩
abbrev main_while0b_v95 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_cst_21 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_v104 : Ref sig .tc := ⟨.hbm, 148, rfl⟩
abbrev main_while0b_v105 : Ref sig .tc := ⟨.hbm, 149, rfl⟩
abbrev main_while0b_v106 : Ref sig .tc := ⟨.hbm, 150, rfl⟩
abbrev main_while0b_v107 : Ref sig .tc := ⟨.hbm, 151, rfl⟩
abbrev main_while0b_v108 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_v114 : Ref sig .tc := ⟨.hbm, 158, rfl⟩
abbrev main_while0b_v115 : Ref sig .tc := ⟨.hbm, 159, rfl⟩
abbrev main_while0b_v116 : Ref sig .tc := ⟨.hbm, 160, rfl⟩
abbrev main_while0b_v117 : Ref sig .tc := ⟨.hbm, 161, rfl⟩
abbrev main_while0b_v118 : Ref sig .tc := ⟨.hbm, 162, rfl⟩
abbrev main_while0b_v119 : Ref sig .tc := ⟨.hbm, 163, rfl⟩
abbrev main_while0b_v120 : Ref sig .tc := ⟨.hbm, 164, rfl⟩
abbrev main_while0b_v121 : Ref sig .tc := ⟨.hbm, 165, rfl⟩
abbrev main_while0b_call8_v0 : Ref sig .tc := ⟨.hbm, 166, rfl⟩
abbrev main_while0b_call8_c : Ref sig .tc := ⟨.hbm, 167, rfl⟩
abbrev main_while0b_call8_c_0 : Ref sig .tc := ⟨.hbm, 168, rfl⟩
abbrev main_while0b_call8_c_1 : Ref sig .tc := ⟨.hbm, 169, rfl⟩
abbrev main_while0b_call8_c_2 : Ref sig .tc := ⟨.hbm, 170, rfl⟩
abbrev main_while0b_v122 : Ref sig .tc := ⟨.hbm, 171, rfl⟩
abbrev main_while0b_c_22 : Ref sig .tc := ⟨.hbm, 172, rfl⟩
abbrev main_while0b_v123 : Ref sig .tc := ⟨.hbm, 173, rfl⟩
abbrev main_v30 : Ref sig .tc := ⟨.hbm, 174, rfl⟩
abbrev main_v31 : Ref sig .tc := ⟨.hbm, 175, rfl⟩
abbrev main_v32 : Ref sig .tc := ⟨.hbm, 176, rfl⟩
abbrev main_v33 : Ref sig .tc := ⟨.hbm, 177, rfl⟩
abbrev main_cst_5 : Ref sig .tc := ⟨.hbm, 178, rfl⟩
abbrev main_v34 : Ref sig .tc := ⟨.hbm, 179, rfl⟩
abbrev main_v35 : Ref sig .tc := ⟨.hbm, 180, rfl⟩
abbrev main_cst_6 : Ref sig .tc := ⟨.hbm, 181, rfl⟩
abbrev main_v36 : Ref sig .tc := ⟨.hbm, 182, rfl⟩
abbrev main_v37 : Ref sig .tc := ⟨.hbm, 183, rfl⟩
abbrev main_cst_7 : Ref sig .tc := ⟨.hbm, 184, rfl⟩
abbrev main_v38 : Ref sig .tc := ⟨.hbm, 185, rfl⟩
abbrev main_v39 : Ref sig .tc := ⟨.hbm, 186, rfl⟩
abbrev main_v40 : Ref sig .tc := ⟨.hbm, 187, rfl⟩
abbrev main_v41 : Ref sig .tc := ⟨.hbm, 188, rfl⟩
abbrev main_v42 : Ref sig .tc := ⟨.hbm, 189, rfl⟩
abbrev main_v43 : Ref sig .tc := ⟨.hbm, 190, rfl⟩
abbrev main_v44 : Ref sig .tc := ⟨.hbm, 191, rfl⟩
abbrev main_v45 : Ref sig .tc := ⟨.hbm, 192, rfl⟩
abbrev main_v46 : Ref sig .tc := ⟨.hbm, 193, rfl⟩
abbrev main_v47 : Ref sig .tc := ⟨.hbm, 194, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S16x2048x1024 : Shape := ⟨3, ![16, 2048, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S16x6x1024 : Shape := ⟨3, ![16, 6, 1024]⟩
abbrev S1x1024 : Shape := ⟨2, ![1, 1024]⟩
abbrev S1x5632 : Shape := ⟨2, ![1, 5632]⟩
abbrev S512x1024 : Shape := ⟨2, ![512, 1024]⟩
abbrev S1x6x1024 : Shape := ⟨3, ![1, 6, 1024]⟩
abbrev S8x5632 : Shape := ⟨2, ![8, 5632]⟩
abbrev S520x256 : Shape := ⟨2, ![520, 256]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩
abbrev S256x1024 : Shape := ⟨2, ![256, 1024]⟩

abbrev nBuf : Space → Nat
  | .hbm => 14
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S32768x1024, .f32⟩
  | .hbm, ⟨8, _⟩ => ⟨S16x6x1024, .f32⟩
  | .hbm, ⟨9, _⟩ => ⟨S1x1024, .f32⟩
  | .hbm, ⟨10, _⟩ => ⟨S1024x5632, .bf16⟩
  | .hbm, ⟨11, _⟩ => ⟨S1x5632, .f32⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S8x5632, .f32⟩
  | .local _ .vmem, ⟨13, _⟩ => ⟨S512x1024, .f32⟩
  | .local _ .vmem, ⟨14, _⟩ => ⟨S520x256, .f32⟩
  | .local _ .vmem, ⟨15, _⟩ => ⟨S520x256, .f32⟩
  | .local _ .vmem, ⟨16, _⟩ => ⟨S520x256, .f32⟩
  | .local _ .vmem, ⟨17, _⟩ => ⟨S520x256, .f32⟩
  | .local _ .vmem, ⟨18, _⟩ => ⟨S520x256, .f32⟩
  | .local _ .vmem, ⟨19, _⟩ => ⟨S520x256, .f32⟩
  | .local _ .vmem, ⟨20, _⟩ => ⟨S520x256, .f32⟩
  | .local _ .vmem, ⟨21, _⟩ => ⟨S520x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S16x2048x1024 : Shape := ⟨3, ![16, 2048, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x5632 : Shape := ⟨3, ![16, 2048, 5632]⟩
abbrev S16x2x5632 : Shape := ⟨3, ![16, 2, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S16x1x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x2048x5632, .f32⟩
  | .hbm, ⟨36, _⟩ => ⟨S_, .f32⟩
  | .hbm, ⟨37, _⟩ => ⟨S16x2x5632, .f32⟩
  | .hbm, ⟨38, _⟩ => ⟨S16x2050x5632, .f32⟩
  | .hbm, ⟨39, _⟩ => ⟨S16x2048x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S16x2048x5632, .f32⟩
  | .hbm, ⟨44, _⟩ => ⟨S16x2048x5632, .f32⟩
  | .hbm, ⟨45, _⟩ => ⟨S16x2048x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S16x2048x5632, .f32⟩
  | .hbm, ⟨50, _⟩ => ⟨S16x2048x5632, .f32⟩
  | .hbm, ⟨51, _⟩ => ⟨S16x2048x5632, .f32⟩
  | .hbm, ⟨52, _⟩ => ⟨S16x2048x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S16x2048x5632, .f32⟩
  | .hbm, ⟨57, _⟩ => ⟨S16x2048x5632, .f32⟩
  | .hbm, ⟨58, _⟩ => ⟨S16x2048x5632, .f32⟩
  | .hbm, ⟨59, _⟩ => ⟨S1x1x5632, .f32⟩
  | .hbm, ⟨60, _⟩ => ⟨S16x2048x5632, .f32⟩
  | .hbm, ⟨61, _⟩ => ⟨S16x2048x5632, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S_, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x1024, .f32⟩
  | .hbm, ⟨75, _⟩ => ⟨S16x1x1024, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | .hbm, ⟨79, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Merge.lean ====
abbrev S16x2048x1024 : Shape := ⟨3, ![16, 2048, 1024]⟩
abbrev S16x6144 : Shape := ⟨2, ![16, 6144]⟩
abbrev S4x32768x256 : Shape := ⟨3, ![4, 32768, 256]⟩
abbrev S32768x6144 : Shape := ⟨2, ![32768, 6144]⟩
abbrev S1024x1024 : Shape := ⟨2, ![1024, 1024]⟩
abbrev S32768x1024 : Shape := ⟨2, ![32768, 1024]⟩
abbrev S16x6x1024 : Shape := ⟨3, ![16, 6, 1024]⟩
abbrev S512x1024 : Shape := ⟨2, ![512, 1024]⟩
abbrev S1x6x1024 : Shape := ⟨3, ![1, 6, 1024]⟩
abbrev S4x512x256 : Shape := ⟨3, ![4, 512, 256]⟩
abbrev S1x512x256 : Shape := ⟨3, ![1, 512, 256]⟩
abbrev S512x256 : Shape := ⟨2, ![512, 256]⟩
abbrev S1x1x1024 : Shape := ⟨3, ![1, 1, 1024]⟩
abbrev S1x1024 : Shape := ⟨2, ![1, 1024]⟩

abbrev nBuf : Space → Nat
  | .hbm => 15
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S4x32768x256, .bf16⟩
  | .hbm, ⟨4, _⟩ => ⟨S32768x6144, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S32768x1024, .f32⟩
  | .hbm, ⟨9, _⟩ => ⟨S16x6x1024, .f32⟩
  | .hbm, ⟨10, _⟩ => ⟨S32768x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4x512x256, .bf16⟩
  | .local _ .vmem, ⟨9, _⟩ => ⟨S4x512x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S16x2048x1024 : Shape := ⟨3, ![16, 2048, 1024]⟩
abbrev S16x6144 : Shape := ⟨2, ![16, 6144]⟩
abbrev S4x32768x256 : Shape := ⟨3, ![4, 32768, 256]⟩
abbrev S32768x6144 : Shape := ⟨2, ![32768, 6144]⟩
abbrev S1024x1024 : Shape := ⟨2, ![1024, 1024]⟩
abbrev S16x1024 : Shape := ⟨2, ![16, 1024]⟩
abbrev S16x2048x6144 : Shape := ⟨3, ![16, 2048, 6144]⟩
abbrev S_ : Shape := ⟨0, ![]⟩
abbrev S32768x4x256 : Shape := ⟨3, ![32768, 4, 256]⟩
abbrev S16x1x1024 : Shape := ⟨3, ![16, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S4x32768x256, .bf16⟩
  | .hbm, ⟨4, _⟩ => ⟨S32768x6144, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S16x1024, .f32⟩
  | .hbm, ⟨9, _⟩ => ⟨S16x2048x6144, .bf16⟩
  | .hbm, ⟨10, _⟩ => ⟨S16x2048x1024, .bf16⟩
  | .hbm, ⟨11, _⟩ => ⟨S16x2048x1024, .bf16⟩
  | .hbm, ⟨12, _⟩ => ⟨S16x2048x1024, .bf16⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S4x32768x256, .f32⟩
  | .hbm, ⟨27, _⟩ => ⟨S32768x4x256, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proj.lean ====
abbrev S16x2048x1024 : Shape := ⟨3, ![16, 2048, 1024]⟩
abbrev S16x6144 : Shape := ⟨2, ![16, 6144]⟩
abbrev S1024 : Shape := ⟨1, ![1024]⟩
abbrev S1024x9240 : Shape := ⟨2, ![1024, 9240]⟩
abbrev S4 : Shape := ⟨1, ![4]⟩
abbrev S16 : Shape := ⟨1, ![16]⟩
abbrev S9240x1024 : Shape := ⟨2, ![9240, 1024]⟩
abbrev S4096x1024 : Shape := ⟨2, ![4096, 1024]⟩
abbrev S3072x1024 : Shape := ⟨2, ![3072, 1024]⟩
abbrev S2048x1024 : Shape := ⟨2, ![2048, 1024]⟩
abbrev S8x1024 : Shape := ⟨2, ![8, 1024]⟩
abbrev S16x1024 : Shape := ⟨2, ![16, 1024]⟩
abbrev S_ : Shape := ⟨0, ![]⟩
abbrev S104x1024 : Shape := ⟨2, ![104, 1024]⟩
abbrev S128x1024 : Shape := ⟨2, ![128, 1024]⟩
abbrev S104 : Shape := ⟨1, ![104]⟩
abbrev S128 : Shape := ⟨1, ![128]⟩
abbrev S1x128 : Shape := ⟨2, ![1, 128]⟩
abbrev S32768x1024 : Shape := ⟨2, ![32768, 1024]⟩
abbrev S16x6x1024 : Shape := ⟨3, ![16, 6, 1024]⟩
abbrev S1x1024 : Shape := ⟨2, ![1, 1024]⟩
abbrev S32768x6144 : Shape := ⟨2, ![32768, 6144]⟩
abbrev S12x32768x256 : Shape := ⟨3, ![12, 32768, 256]⟩
abbrev S32768x128 : Shape := ⟨2, ![32768, 128]⟩
abbrev S32768x384 : Shape := ⟨2, ![32768, 384]⟩
abbrev S512x1024 : Shape := ⟨2, ![512, 1024]⟩
abbrev S1x6x1024 : Shape := ⟨3, ![1, 6, 1024]⟩
abbrev S512x6144 : Shape := ⟨2, ![512, 6144]⟩
abbrev S12x512x256 : Shape := ⟨3, ![12, 512, 256]⟩
abbrev S512x128 : Shape := ⟨2, ![512, 128]⟩
abbrev S512x384 : Shape := ⟨2, ![512, 384]⟩
abbrev S8x128 : Shape := ⟨2, ![8, 128]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩
abbrev S256x256 : Shape := ⟨2, ![256, 256]⟩
abbrev S256x128 : Shape := ⟨2, ![256, 128]⟩
abbrev S256x384 : Shape := ⟨2, ![256, 384]⟩
abbrev S512x256 : Shape := ⟨2, ![512, 256]⟩
abbrev S1x512x256 : Shape := ⟨3, ![1, 512, 256]⟩

abbrev nBuf : Space → Nat
  | .hbm => 31
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x9240, .f32⟩
  | .hbm, ⟨4, _⟩ => ⟨S4, .f32⟩
  | .hbm, ⟨5, _⟩ => ⟨S4, .f32⟩
  | .hbm, ⟨6, _⟩ => ⟨S16, .f32⟩
  | .hbm, ⟨7, _⟩ => ⟨S9240x1024, .f32⟩
  | .hbm, ⟨8, _⟩ => ⟨S4096x1024, .f32⟩
  | .hbm, ⟨9, _⟩ => ⟨S4096x1024, .bf16⟩
  | .hbm, ⟨10, _⟩ => ⟨S3072x1024, .f32⟩
  | .hbm, ⟨11, _⟩ => ⟨S3072x1024, .bf16⟩
  | .hbm, ⟨12, _⟩ => ⟨S2048x1024, .f32⟩
  | .hbm, ⟨13, _⟩ => ⟨S2048x1024, .bf16⟩
  | .hbm, ⟨14, _⟩ => ⟨S8x1024, .f32⟩
  | .hbm, ⟨15, _⟩ => ⟨S16x1024, .f32⟩
  | .hbm, ⟨16, _⟩ => ⟨S_, .f32⟩
  | .hbm, ⟨17, _⟩ => ⟨S104x1024, .f32⟩
  | .hbm, ⟨18, _⟩ => ⟨S128x1024, .f32⟩
  | .hbm, ⟨19, _⟩ => ⟨S128x1024, .bf16⟩
  | .hbm, ⟨20, _⟩ => ⟨S_, .f32⟩
  | .hbm, ⟨21, _⟩ => ⟨S104, .f32⟩
  | .hbm, ⟨22, _⟩ => ⟨S128, .f32⟩
  | .hbm, ⟨23, _⟩ => ⟨S1x128, .f32⟩
  | .hbm, ⟨24, _⟩ => ⟨S32768x1024, .f32⟩
  | .hbm, ⟨25, _⟩ => ⟨S16x6x1024, .f32⟩
  | .hbm, ⟨26, _⟩ => ⟨S1x1024, .f32⟩
  | .hbm, ⟨27, _⟩ => ⟨S32768x6144, .bf16⟩
  | .hbm, ⟨28, _⟩ => ⟨S12x32768x256, .bf16⟩
  | .hbm, ⟨29, _⟩ => ⟨S32768x128, .f32⟩
  | .hbm, ⟨30, _⟩ => ⟨S32768x384, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S4096x1024, .bf16⟩
  | .local _ .vmem, ⟨6, _⟩ => ⟨S3072x1024, .bf16⟩
  | .local _ .vmem, ⟨7, _⟩ => ⟨S2048x1024, .bf16⟩
  | .local _ .vmem, ⟨8, _⟩ => ⟨S128x1024, .bf16⟩
  | .local _ .vmem, ⟨9, _⟩ => ⟨S1x128, .f32⟩
  | .local _ .vmem, ⟨10, _⟩ => ⟨S512x6144, .bf16⟩
  | .local _ .vmem, ⟨11, _⟩ => ⟨S512x6144, .bf16⟩
  | .local _ .vmem, ⟨12, _⟩ => ⟨S12x512x256, .bf16⟩
  | .local _ .vmem, ⟨13, _⟩ => ⟨S12x512x256, .bf16⟩
  | .local _ .vmem, ⟨14, _⟩ => ⟨S512x128, .f32⟩
  | .local _ .vmem, ⟨15, _⟩ => ⟨S512x128, .f32⟩
  | .local _ .vmem, ⟨16, _⟩ => ⟨S512x384, .bf16⟩
  | .local _ .vmem, ⟨17, _⟩ => ⟨S512x384, .bf16⟩
  | .local _ .vmem, ⟨18, _⟩ => ⟨S512x1024, .bf16⟩
  | .local _ .vmem, ⟨19, _⟩ => ⟨S8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S12x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjReferenceIdeal.lean ====
abbrev S16x2048x1024 : Shape := ⟨3, ![16, 2048, 1024]⟩
abbrev S16x6144 : Shape := ⟨2, ![16, 6144]⟩
abbrev S1024 : Shape := ⟨1, ![1024]⟩
abbrev S1024x9240 : Shape := ⟨2, ![1024, 9240]⟩
abbrev S4 : Shape := ⟨1, ![4]⟩
abbrev S16 : Shape := ⟨1, ![16]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x9240 : Shape := ⟨3, ![16, 2048, 9240]⟩
abbrev S16x2048x4096 : Shape := ⟨3, ![16, 2048, 4096]⟩
abbrev S16x2048x4 : Shape := ⟨3, ![16, 2048, 4]⟩
abbrev S16x2048x3072 : Shape := ⟨3, ![16, 2048, 3072]⟩
abbrev S16x2048x16 : Shape := ⟨3, ![16, 2048, 16]⟩
abbrev S16x2048x2048 : Shape := ⟨3, ![16, 2048, 2048]⟩
abbrev S1x1x4 : Shape := ⟨3, ![1, 1, 4]⟩
abbrev S16x2048x104 : Shape := ⟨3, ![16, 2048, 104]⟩
abbrev S1x1x16 : Shape := ⟨3, ![1, 1, 16]⟩
abbrev S16x2048x124 : Shape := ⟨3, ![16, 2048, 124]⟩
abbrev S16x2048x6144 : Shape := ⟨3, ![16, 2048, 6144]⟩
abbrev S32768x6144 : Shape := ⟨2, ![32768, 6144]⟩
abbrev S32768x12x256 : Shape := ⟨3, ![32768, 12, 256]⟩
abbrev S12x32768x256 : Shape := ⟨3, ![12, 32768, 256]⟩
abbrev S16x2048x128 : Shape := ⟨3, ![16, 2048, 128]⟩
abbrev S32768x128 : Shape := ⟨2, ![32768, 128]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x9240, .f32⟩
  | .hbm, ⟨4, _⟩ => ⟨S4, .f32⟩
  | .hbm, ⟨5, _⟩ => ⟨S4, .f32⟩
  | .hbm, ⟨6, _⟩ => ⟨S16, .f32⟩
  | .hbm, ⟨7, _⟩ => ⟨S16x1024, .f32⟩
  | .hbm, ⟨8, _⟩ => ⟨S16x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x2048x1024, .f32⟩
  | .hbm, ⟨30, _⟩ => ⟨S16x2048x1024, .f32⟩
  | .hbm, ⟨31, _⟩ => ⟨S16x1x1024, .f32⟩
  | .hbm, ⟨32, _⟩ => ⟨S16x2048x1024, .f32⟩
  | .hbm, ⟨33, _⟩ => ⟨S16x2048x1024, .f32⟩
  | .hbm, ⟨34, _⟩ => ⟨S16x2048x9240, .f32⟩
  | .hbm, ⟨35, _⟩ => ⟨S16x2048x4096, .f32⟩
  | .hbm, ⟨36, _⟩ => ⟨S16x2048x4, .f32⟩
  | .hbm, ⟨37, _⟩ => ⟨S16x2048x4, .f32⟩
  | .hbm, ⟨38, _⟩ => ⟨S16x2048x3072, .f32⟩
  | .hbm, ⟨39, _⟩ => ⟨S16x2048x16, .f32⟩
  | .hbm, ⟨40, _⟩ => ⟨S16x2048x2048, .f32⟩
  | .hbm, ⟨41, _⟩ => ⟨S1x1x4, .f32⟩
  | .hbm, ⟨42, _⟩ => ⟨S16x2048x4, .f32⟩
  | .hbm, ⟨43, _⟩ => ⟨S16x2048x4, .f32⟩
  | .hbm, ⟨44, _⟩ => ⟨S_, .f32⟩
  | .hbm, ⟨45, _⟩ => ⟨S16x2048x104, .f32⟩
  | .hbm, ⟨46, _⟩ => ⟨S1x1x4, .f32⟩
  | .hbm, ⟨47, _⟩ => ⟨S16x2048x4, .f32⟩
  | .hbm, ⟨48, _⟩ => ⟨S16x2048x4, .f32⟩
  | .hbm, ⟨49, _⟩ => ⟨S1x1x16, .f32⟩
  | .hbm, ⟨50, _⟩ => ⟨S16x2048x16, .f32⟩
  | .hbm, ⟨51, _⟩ => ⟨S16x2048x16, .f32⟩
  | .hbm, ⟨52, _⟩ => ⟨S16x2048x124, .f32⟩
  | .hbm, ⟨53, _⟩ => ⟨S16x2048x124, .f32⟩
  | .hbm, ⟨54, _⟩ => ⟨S_, .f32⟩
  | .hbm, ⟨55, _⟩ => ⟨S16x2048x124, .f32⟩
  | .hbm, ⟨56, _⟩ => ⟨S16x2048x124, .f32⟩
  | .hbm, ⟨57, _⟩ => ⟨S16x2048x124, .f32⟩
  | .hbm, ⟨58, _⟩ => ⟨S16x2048x124, .f32⟩
  | .hbm, ⟨59, _⟩ => ⟨S16x2048x124, .i1⟩
  | .hbm, ⟨60, _⟩ => ⟨S16x2048x124, .f32⟩
  | .hbm, ⟨61, _⟩ => ⟨S16x2048x124, .f32⟩
  | .hbm, ⟨62, _⟩ => ⟨S16x2048x124, .f32⟩
  | .hbm, ⟨63, _⟩ => ⟨S16x2048x124, .f32⟩
  | .hbm, ⟨64, _⟩ => ⟨S16x2048x124, .f32⟩
  | .hbm, ⟨65, _⟩ => ⟨S16x2048x124, .f32⟩
  | .hbm, ⟨66, _⟩ => ⟨S16x2048x124, .f32⟩
  | .hbm, ⟨67, _⟩ => ⟨S16x2048x124, .f32⟩
  | .hbm, ⟨68, _⟩ => ⟨S16x2048x124, .f32⟩
  | .hbm, ⟨69, _⟩ => ⟨S16x2048x6144, .f32⟩
  | .hbm, ⟨70, _⟩ => ⟨S16x2048x6144, .bf16⟩
  | .hbm, ⟨71, _⟩ => ⟨S32768x6144, .bf16⟩
  | .hbm, ⟨72, _⟩ => ⟨S16x2048x3072, .bf16⟩
  | .hbm, ⟨73, _⟩ => ⟨S32768x12x256, .bf16⟩
  | .hbm, ⟨74, _⟩ => ⟨S12x32768x256, .bf16⟩
  | .hbm, ⟨75, _⟩ => ⟨S16x2048x128, .f32⟩
  | .hbm, ⟨76, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Ada.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.RefRun.lean ====
/-
  The reference's run, stated over the trips of its scan: at a valuation that holds a state, the set-up values and the trip's
  number, one trip's values are those of the step function, so the run ends with the state that the step function leaves after
  32 trips. Every intermediate value that a trip uses more than once has a lemma of its own.
-/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

variable (V0 : Valuation τ sig (Elt F)) (s : State F) (j : ℕ)

/-- The valuation holds the carried values, the chunk arrays, the mask and the trip's number. -/
structure Holds : Prop where
  f_7 : V0 (Proc.devRef .tc main_v29_7) = s.main_v29_7
  f_8 : V0 (Proc.devRef .tc main_v29_8) = s.main_v29_8
  f_9 : V0 (Proc.devRef .tc main_v29_9) = s.main_v29_9
  f_10 : V0 (Proc.devRef .tc main_v29_10) = s.main_v29_10
  f_0 : V0 (Proc.devRef .tc main_v29_0) = s.main_v29_0
  f_1 : V0 (Proc.devRef .tc main_v29_1) = s.main_v29_1
  f_2 : V0 (Proc.devRef .tc main_v29_2) = s.main_v29_2
  f_3 : V0 (Proc.devRef .tc main_v29_3) = s.main_v29_3
  f_4 : V0 (Proc.devRef .tc main_v29_4) = s.main_v29_4
  n_6 : V0 (Proc.devRef .tc main_v29_6) = constantI S_ 32 (BitVec.ofNat 32 j)
  k_5 : V0 (Proc.devRef .tc main_v29_5) = K_main_v24 (F := F)

variable {V0 s j}

set_option maxRecDepth 8192

theorem r48 (h : Holds V0 s j) : res_main_while0b_v48 V0 = b5 j s := by
  unfold res_main_while0b_v48
  rw [h.f_0, h.n_6]
  rfl

theorem r49 (h : Holds V0 s j) : res_main_while0b_v49 V0 = b11 j s := by
  unfold res_main_while0b_v49
  rw [h.f_1, h.n_6]
  rfl

theorem r50 (h : Holds V0 s j) : res_main_while0b_v50 V0 = b17 j s := by
  unfold res_main_while0b_v50
  rw [h.f_2, h.n_6]
  rfl

theorem r51 (h : Holds V0 s j) : res_main_while0b_v51 V0 = b22 j s := by
  unfold res_main_while0b_v51
  rw [h.f_3, h.n_6]
  rfl

theorem r53 (h : Holds V0 s j) : res_main_while0b_v53 V0 = b30 j s := by
  unfold res_main_while0b_v53
  rw [h.f_4, h.n_6]
  rfl

theorem r62 (h : Holds V0 s j) : res_main_while0b_v62 V0 = b43 j s := by
  unfold res_main_while0b_v62
  rw [h.k_5, r53 h, r51 h]
  rfl

theorem r65 (h : Holds V0 s j) : res_main_while0b_v65 V0 = b46 j s := by
  unfold res_main_while0b_v65
  rw [r53 h, h.f_9]
  rfl

theorem r67 (h : Holds V0 s j) : res_main_while0b_v67 V0 = b49 j s := by
  unfold res_main_while0b_v67
  rw [r65 h, r62 h]
  rfl

theorem r73 (h : Holds V0 s j) : res_main_while0b_v73 V0 = b55 j s := by
  unfold res_main_while0b_v73
  rw [r65 h, r67 h]
  rfl

theorem r75 (h : Holds V0 s j) : res_main_while0b_v75 V0 = b57 j s := by
  unfold res_main_while0b_v75
  rw [r48 h, r49 h, r62 h, r67 h]
  rfl

theorem r94 (h : Holds V0 s j) : res_main_while0b_v94 V0 = b77 j s := by
  unfold res_main_while0b_v94
  rw [r53 h]
  rfl

theorem r98 (h : Holds V0 s j) : res_main_while0b_v98 V0 = b81 j s := by
  unfold res_main_while0b_v98
  rw [r94 h, r53 h, r51 h]
  rfl

theorem r101 (h : Holds V0 s j) : res_main_while0b_v101 V0 = b85 j s := by
  unfold res_main_while0b_v101
  rw [r94 h, h.f_9, r98 h]
  rfl

theorem r105 (h : Holds V0 s j) : res_main_while0b_v105 V0 = b89 j s := by
  unfold res_main_while0b_v105
  rw [r98 h, r101 h]
  rfl

theorem r108 (h : Holds V0 s j) : res_main_while0b_v108 V0 = b92 j s := by
  unfold res_main_while0b_v108
  rw [r94 h, h.f_9, r101 h]
  rfl

theorem step_7 (h : Holds V0 s j) : Value.step_main_v29_7 V0 = (step j s).main_v29_7 := by
  unfold Value.step_main_v29_7
  rw [r108 h, r105 h, r49 h, r50 h, h.f_7]
  rfl

theorem step_8 (h : Holds V0 s j) : Value.step_main_v29_8 V0 = (step j s).main_v29_8 := by
  unfold Value.step_main_v29_8
  rw [r108 h, r105 h, r49 h, h.f_8]
  rfl

theorem step_9 (h : Holds V0 s j) : Value.step_main_v29_9 V0 = (step j s).main_v29_9 := by
  unfold Value.step_main_v29_9
  rw [r101 h]
  rfl

theorem step_10 (h : Holds V0 s j) : Value.step_main_v29_10 V0 = (step j s).main_v29_10 := by
  unfold Value.step_main_v29_10
  rw [r75 h, r50 h, r73 h, r48 h, r67 h, h.f_7, h.f_8, h.f_10, h.n_6]
  rfl

theorem step_6 (h : Holds V0 s j) : Value.step_main_v29_6 V0 = constantI S_ 32 (BitVec.ofNat 32 (j + 1)) := by
  unfold Value.step_main_v29_6
  rw [h.n_6]
  funext i
  show BitVec.ofNat 32 j + 1#32 = BitVec.ofNat 32 (j + 1)
  simp only [BitVec.ofNat_add]

/-- The result is made of the last state. -/
theorem out_holds (h : Holds V0 s j) {w : (⟨S1x1024, .f32⟩ : BufTy).Contents (Elt F)} (hw : V0 (Proc.devRef .tc main_arg2) = w) :
    out_main_v47 V0 = R_main_v47 s w := by
  unfold out_main_v47 R_main_v47
  rw [h.f_10, hw]
  rfl

/-- One trip goes on by the step function. -/
theorem holds_step (h : Holds V0 s j) : Holds (STEP V0) (step j s) (j + 1) where
  f_7 := (STEP_main_v29_7 V0).trans (step_7 h)
  f_8 := (STEP_main_v29_8 V0).trans (step_8 h)
  f_9 := (STEP_main_v29_9 V0).trans (step_9 h)
  f_10 := (STEP_main_v29_10 V0).trans (step_10 h)
  n_6 := (STEP_main_v29_6 V0).trans (step_6 h)
  k_5 := (STEP_main_v29_5 V0).trans h.k_5
  f_0 := (STEP_main_v29_0 V0).trans h.f_0
  f_1 := (STEP_main_v29_1 V0).trans h.f_1
  f_2 := (STEP_main_v29_2 V0).trans h.f_2
  f_3 := (STEP_main_v29_3 V0).trans h.f_3
  f_4 := (STEP_main_v29_4 V0).trans h.f_4

/-- The first trip's state, of the memory that the run starts from. -/
abbrev first (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 500000 in
/-- What is computed before the first trip. -/
theorem entry_holds : Holds (entryContents preI m c) (first m c) 0 := by
  constructor <;> (simp only [entryContents, afterL_cons, afterL_nil]; after_reads_simp) <;> rfl

/-- Before trip `k` the valuation holds the `k`-th state. -/
theorem holds_iter (it : ℕ → State F) (h0 : it 0 = first m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The reference terminates with its result made of the state after 32 trips, its arguments unchanged. -/
theorem run (m : (ℓ : Loc nD τ sig) → Buf (Elt F) ℓ) (ρ : Dev nD → PrngReg) (it : Dev nD → ℕ → State F)
    (h0 : ∀ c, it c 0 = first m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v47) = R_main_v47 (it c 32) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 32
    ⟨(h c).1.trans (out_holds hk (iter_main_arg2 m c 32)), (h c).2.1, (h c).2.2.1, (h c).2.2.2⟩) (Value.run m ρ)

end Cert.ReferenceIdeal.Trips
-- ==== Proof.Stream.lean ====
/-
  One stream of the kernel's body — one batch row and one head over one chunk of 256 positions — as functions of the
  blocks it reads: the row's gates, its head's queries, keys and values, the carried memory and the carried running maximum.
  The body treats its sixteen streams alike, so the sixteen payloads of each kind are these functions at the
  head's number.
-/
module

public import proofs.«01_k».proof.Proof.Gen.KernelIdeal.Value

@[expose] public section

noncomputable section

namespace Cert.KernelIdeal.Stream

open Idealize.ShloMosaic Cert.KernelIdeal Cert.KernelIdeal.Gen

variable {F : FTy → Type} [FloatOps F]

/-- Column `h` of a row's gates is inside the block. -/
theorem slCol (h : ℕ) (hh : h < 128) : S256x128.Slices ![0, h] S256x1 :=
  ⟨rfl, fun a => by match a with | ⟨0, _⟩ => simp [S256x128, S256x1] | ⟨1, _⟩ => simp [S256x128, S256x1]; omega⟩
/-- Row `h` of the first eight transposed gate rows is inside the block. -/
theorem slRow (h : ℕ) (hh : h < 8) : S8x256.Slices ![h, 0] S1x256 :=
  ⟨rfl, fun a => by match a with | ⟨0, _⟩ => simp [S8x256, S1x256]; omega | ⟨1, _⟩ => simp [S8x256, S1x256]⟩

variable (h : ℕ) (hh : h < 4)
  (q k v : FVec F S1x256x256 .bf16) (g : FVec F S1x256x128 .f32) (ct : FVec F S1x272x256 .f32) (mm : FVec F S1x8x128 .f32)
  (w : FVec F S1x256 .f32)

/-- The gates' running sums along the chunk, one row per gate. -/
def bRows : FVec F S8x256 .f32 := k0_pay17 (F := F) k0_pay6 (k0_pay14 g) (k0_pay15 g) (k0_pay16 g)
/-- The input gate of head `h`, as a row. -/
def iRow : FVec F S1x256 .f32 := extractStridedSlice S1x256 ![h, 0] (k0_pay10 g) (slRow h (by omega))
/-- The running sum of the log forget gate of head `h`, as a row. -/
def bRow : FVec F S1x256 .f32 := extractStridedSlice S1x256 ![4 + h, 0] (bRows g) (slRow (4 + h) (by omega))
/-- Input gate less running sum of the log forget gate, as a column. -/
def aCol : FVec F S256x1 .f32 :=
  subf (extractStridedSlice S256x1 ![0, h] (k0_pay8 g) (slCol h (by omega)))
    (extractStridedSlice S256x1 ![0, 4 + h] (k0_pay9 g) (slCol (4 + h) (by omega)))
/-- The carried running maximum. -/
def mPrev : FVec F S1x1 .f32 :=
  extractStridedSlice S1x1 ![0, 0] (shapeCast S8x128 mm shapeCasts_S1x8x128_S8x128) slices_S8x128_o0_0_S1x1
/-- The log weight of source (row) for query (column), minus infinity at a source after its query. -/
def logIntra : FVec F S256x256 .f32 :=
  select k0_pay4
    (addf (broadcastTo S256x256 (bRow h hh g) broadcasts_S1x256_S256x256) (broadcastTo S256x256 (aCol h hh g) broadcasts_S256x1_S256x256))
    (broadcast S256x256 (Scalar.ofBits .f32 0xFF800000#32))
/-- The log weight of the carried memory for each query. -/
def logInter : FVec F S1x256 .f32 := addf (bRow h hh g) (broadcastTo S1x256 (mPrev mm) broadcasts_S1x1_S1x256)
/-- The running maximum at each query. -/
def mT : FVec F S1x256 .f32 :=
  maximumf (logInter h hh g mm)
    (shapeCast S1x256 (multiReduction .maximumf [0] S256 (logIntra h hh g) 0xFF800000#32 reduces_S256x256_S256 (.inl rfl) rfl)
      shapeCasts_S256_S1x256)
/-- The weights of the chunk's sources. -/
def dIntra : FVec F S256x256 .f32 :=
  exp (subf (logIntra h hh g) (broadcastTo S256x256 (mT h hh g mm) broadcasts_S1x256_S256x256))
/-- The weight of the carried memory. -/
def dInter : FVec F S1x256 .f32 := exp (subf (logInter h hh g mm) (mT h hh g mm))
/-- The log forget gate summed over the chunk. -/
def bLast : FVec F S1x1 .f32 := extractStridedSlice S1x1 ![0, 255] (bRow h hh g) slices_S1x256_o0_255_S1x1
/-- The log weight of each source in the memory after the chunk. -/
def logW : FVec F S1x256 .f32 :=
  addf (subf (broadcastTo S1x256 (bLast h hh g) broadcasts_S1x1_S1x256) (bRow h hh g)) (iRow h hh g)
/-- The running maximum after the chunk. -/
def mNew : FVec F S1x1 .f32 :=
  maximumf (addf (bLast h hh g) (mPrev mm))
    (shapeCast S1x1 (multiReduction .maximumf [1] S1 (logW h hh g) 0xFF800000#32 reduces_S1x256_S1 (.inl rfl) rfl) shapeCasts_S1_S1x1)
/-- The running maximum as the body stores it: one value over its whole block. -/
def mOut : FVec F S1x8x128 .f32 :=
  shapeCast S1x8x128 (broadcastTo S8x128 (shapeCast S1x1 (mNew h hh g mm) shapeCasts_S1x1_S1x1) broadcasts_S1x1_S8x128)
    shapeCasts_S8x128_S1x8x128
/-- The values transposed, with the row of ones (and fifteen of zeros) below them. -/
def vT : FVec F S272x256 .bf16 := k0_pay53 k0_pay7 v
/-- The memory after the chunk. -/
def ctOut : FVec F S1x272x256 .f32 :=
  shapeCast S1x272x256
    (addf
      (mulf (broadcastTo S272x256 (exp (subf (addf (bLast h hh g) (mPrev mm)) (mNew h hh g mm))) broadcasts_S1x1_S272x256)
        (shapeCast S272x256 ct shapeCasts_S1x272x256_S272x256))
      (matmul dot_S272x256_S256x256_S272x256_1_0_0_1_n_n none
        (mulf (vT v)
          (broadcastTo S272x256
            (truncf .bf16 (exp (subf (logW h hh g) (broadcastTo S1x256 (mNew h hh g mm) broadcasts_S1x1_S1x256))) bitsLt_bf16_f32)
            broadcasts_S1x256_S272x256))
        (shapeCast S256x256 k shapeCasts_S1x256x256_S256x256) (constant S272x256 .f32 0x00000000#32)))
    shapeCasts_S272x256_S1x272x256
/-- The scaled queries. -/
def qS : FVec F S256x256 .bf16 := k0_pay37 q
/-- The weighted scores, source by query. -/
def pT : FVec F S256x256 .bf16 :=
  truncf .bf16
    (mulf (matmul dot_S256x256_S256x256_S256x256_1_1_0_0_n_n none (shapeCast S256x256 k shapeCasts_S1x256x256_S256x256) (qS q)
        (constant S256x256 .f32 0x00000000#32))
      (dIntra h hh g mm)) bitsLt_bf16_f32
/-- Numerators (rows 0 to 255) and denominator (row 256) of every query. -/
def tot : FVec F S272x256 .f32 :=
  addf (matmul dot_S272x256_S256x256_S272x256_1_0_0_1_n_n none (vT v) (pT h hh q k g mm) (constant S272x256 .f32 0x00000000#32))
    (mulf (broadcastTo S272x256 (dInter h hh g mm) broadcasts_S1x256_S272x256)
      (matmul dot_S272x256_S256x256_S272x256_1_1_0_0_n_n none
        (truncf .bf16 (shapeCast S272x256 ct shapeCasts_S1x272x256_S272x256) bitsLt_bf16_f32) (qS q)
        (constant S272x256 .f32 0x00000000#32)))
/-- The normalised read-out, feature by query. -/
def hT : FVec F S256x256 .f32 :=
  mulf (extractStridedSlice S256x256 ![0, 0] (tot h hh q k v g ct mm) slices_S272x256_o0_0_S256x256)
    (broadcastTo S256x256
      (divf (broadcast S1x256 (Scalar.ofBits .f32 0x3F800000#32))
        (maximumf (absf (extractStridedSlice S1x256 ![256, 0] (tot h hh q k v g ct mm) slices_S272x256_o256_0_S1x256))
          (exp (subf (broadcast S1x256 (Scalar.ofBits .f32 0x00000000#32)) (mT h hh g mm)))))
      broadcasts_S1x256_S256x256)
/-- The root-mean-square normalisation over the features, times the weights, query by feature. -/
def rmsOut (x : FVec F S256x256 .f32) : FVec F S1x256x256 .bf16 :=
  shapeCast S1x256x256
    (truncf .bf16
      (mulf
        (transpose S256x256 [1, 0]
          (mulf x
            (broadcastTo S256x256
              (rsqrt (addf
                (divf (shapeCast S1x256 (multiReduction .add [0] S256 (mulf x x) 0x00000000#32 reduces_S256x256_S256 (.inl rfl) rfl)
                    shapeCasts_S256_S1x256)
                  (broadcast S1x256 (Scalar.ofBits .f32 0x43800000#32)))
                (broadcast S1x256 (Scalar.ofBits .f32 0x358637BD#32))))
              broadcasts_S1x256_S256x256)) transposes_S256x256_p1_0_S256x256)
        (broadcastTo S256x256 w broadcasts_S1x256_S256x256)) bitsLt_bf16_f32) shapeCasts_S256x256_S1x256x256
/-- What the body stores for this stream. -/
def outB : FVec F S1x256x256 .bf16 := rmsOut w (hT h hh q k v g ct mm)

end Cert.KernelIdeal.Stream
-- ==== Proof.PiecesB.lean ====
/-
  What one grid point of the kernel leaves in its three buffers, as lists of stores: sixteen streams, last first, each
  store the stream's function (Stream.lean) of the loads the body makes.
-/
module

public import proofs.«01_k».proof.Proof.Stream
public import Idealize.ShloMosaic.Lib.Pipeline.Value

@[expose] public section

set_option maxRecDepth 16384

noncomputable section

namespace Cert.KernelIdeal.Stream

open Idealize.ShloMosaic Idealize.ShloMosaic.TcCoe Idealize.ShloMosaic.Tactic Cert.KernelIdeal Cert.KernelIdeal.Gen

variable {F : FTy → Type} [FloatOps F]

theorem inbBlk (r h : ℕ) (hr : r < 4) (hh : h < 4) : ∀ a, (![r, 0, 256 * h] : Fin 3 → ℕ) a + (![1, 256, 256] : Fin 3 → ℕ) a ≤ S4x256x1024.size a :=
  fun a => by match a with | ⟨0, _⟩ => simp [S4x256x1024]; omega | ⟨1, _⟩ => simp [S4x256x1024] | ⟨2, _⟩ => simp [S4x256x1024]; omega
theorem inbGate (r : ℕ) (hr : r < 4) : ∀ a, (![r, 0, 0] : Fin 3 → ℕ) a + (![1, 256, 128] : Fin 3 → ℕ) a ≤ S4x256x128.size a :=
  fun a => by match a with | ⟨0, _⟩ => simp [S4x256x128]; omega | ⟨1, _⟩ => simp [S4x256x128] | ⟨2, _⟩ => simp [S4x256x128]
theorem inbW (h : ℕ) (hh : h < 4) : ∀ a, (![0, 256 * h] : Fin 2 → ℕ) a + (![1, 256] : Fin 2 → ℕ) a ≤ S1x1024.size a :=
  fun a => by match a with | ⟨0, _⟩ => simp [S1x1024] | ⟨1, _⟩ => simp [S1x1024]; omega
theorem inbCt (s : ℕ) (hs : s < 16) : ∀ a, (![s, 0, 0] : Fin 3 → ℕ) a + (![1, 272, 256] : Fin 3 → ℕ) a ≤ S16x272x256.size a :=
  fun a => by match a with | ⟨0, _⟩ => simp [S16x272x256]; omega | ⟨1, _⟩ => simp [S16x272x256] | ⟨2, _⟩ => simp [S16x272x256]
theorem inbM (s : ℕ) (hs : s < 16) : ∀ a, (![s, 0, 0] : Fin 3 → ℕ) a + (![1, 8, 128] : Fin 3 → ℕ) a ≤ S16x8x128.size a :=
  fun a => by match a with | ⟨0, _⟩ => simp [S16x8x128]; omega | ⟨1, _⟩ => simp [S16x8x128] | ⟨2, _⟩ => simp [S16x8x128]

/-- The rectangle of row `r`, head `h` in a block of queries, keys, values or results. -/
abbrev blkR (r h : ℕ) (hr : r < 4) (hh : h < 4) : Rect S4x256x1024 := Rect.unit ![r, 0, 256 * h] ![1, 256, 256] (inbBlk r h hr hh)
/-- The rectangle of row `r` in a block of gates. -/
abbrev gateR (r : ℕ) (hr : r < 4) : Rect S4x256x128 := Rect.unit ![r, 0, 0] ![1, 256, 128] (inbGate r hr)
/-- The rectangle of head `h` in the norm weights. -/
abbrev wR (h : ℕ) (hh : h < 4) : Rect S1x1024 := Rect.unit ![0, 256 * h] ![1, 256] (inbW h hh)
/-- The rectangle of stream `s` in the carried memories. -/
abbrev ctR (s : ℕ) (hs : s < 16) : Rect S16x272x256 := Rect.unit ![s, 0, 0] ![1, 272, 256] (inbCt s hs)
/-- The rectangle of stream `s` in the carried running maxima. -/
abbrev mR (s : ℕ) (hs : s < 16) : Rect S16x8x128 := Rect.unit ![s, 0, 0] ![1, 8, 128] (inbM s hs)

section
variable (x0 x1 x2 : Vec F S4x256x1024 .bf16) (x3 : Vec F S4x256x128 .f32) (x4 : Vec F S1x1024 .f32)
  (xs0 : Vec F S16x272x256 .f32) (xs1 : Vec F S16x8x128 .f32)

section
variable (r h : ℕ) (hr : r < 4) (hh : h < 4)

/-- The result of row `r`, head `h`, from the point's blocks. -/
def pOut : (blkR r h hr hh).shape.Idx → Elt F .bf16 :=
  outB h hh (View.ld x0 (blkR r h hr hh)) (View.ld x1 (blkR r h hr hh)) (View.ld x2 (blkR r h hr hh)) (View.ld x3 (gateR r hr))
    (View.ld xs0 (ctR (4 * r + h) (by omega))) (View.ld xs1 (mR (4 * r + h) (by omega))) (View.ld x4 (wR h hh))
/-- The memory of row `r`, head `h` after the point. -/
def pCt : (ctR (4 * r + h) (by omega)).shape.Idx → Elt F .f32 :=
  ctOut h hh (View.ld x1 (blkR r h hr hh)) (View.ld x2 (blkR r h hr hh)) (View.ld x3 (gateR r hr))
    (View.ld xs0 (ctR (4 * r + h) (by omega))) (View.ld xs1 (mR (4 * r + h) (by omega)))
/-- The running maximum of row `r`, head `h` after the point. -/
def pM : (mR (4 * r + h) (by omega)).shape.Idx → Elt F .f32 :=
  mOut h hh (View.ld x3 (gateR r hr)) (View.ld xs1 (mR (4 * r + h) (by omega)))

end

/-- The stores to the result block, last first. -/
def LOut : List (View.Piece (Elt F) S4x256x1024 .bf16) :=
  [⟨blkR 3 3 (by omega) (by omega), pOut x0 x1 x2 x3 x4 xs0 xs1 3 3 (by omega) (by omega)⟩,
   ⟨blkR 3 2 (by omega) (by omega), pOut x0 x1 x2 x3 x4 xs0 xs1 3 2 (by omega) (by omega)⟩,
   ⟨blkR 3 1 (by omega) (by omega), pOut x0 x1 x2 x3 x4 xs0 xs1 3 1 (by omega) (by omega)⟩,
   ⟨blkR 3 0 (by omega) (by omega), pOut x0 x1 x2 x3 x4 xs0 xs1 3 0 (by omega) (by omega)⟩,
   ⟨blkR 2 3 (by omega) (by omega), pOut x0 x1 x2 x3 x4 xs0 xs1 2 3 (by omega) (by omega)⟩,
   ⟨blkR 2 2 (by omega) (by omega), pOut x0 x1 x2 x3 x4 xs0 xs1 2 2 (by omega) (by omega)⟩,
   ⟨blkR 2 1 (by omega) (by omega), pOut x0 x1 x2 x3 x4 xs0 xs1 2 1 (by omega) (by omega)⟩,
   ⟨blkR 2 0 (by omega) (by omega), pOut x0 x1 x2 x3 x4 xs0 xs1 2 0 (by omega) (by omega)⟩,
   ⟨blkR 1 3 (by omega) (by omega), pOut x0 x1 x2 x3 x4 xs0 xs1 1 3 (by omega) (by omega)⟩,
   ⟨blkR 1 2 (by omega) (by omega), pOut x0 x1 x2 x3 x4 xs0 xs1 1 2 (by omega) (by omega)⟩,
   ⟨blkR 1 1 (by omega) (by omega), pOut x0 x1 x2 x3 x4 xs0 xs1 1 1 (by omega) (by omega)⟩,
   ⟨blkR 1 0 (by omega) (by omega), pOut x0 x1 x2 x3 x4 xs0 xs1 1 0 (by omega) (by omega)⟩,
   ⟨blkR 0 3 (by omega) (by omega), pOut x0 x1 x2 x3 x4 xs0 xs1 0 3 (by omega) (by omega)⟩,
   ⟨blkR 0 2 (by omega) (by omega), pOut x0 x1 x2 x3 x4 xs0 xs1 0 2 (by omega) (by omega)⟩,
   ⟨blkR 0 1 (by omega) (by omega), pOut x0 x1 x2 x3 x4 xs0 xs1 0 1 (by omega) (by omega)⟩,
   ⟨blkR 0 0 (by omega) (by omega), pOut x0 x1 x2 x3 x4 xs0 xs1 0 0 (by omega) (by omega)⟩]
/-- The stores to the carried memories, last first. -/
def LCt : List (View.Piece (Elt F) S16x272x256 .f32) :=
  [⟨ctR 15 (by omega), pCt x1 x2 x3 xs0 xs1 3 3 (by omega) (by omega)⟩,
   ⟨ctR 14 (by omega), pCt x1 x2 x3 xs0 xs1 3 2 (by omega) (by omega)⟩,
   ⟨ctR 13 (by omega), pCt x1 x2 x3 xs0 xs1 3 1 (by omega) (by omega)⟩,
   ⟨ctR 12 (by omega), pCt x1 x2 x3 xs0 xs1 3 0 (by omega) (by omega)⟩,
   ⟨ctR 11 (by omega), pCt x1 x2 x3 xs0 xs1 2 3 (by omega) (by omega)⟩,
   ⟨ctR 10 (by omega), pCt x1 x2 x3 xs0 xs1 2 2 (by omega) (by omega)⟩,
   ⟨ctR 9 (by omega), pCt x1 x2 x3 xs0 xs1 2 1 (by omega) (by omega)⟩,
   ⟨ctR 8 (by omega), pCt x1 x2 x3 xs0 xs1 2 0 (by omega) (by omega)⟩,
   ⟨ctR 7 (by omega), pCt x1 x2 x3 xs0 xs1 1 3 (by omega) (by omega)⟩,
   ⟨ctR 6 (by omega), pCt x1 x2 x3 xs0 xs1 1 2 (by omega) (by omega)⟩,
   ⟨ctR 5 (by omega), pCt x1 x2 x3 xs0 xs1 1 1 (by omega) (by omega)⟩,
   ⟨ctR 4 (by omega), pCt x1 x2 x3 xs0 xs1 1 0 (by omega) (by omega)⟩,
   ⟨ctR 3 (by omega), pCt x1 x2 x3 xs0 xs1 0 3 (by omega) (by omega)⟩,
   ⟨ctR 2 (by omega), pCt x1 x2 x3 xs0 xs1 0 2 (by omega) (by omega)⟩,
   ⟨ctR 1 (by omega), pCt x1 x2 x3 xs0 xs1 0 1 (by omega) (by omega)⟩,
   ⟨ctR 0 (by omega), pCt x1 x2 x3 xs0 xs1 0 0 (by omega) (by omega)⟩]
/-- The stores to the carried running maxima, last first. -/
def LM : List (View.Piece (Elt F) S16x8x128 .f32) :=
  [⟨mR 15 (by omega), pM x3 xs1 3 3 (by omega) (by omega)⟩,
   ⟨mR 14 (by omega), pM x3 xs1 3 2 (by omega) (by omega)⟩,
   ⟨mR 13 (by omega), pM x3 xs1 3 1 (by omega) (by omega)⟩,
   ⟨mR 12 (by omega), pM x3 xs1 3 0 (by omega) (by omega)⟩,
   ⟨mR 11 (by omega), pM x3 xs1 2 3 (by omega) (by omega)⟩,
   ⟨mR 10 (by omega), pM x3 xs1 2 2 (by omega) (by omega)⟩,
   ⟨mR 9 (by omega), pM x3 xs1 2 1 (by omega) (by omega)⟩,
   ⟨mR 8 (by omega), pM x3 xs1 2 0 (by omega) (by omega)⟩,
   ⟨mR 7 (by omega), pM x3 xs1 1 3 (by omega) (by omega)⟩,
   ⟨mR 6 (by omega), pM x3 xs1 1 2 (by omega) (by omega)⟩,
   ⟨mR 5 (by omega), pM x3 xs1 1 1 (by omega) (by omega)⟩,
   ⟨mR 4 (by omega), pM x3 xs1 1 0 (by omega) (by omega)⟩,
   ⟨mR 3 (by omega), pM x3 xs1 0 3 (by omega) (by omega)⟩,
   ⟨mR 2 (by omega), pM x3 xs1 0 2 (by omega) (by omega)⟩,
   ⟨mR 1 (by omega), pM x3 xs1 0 1 (by omega) (by omega)⟩,
   ⟨mR 0 (by omega), pM x3 xs1 0 0 (by omega) (by omega)⟩]
end

/-- At a point that continues its batch group's chunks, the three lists of stores. -/
theorem runB_eq (c : Dev nD) (i : grid0.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x128 .f32) (harg5 : arg5.IsWhole) (arg6 : Memref sig .tc .vmem S1x1024 .f32) (harg6 : arg6.IsWhole) (arg7 : Memref sig .tc .vmem S4x256x1024 .bf16) (harg7 : arg7.IsWhole) (arg8 : Memref sig .tc .vmem S16x272x256 .f32) (harg8 : arg8.IsWhole) (arg9 : Memref sig .tc .vmem S16x8x128 .f32) (harg9 : arg9.IsWhole) (hc0 : ¬cond0_0 i)
    (x0 : Vec F S4x256x1024 .bf16) (x1 : Vec F S4x256x1024 .bf16) (x2 : Vec F S4x256x1024 .bf16) (x3 : Vec F S4x256x128 .f32) (x4 : Vec F S1x1024 .f32) (xs0 : Vec F S16x272x256 .f32) (xs1 : Vec F S16x8x128 .f32) :
    (kernelRun0_B c i arg2 harg2 arg3 harg3 arg4 harg4 arg5 harg5 arg6 harg6 arg7 harg7 arg8 harg8 arg9 harg9 hc0 x0 x1 x2 x3 x4 xs0 xs1).1 = LOut x0 x1 x2 x3 x4 xs0 xs1
      ∧ (kernelRun0_B c i arg2 harg2 arg3 harg3 arg4 harg4 arg5 harg5 arg6 harg6 arg7 harg7 arg8 harg8 arg9 harg9 hc0 x0 x1 x2 x3 x4 xs0 xs1).2.1 = LCt x1 x2 x3 xs0 xs1
      ∧ (kernelRun0_B c i arg2 harg2 arg3 harg3 arg4 harg4 arg5 harg5 arg6 harg6 arg7 harg7 arg8 harg8 arg9 harg9 hc0 x0 x1 x2 x3 x4 xs0 xs1).2.2.1 = LM x3 xs1 := by
  unfold kernelRun0_B
  dsimp only
  sl_unfold_words
  simp only [View.readAt_eq_ld, harg2.read_unread, harg3.read_unread, harg4.read_unread, harg5.read_unread, harg6.read_unread,
    harg8.read_unread, harg9.read_unread]
  exact ⟨rfl, rfl, rfl⟩

end Cert.KernelIdeal.Stream
-- ==== Proof.PiecesA.lean ====
/-
  What the first grid point of a batch group leaves in its three buffers, as lists of stores.
-/
module

public import proofs.«01_k».proof.Proof.PiecesB

@[expose] public section

set_option maxRecDepth 16384

noncomputable section

namespace Cert.KernelIdeal.Stream

open Idealize.ShloMosaic Idealize.ShloMosaic.TcCoe Idealize.ShloMosaic.Tactic Cert.KernelIdeal Cert.KernelIdeal.Gen

variable {F : FTy → Type} [FloatOps F]

/-- A load of one stream's part after the zero fill of the whole buffer and stores of other streams' parts reads zeros:
    first, a store of another stream's part is passed over. -/
theorem readCov_skip {sig : RefSig} {κ : Kind} {sp : Space} (v : View sig κ sp S16x8x128 .f32) (a b : ℕ) (sz : Fin 3 → ℕ)
    (hab : a ≠ b) (hsz : sz 0 = 1)
    (ha : ∀ x, (![a, 0, 0] : Fin 3 → ℕ) x + (![1, 8, 128] : Fin 3 → ℕ) x ≤ S16x8x128.size x)
    (hb : ∀ x, (![b, 0, 0] : Fin 3 → ℕ) x + sz x ≤ S16x8x128.size x)
    (w : (Rect.unit (s := S16x8x128) ![a, 0, 0] ![1, 8, 128] ha).shape.Idx → Elt F .f32) (L : List (View.Piece (Elt F) S16x8x128 .f32)) :
    v.readCov ((⟨Rect.unit (s := S16x8x128) ![a, 0, 0] ![1, 8, 128] ha, w⟩ : View.Piece (Elt F) S16x8x128 .f32) :: L)
        (Rect.unit (s := S16x8x128) ![b, 0, 0] sz hb).toLoadRect
      = v.readCov L (Rect.unit (s := S16x8x128) ![b, 0, 0] sz hb).toLoadRect := by
  rw [View.readCov_eq_canon', View.readCov_eq_canon']
  funext j
  refine View.canon_cons_of_not_mem _ _ fun hm => hab ?_
  have hm' : (Rect.unit (s := S16x8x128) ![b, 0, 0] sz hb).toLoadRect.idx j ∈ (Rect.unit (s := S16x8x128) ![a, 0, 0] ![1, 8, 128] ha).set := hm
  have h0 := (Rect.mem_set_unit.mp hm') 0
  have hj : (j 0).val < sz 0 := (j 0).isLt
  have e : (((Rect.unit (s := S16x8x128) ![b, 0, 0] sz hb).toLoadRect.idx j) 0).val = b + 1 * (j 0).val := rfl
  simp only [e] at h0
  simp at h0
  omega

/-- The same of the carried memories. -/
theorem readCov_skipC {sig : RefSig} {κ : Kind} {sp : Space} (v : View sig κ sp S16x272x256 .f32) (a b : ℕ) (sz : Fin 3 → ℕ)
    (hab : a ≠ b) (hsz : sz 0 = 1)
    (ha : ∀ x, (![a, 0, 0] : Fin 3 → ℕ) x + (![1, 272, 256] : Fin 3 → ℕ) x ≤ S16x272x256.size x)
    (hb : ∀ x, (![b, 0, 0] : Fin 3 → ℕ) x + sz x ≤ S16x272x256.size x)
    (w : (Rect.unit (s := S16x272x256) ![a, 0, 0] ![1, 272, 256] ha).shape.Idx → Elt F .f32) (L : List (View.Piece (Elt F) S16x272x256 .f32)) :
    v.readCov ((⟨Rect.unit (s := S16x272x256) ![a, 0, 0] ![1, 272, 256] ha, w⟩ : View.Piece (Elt F) S16x272x256 .f32) :: L)
        (Rect.unit (s := S16x272x256) ![b, 0, 0] sz hb).toLoadRect
      = v.readCov L (Rect.unit (s := S16x272x256) ![b, 0, 0] sz hb).toLoadRect := by
  rw [View.readCov_eq_canon', View.readCov_eq_canon']
  funext j
  refine View.canon_cons_of_not_mem _ _ fun hm => hab ?_
  have hm' : (Rect.unit (s := S16x272x256) ![b, 0, 0] sz hb).toLoadRect.idx j ∈ (Rect.unit (s := S16x272x256) ![a, 0, 0] ![1, 272, 256] ha).set := hm
  have h0 := (Rect.mem_set_unit.mp hm') 0
  have hj : (j 0).val < sz 0 := (j 0).isLt
  have e : (((Rect.unit (s := S16x272x256) ![b, 0, 0] sz hb).toLoadRect.idx j) 0).val = b + 1 * (j 0).val := rfl
  simp only [e] at h0
  simp at h0
  omega

/-- Then the fill is read. -/
theorem readCov_fillM {sig : RefSig} {κ : Kind} {sp : Space} (v : View sig κ sp S16x8x128 .f32)
    (inb : ∀ a, (![0, 0, 0] : Fin 3 → ℕ) a + (![16, 8, 128] : Fin 3 → ℕ) a ≤ S16x8x128.size a)
    (w : (Rect.unit (s := S16x8x128) ![0, 0, 0] ![16, 8, 128] inb).shape.Idx → Elt F .f32) (R : Rect S16x8x128) :
    v.readCov [(⟨Rect.unit (s := S16x8x128) ![0, 0, 0] ![16, 8, 128] inb, w⟩ : View.Piece (Elt F) S16x8x128 .f32)] R.toLoadRect = View.ld (e' := .f32) (S := S16x8x128) w R := by
  rw [View.readCov_eq_canon']
  funext j
  exact congrFun (View.canon_unit_zero (S := S16x8x128) (by decide : (![0, 0, 0] : Fin 3 → ℕ) = fun _ => 0) inb w) _

/-- Then the fill is read. -/
theorem readCov_fillC {sig : RefSig} {κ : Kind} {sp : Space} (v : View sig κ sp S16x272x256 .f32)
    (inb : ∀ a, (![0, 0, 0] : Fin 3 → ℕ) a + (![16, 272, 256] : Fin 3 → ℕ) a ≤ S16x272x256.size a)
    (w : (Rect.unit (s := S16x272x256) ![0, 0, 0] ![16, 272, 256] inb).shape.Idx → Elt F .f32) (R : Rect S16x272x256) :
    v.readCov [(⟨Rect.unit (s := S16x272x256) ![0, 0, 0] ![16, 272, 256] inb, w⟩ : View.Piece (Elt F) S16x272x256 .f32)] R.toLoadRect = View.ld (e' := .f32) (S := S16x272x256) w R := by
  rw [View.readCov_eq_canon']
  funext j
  exact congrFun (View.canon_unit_zero (S := S16x272x256) (by decide : (![0, 0, 0] : Fin 3 → ℕ) = fun _ => 0) inb w) _

/-- At the first point of a batch group, the three lists of stores: those of a point that continues from zeros, after the
    zero fills. -/
theorem runA_eq (c : Dev nD) (i : grid0.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x128 .f32) (harg5 : arg5.IsWhole) (arg6 : Memref sig .tc .vmem S1x1024 .f32) (harg6 : arg6.IsWhole) (arg7 : Memref sig .tc .vmem S4x256x1024 .bf16) (harg7 : arg7.IsWhole) (arg8 : Memref sig .tc .vmem S16x272x256 .f32) (harg8 : arg8.IsWhole) (arg9 : Memref sig .tc .vmem S16x8x128 .f32) (harg9 : arg9.IsWhole) (hc0 : cond0_0 i)
    (x0 : Vec F S4x256x1024 .bf16) (x1 : Vec F S4x256x1024 .bf16) (x2 : Vec F S4x256x1024 .bf16) (x3 : Vec F S4x256x128 .f32) (x4 : Vec F S1x1024 .f32) :
    (kernelRun0_A c i arg2 harg2 arg3 harg3 arg4 harg4 arg5 harg5 arg6 harg6 arg7 harg7 arg8 harg8 arg9 harg9 hc0 x0 x1 x2 x3 x4).1 = LOut x0 x1 x2 x3 x4 k0_pay2 k0_pay3
      ∧ (kernelRun0_A c i arg2 harg2 arg3 harg3 arg4 harg4 arg5 harg5 arg6 harg6 arg7 harg7 arg8 harg8 arg9 harg9 hc0 x0 x1 x2 x3 x4).2.1
          = LCt x1 x2 x3 k0_pay2 k0_pay3 ++ [⟨Rect.unit ![0, 0, 0] S16x272x256.size inb_S16x272x256_S16x272x256_0_0_0, k0_pay2⟩]
      ∧ (kernelRun0_A c i arg2 harg2 arg3 harg3 arg4 harg4 arg5 harg5 arg6 harg6 arg7 harg7 arg8 harg8 arg9 harg9 hc0 x0 x1 x2 x3 x4).2.2.1
          = LM x3 k0_pay3 ++ [⟨Rect.unit ![0, 0, 0] S16x8x128.size inb_S16x8x128_S16x8x128_0_0_0, k0_pay3⟩] := by
  unfold kernelRun0_A
  dsimp only
  sl_unfold_words
  simp (disch := first | decide | rfl) only [↓ readCov_skip, ↓ readCov_skipC, readCov_fillM, readCov_fillC, View.readAt_eq_ld, harg2.read_unread, harg3.read_unread, harg4.read_unread, harg5.read_unread, harg6.read_unread]
  refine ⟨?_, ?_, ?_⟩
  · rfl
  · rfl
  · rfl

end Cert.KernelIdeal.Stream
-- ==== Proof.Block.lean ====
/-
  What one grid point leaves in its three buffers, index by index: the result block, the carried memories and the carried
  running maxima, each the function of the stream its index names.
-/
module

public import proofs.«01_k».proof.Proof.PiecesA
public import Idealize.ShloMosaic.Lib.Pipeline.CanonAppend
public import Idealize.ShloMosaic.Lib.Pointwise

@[expose] public section

set_option maxRecDepth 16384

noncomputable section

namespace Cert.KernelIdeal.Stream

open Idealize.ShloMosaic Idealize.ShloMosaic.TcCoe Idealize.ShloMosaic.Tactic Cert.KernelIdeal Cert.KernelIdeal.Gen

variable {F : FTy → Type} [FloatOps F]

section
variable (x0 x1 x2 : Vec F S4x256x1024 .bf16) (x3 : Vec F S4x256x128 .f32) (x4 : Vec F S1x1024 .f32)
  (xs0 : Vec F S16x272x256 .f32) (xs1 : Vec F S16x8x128 .f32)

/-- The result block after a point. -/
def GOut : Vec F S4x256x1024 .bf16 := fun y =>
  pOut x0 x1 x2 x3 x4 xs0 xs1 (y 0).val ((y 2).val / 256) (y 0).isLt
    (Nat.div_lt_of_lt_mul (lt_of_lt_of_eq (y 2).isLt rfl)) (ix3 0 (y 1) ⟨(y 2).val % 256, Nat.mod_lt _ (by decide)⟩)
/-- The memories after a point. -/
def GCt : Vec F S16x272x256 .f32 := fun y =>
  pCt x1 x2 x3 xs0 xs1 ((y 0).val / 4) ((y 0).val % 4) (Nat.div_lt_of_lt_mul (lt_of_lt_of_eq (y 0).isLt rfl))
    (Nat.mod_lt _ (by decide)) (ix3 0 (y 1) (y 2))
/-- The running maxima after a point. -/
def GM : Vec F S16x8x128 .f32 := fun y =>
  pM x3 xs1 ((y 0).val / 4) ((y 0).val % 4) (Nat.div_lt_of_lt_mul (lt_of_lt_of_eq (y 0).isLt rfl))
    (Nat.mod_lt _ (by decide)) (ix3 0 (y 1) (y 2))

theorem pOut_emb (r h : ℕ) (hr : r < 4) (hh : h < 4) (x : (blkR r h hr hh).shape.Idx) :
    pOut x0 x1 x2 x3 x4 xs0 xs1 r h hr hh x = GOut x0 x1 x2 x3 x4 xs0 xs1 ((blkR r h hr hh).emb x) := by
  have key : ∀ (r' h' : ℕ) (hr' : r' < 4) (hh' : h' < 4) (x' : (blkR r h hr hh).shape.Idx), r' = r → h' = h → x' = x →
      pOut x0 x1 x2 x3 x4 xs0 xs1 r h hr hh x = pOut x0 x1 x2 x3 x4 xs0 xs1 r' h' hr' hh' x' := by
    rintro r' h' hr' hh' x' rfl rfl rfl; rfl
  have h0 : (x 0).val < 1 := (x 0).isLt
  have h2 : (x 2).val < 256 := (x 2).isLt
  have e0 : (((blkR r h hr hh).emb x) 0).val = r + 1 * (x 0).val := rfl
  have e1 : (((blkR r h hr hh).emb x) 1).val = 0 + 1 * (x 1).val := rfl
  have e2 : (((blkR r h hr hh).emb x) 2).val = 256 * h + 1 * (x 2).val := rfl
  refine key _ _ _ _ _ (by omega) (by omega) (funext fun a => ?_)
  match a with
  | ⟨0, _⟩ => exact Fin.ext (show (0 : ℕ) = (x 0).val by omega)
  | ⟨1, _⟩ => exact Fin.ext (show (((blkR r h hr hh).emb x) 1).val = (x 1).val by omega)
  | ⟨2, _⟩ => exact Fin.ext (show (((blkR r h hr hh).emb x) 2).val % 256 = (x 2).val by omega)

theorem pCt_emb (r h : ℕ) (hr : r < 4) (hh : h < 4) (x : (ctR (4 * r + h) (by omega)).shape.Idx) :
    pCt x1 x2 x3 xs0 xs1 r h hr hh x = GCt x1 x2 x3 xs0 xs1 ((ctR (4 * r + h) (by omega)).emb x) := by
  have key : ∀ (r' h' : ℕ) (hr' : r' < 4) (hh' : h' < 4) (x' : (ctR (4 * r + h) (by omega)).shape.Idx), r' = r → h' = h → x' = x →
      pCt x1 x2 x3 xs0 xs1 r h hr hh x = pCt x1 x2 x3 xs0 xs1 r' h' hr' hh' x' := by
    rintro r' h' hr' hh' x' rfl rfl rfl; rfl
  have h0 : (x 0).val < 1 := (x 0).isLt
  have e0 : (((ctR (4 * r + h) (by omega)).emb x) 0).val = (4 * r + h) + 1 * (x 0).val := rfl
  have e1 : (((ctR (4 * r + h) (by omega)).emb x) 1).val = 0 + 1 * (x 1).val := rfl
  have e2 : (((ctR (4 * r + h) (by omega)).emb x) 2).val = 0 + 1 * (x 2).val := rfl
  refine key _ _ _ _ _ (by omega) (by omega) (funext fun a => ?_)
  match a with
  | ⟨0, _⟩ => exact Fin.ext (show (0 : ℕ) = (x 0).val by omega)
  | ⟨1, _⟩ => exact Fin.ext (show (((ctR (4 * r + h) (by omega)).emb x) 1).val = (x 1).val by omega)
  | ⟨2, _⟩ => exact Fin.ext (show (((ctR (4 * r + h) (by omega)).emb x) 2).val = (x 2).val by omega)

theorem pM_emb (r h : ℕ) (hr : r < 4) (hh : h < 4) (x : (mR (4 * r + h) (by omega)).shape.Idx) :
    pM x3 xs1 r h hr hh x = GM x3 xs1 ((mR (4 * r + h) (by omega)).emb x) := by
  have key : ∀ (r' h' : ℕ) (hr' : r' < 4) (hh' : h' < 4) (x' : (mR (4 * r + h) (by omega)).shape.Idx), r' = r → h' = h → x' = x →
      pM x3 xs1 r h hr hh x = pM x3 xs1 r' h' hr' hh' x' := by
    rintro r' h' hr' hh' x' rfl rfl rfl; rfl
  have h0 : (x 0).val < 1 := (x 0).isLt
  have e0 : (((mR (4 * r + h) (by omega)).emb x) 0).val = (4 * r + h) + 1 * (x 0).val := rfl
  have e1 : (((mR (4 * r + h) (by omega)).emb x) 1).val = 0 + 1 * (x 1).val := rfl
  have e2 : (((mR (4 * r + h) (by omega)).emb x) 2).val = 0 + 1 * (x 2).val := rfl
  refine key _ _ _ _ _ (by omega) (by omega) (funext fun a => ?_)
  match a with
  | ⟨0, _⟩ => exact Fin.ext (show (0 : ℕ) = (x 0).val by omega)
  | ⟨1, _⟩ => exact Fin.ext (show (((mR (4 * r + h) (by omega)).emb x) 1).val = (x 1).val by omega)
  | ⟨2, _⟩ => exact Fin.ext (show (((mR (4 * r + h) (by omega)).emb x) 2).val = (x 2).val by omega)

theorem LOut_pieces : ∀ p ∈ LOut x0 x1 x2 x3 x4 xs0 xs1, ∀ x : p.1.shape.Idx, p.2 x = GOut x0 x1 x2 x3 x4 xs0 xs1 (p.1.emb x) := by
  intro p hp
  simp only [LOut, List.mem_cons, List.not_mem_nil, or_false] at hp
  rcases hp with rfl | rfl | rfl | rfl | rfl | rfl | rfl | rfl | rfl | rfl | rfl | rfl | rfl | rfl | rfl | rfl <;>
    exact pOut_emb x0 x1 x2 x3 x4 xs0 xs1 _ _ _ _

theorem LCt_pieces : ∀ p ∈ LCt x1 x2 x3 xs0 xs1, ∀ x : p.1.shape.Idx, p.2 x = GCt x1 x2 x3 xs0 xs1 (p.1.emb x) := by
  intro p hp
  simp only [LCt, List.mem_cons, List.not_mem_nil, or_false] at hp
  rcases hp with rfl | rfl | rfl | rfl | rfl | rfl | rfl | rfl | rfl | rfl | rfl | rfl | rfl | rfl | rfl | rfl <;>
    exact pCt_emb x1 x2 x3 xs0 xs1 _ _ _ _

theorem LM_pieces : ∀ p ∈ LM x3 xs1, ∀ x : p.1.shape.Idx, p.2 x = GM x3 xs1 (p.1.emb x) := by
  intro p hp
  simp only [LM, List.mem_cons, List.not_mem_nil, or_false] at hp
  rcases hp with rfl | rfl | rfl | rfl | rfl | rfl | rfl | rfl | rfl | rfl | rfl | rfl | rfl | rfl | rfl | rfl <;>
    exact pM_emb x3 xs1 _ _ _ _

theorem LOut_cover (y : S4x256x1024.Idx) : ∃ p ∈ LOut x0 x1 x2 x3 x4 xs0 xs1, y ∈ p.1.set :=
  View.cover_of_tiledL (LOut x0 x1 x2 x3 x4 xs0 xs1) S1x256x256.size (by sl_kernel_rfl) y
theorem LCt_cover (y : S16x272x256.Idx) : ∃ p ∈ LCt x1 x2 x3 xs0 xs1, y ∈ p.1.set :=
  View.cover_of_tiledL (LCt x1 x2 x3 xs0 xs1) S1x272x256.size (by sl_kernel_rfl) y
theorem LM_cover (y : S16x8x128.Idx) : ∃ p ∈ LM x3 xs1, y ∈ p.1.set :=
  View.cover_of_tiledL (LM x3 xs1) S1x8x128.size (by sl_kernel_rfl) y

/-- The result stores leave the result block. -/
theorem canon_LOut : View.canon (LOut x0 x1 x2 x3 x4 xs0 xs1) = GOut x0 x1 x2 x3 x4 xs0 xs1 :=
  funext fun y => View.canon_apply_of_pieces _ _ (LOut_pieces x0 x1 x2 x3 x4 xs0 xs1) y (LOut_cover x0 x1 x2 x3 x4 xs0 xs1 y)
/-- The memory stores, after any earlier stores, leave the memories. -/
theorem canon_LCt (L : List (View.Piece (Elt F) S16x272x256 .f32)) : View.canon (LCt x1 x2 x3 xs0 xs1 ++ L) = GCt x1 x2 x3 xs0 xs1 :=
  funext fun y => View.canon_append_of_pieces _ L _ (LCt_pieces x1 x2 x3 xs0 xs1) y (LCt_cover x1 x2 x3 xs0 xs1 y)
/-- The running-maximum stores, after any earlier stores, leave the running maxima. -/
theorem canon_LM (L : List (View.Piece (Elt F) S16x8x128 .f32)) : View.canon (LM x3 xs1 ++ L) = GM x3 xs1 :=
  funext fun y => View.canon_append_of_pieces _ L _ (LM_pieces x3 xs1) y (LM_cover x3 xs1 y)
end

end Cert.KernelIdeal.Stream
-- ==== Proof.Math.lean ====
/-
  The recurrence of one head as a recurrence over positions, on real numbers, and what it is over a chunk of positions.

  At position `t` the running maximum `Mh` takes in the log forget gate `f t` and the input gate `i t`; the memory `Cm`
  fades by the forget gate and takes in the outer product of the value `v t` and the key `k t`, both weights rescaled by
  the running maximum; the read-out `num` is the memory after `t` against the query `q t`.
-/
module

public import Idealize.ShloMosaic.PureOps.Ideal

@[expose] public section

noncomputable section

namespace Cert.Recurrence

variable {ι κ : Type} [Fintype κ] (i f : ℕ → ℝ) (v : ℕ → ι → ℝ) (k q : ℕ → κ → ℝ)

/-- The running maximum before position `t`. -/
def Mh : ℕ → ℝ
  | 0 => 0
  | t + 1 => max (Mh t + f t) (i t)

/-- The memory before position `t`. -/
def Cm : ℕ → ι → κ → ℝ
  | 0 => fun _ _ => 0
  | t + 1 => fun e d =>
      Real.exp (Mh i f t + f t - Mh i f (t + 1)) * Cm t e d + Real.exp (i t - Mh i f (t + 1)) * (v t e * k t d)

/-- The memory after position `t` read with the query of `t`. -/
def num (t : ℕ) (e : ι) : ℝ := ∑ d, Cm i f v k (t + 1) e d * q t d

/-- The log forget gates of the `j` positions from `T`, summed. -/
def cum (T j : ℕ) : ℝ := ∑ s ∈ Finset.range j, f (T + s)

theorem cum_succ (T j : ℕ) : cum f T (j + 1) = cum f T j + f (T + j) := Finset.sum_range_succ _ _

/-- The running maximum after `j` positions of a chunk, by its upper bounds. -/
theorem Mh_le_iff (T : ℕ) : ∀ (j : ℕ) (x : ℝ), Mh i f (T + j) ≤ x ↔
    Mh i f T + cum f T j ≤ x ∧ ∀ s < j, cum f T j - cum f T (s + 1) + i (T + s) ≤ x
  | 0, x => by simp [cum]
  | j + 1, x => by
    have h1 : Mh i f (T + (j + 1)) ≤ x ↔ Mh i f (T + j) ≤ x - f (T + j) ∧ i (T + j) ≤ x := by
      show max (Mh i f (T + j) + f (T + j)) (i (T + j)) ≤ x ↔ _
      rw [max_le_iff, le_sub_iff_add_le]
    rw [h1, Mh_le_iff T j, cum_succ]
    constructor
    · rintro ⟨⟨ha, hb⟩, hc⟩
      refine ⟨by linarith, fun s hs => ?_⟩
      rcases Nat.lt_succ_iff_lt_or_eq.mp hs with h | rfl
      · have := hb s h; linarith
      · rw [cum_succ]; linarith
    · rintro ⟨ha, hb⟩
      refine ⟨⟨by linarith, fun s hs => ?_⟩, ?_⟩
      · have := hb s (by omega); linarith
      · have := hb j (by omega); rw [cum_succ] at this; linarith

/-- The memory after `j` positions of a chunk: the memory at its start, faded, and the positions' outer products. -/
theorem Cm_chunk (T : ℕ) (e : ι) (d : κ) : ∀ j : ℕ, Cm i f v k (T + j) e d =
    Real.exp (cum f T j + Mh i f T - Mh i f (T + j)) * Cm i f v k T e d
      + ∑ s ∈ Finset.range j, Real.exp (cum f T j - cum f T (s + 1) + i (T + s) - Mh i f (T + j)) * (v (T + s) e * k (T + s) d)
  | 0 => by simp [cum]
  | j + 1 => by
    have h1 : Cm i f v k (T + (j + 1)) e d =
        Real.exp (Mh i f (T + j) + f (T + j) - Mh i f (T + j + 1)) * Cm i f v k (T + j) e d
          + Real.exp (i (T + j) - Mh i f (T + j + 1)) * (v (T + j) e * k (T + j) d) := rfl
    rw [h1, Cm_chunk T e d j, Finset.sum_range_succ, mul_add, ← mul_assoc, ← Real.exp_add, Finset.mul_sum, add_assoc]
    simp only [cum_succ]
    congr 1
    · congr 2
      rw [← add_assoc T j 1]; ring
    · congr 1
      · refine Finset.sum_congr rfl fun s _ => ?_
        rw [← mul_assoc, ← Real.exp_add]
        congr 2
        rw [← add_assoc T j 1]; ring
      · congr 2
        rw [← add_assoc T j 1]; ring

/-- The read-out at position `j` of a chunk: the memory at the chunk's start against the query, and the positions up to
    `j` by their scores. -/
theorem num_chunk (T j : ℕ) (e : ι) : num i f v k q (T + j) e =
    Real.exp (cum f T (j + 1) + Mh i f T - Mh i f (T + (j + 1))) * ∑ d, Cm i f v k T e d * q (T + j) d
      + ∑ s ∈ Finset.range (j + 1), v (T + s) e
          * ((∑ d, k (T + s) d * q (T + j) d) * Real.exp (cum f T (j + 1) - cum f T (s + 1) + i (T + s) - Mh i f (T + (j + 1)))) := by
  unfold num
  rw [add_assoc T j 1]
  simp only [Cm_chunk i f v k T _ _ (j + 1), add_mul, Finset.sum_add_distrib]
  congr 1
  · rw [Finset.mul_sum]; exact Finset.sum_congr rfl fun d _ => by ring
  · simp only [Finset.sum_mul]
    rw [Finset.sum_comm]
    refine Finset.sum_congr rfl fun s _ => ?_
    rw [Finset.mul_sum]
    exact Finset.sum_congr rfl fun d _ => by ring

/-- The running maximum after `j` positions of a chunk of `L`, as the maximum of extended reals a program takes: the carried
    maximum faded, and the positions' log weights, minus infinity from position `j` on. -/
theorem max_chunk (T L j : ℕ) (hj : j ≤ L) (g : Fin L → EReal)
    (hg : ∀ s : Fin L, g s = if s.val < j then ((cum f T j - cum f T (s + 1) + i (T + s) : ℝ) : EReal) else ⊥) :
    max ((cum f T j + Mh i f T : ℝ) : EReal) (Finset.univ.fold max ⊥ g) = ((Mh i f (T + j) : ℝ) : EReal) := by
  refine eq_of_forall_ge_iff fun y => ?_
  rw [max_le_iff, Finset.fold_max_le]
  induction y with
  | bot => simp
  | top => simp
  | coe y =>
    simp only [EReal.coe_le_coe_iff, bot_le, Finset.mem_univ, true_and, forall_true_left]
    rw [Mh_le_iff i f T j y, add_comm]
    refine and_congr Iff.rfl ⟨fun h s hs => ?_, fun h s => ?_⟩
    · have := h ⟨s, by omega⟩
      rw [hg, if_pos hs, EReal.coe_le_coe_iff] at this
      exact this
    · rw [hg]
      split
      · rename_i hs
        exact EReal.coe_le_coe_iff.mpr (h s hs)
      · exact bot_le

/-- Sums of reals are the same among the extended reals. -/
theorem coe_sum {α : Type} (s : Finset α) (x : α → ℝ) : ((∑ a ∈ s, x a : ℝ) : EReal) = ∑ a ∈ s, (x a : EReal) := by
  classical
  induction s using Finset.induction_on with
  | empty => simp
  | insert a s ha ih => rw [Finset.sum_insert ha, Finset.sum_insert ha, EReal.coe_add, ih]

/-- A sum over a range of a chunk as a sum over the whole chunk. -/
theorem sum_range_ite (L j : ℕ) (hj : j ≤ L) (x : ℕ → ℝ) :
    ∑ s ∈ Finset.range j, x s = ∑ s : Fin L, if s.val < j then x s else 0 := by
  rw [Finset.sum_range (fun s => x s), Fin.sum_univ_eq_sum_range (fun s => if s < j then x s else 0) L,
    ← Finset.sum_filter]
  rw [show (Finset.range L).filter (fun s => s < j) = Finset.range j by ext s; simp; omega]
  exact (Finset.sum_range _).symm

end Cert.Recurrence
-- ==== Proof.Data.lean ====
/-
  The data of the claim: the sequences of gates, keys, values and queries that one batch row and one head take from the
  projections and gates, on real numbers, and the result in terms of the recurrence over positions (Math.lean).
-/
module

public import proofs.«01_k».proof.Proof.Math

@[expose] public section

noncomputable section

namespace Cert.Recurrence

open Idealize.ShloMosaic

/-- The read-out divided by its normaliser. -/
def hRead (i f : ℕ → ℝ) (vr : ℕ → Fin 272 → ℝ) (kr qr : ℕ → Fin 256 → ℝ) (t : ℕ) (e : Fin 256) : ℝ :=
  num i f vr kr qr t ⟨e.val, by omega⟩ * (1 / max |num i f vr kr qr t 256| (Real.exp (-Mh i f (t + 1))))

/-- The root-mean-square normalisation of a row of 256, times a weight. -/
def rms (x : Fin 256 → EReal) (w : EReal) (e : Fin 256) : EReal :=
  x e * Ideal.rsqrt (Ideal.div (∑ d, x d * x d) (Ideal.ofBits FTy.f32 0x43800000#32) + Ideal.ofBits FTy.f32 0x358637BD#32) * w

/-- The word of minus infinity. -/
theorem ofBits_negInf : Ideal.ofBits .f32 0xFF800000#32 = (⊥ : EReal) := by
  simp [Ideal.ofBits, Ideal.ieee]
theorem coe_sub_self (x : ℝ) : (x : EReal) - (x : EReal) = 0 := by rw [← EReal.coe_sub, sub_self, EReal.coe_zero]

/-- A real numerator times one over the larger of a real's absolute value and an exponential. -/
theorem div_norm (x y m : ℝ) : (x : EReal) * Ideal.div 1 (max (FloatOps.absf (F := Ideal) (φ := .f32) (y : EReal)) (Ideal.exp (0 - (m : EReal))))
    = ((x * (1 / max |y| (Real.exp (-m))) : ℝ) : EReal) := by
  have e1 : FloatOps.absf (F := Ideal) (φ := .f32) (y : EReal) = ((|y| : ℝ) : EReal) := by
    show max (y : EReal) (-(y : EReal)) = _
    rw [← EReal.coe_neg, abs_eq_max_neg]
    exact (EReal.coe_strictMono.monotone.map_max).symm
  have e2 : (0 : EReal) - (m : EReal) = ((-m : ℝ) : EReal) := by rw [zero_sub, EReal.coe_neg]
  have hp : max |y| (Real.exp (-m)) ≠ 0 := (lt_of_lt_of_le (Real.exp_pos _) (le_max_right _ _)).ne'
  rw [e1, e2, Ideal.exp_coe, show max ((|y| : ℝ) : EReal) ((Real.exp (-m) : ℝ) : EReal) = ((max |y| (Real.exp (-m)) : ℝ) : EReal) from
    (EReal.coe_strictMono.monotone.map_max).symm, Ideal.div_coe hp, one_mul, ← EReal.coe_mul]

/-- The columns of the two gates. -/
theorem lt_i {h : ℕ} (hh : h < 4) : h < 128 := by omega
theorem lt_f {h : ℕ} (hh : h < 4) : 4 + h < 128 := by omega

/-- The row of the flat arrays that holds position `t` of batch row `b`. -/
def row (b t : ℕ) : Fin 32768 := ⟨(b * 2048 + t) % 32768, Nat.mod_lt _ (by decide)⟩

section
variable (p : Fin 32768 → Fin 6144 → EReal) (g : Fin 32768 → Fin 128 → EReal) (b h : ℕ) (hh : h < 4)

/-- The input gates of batch row `b`, head `h`. -/
def iSeq (t : ℕ) : ℝ := (g (row b t) ⟨h, by omega⟩).toReal
/-- The log forget gates. -/
def fSeq (t : ℕ) : ℝ := (g (row b t) ⟨4 + h, by omega⟩).toReal
/-- The queries, scaled. -/
def qSeq (t : ℕ) (d : Fin 256) : ℝ := (p (row b t) ⟨256 * h + d.val, by omega⟩).toReal * (1 / 16)
/-- The keys. -/
def kSeq (t : ℕ) (d : Fin 256) : ℝ := (p (row b t) ⟨1024 + (256 * h + d.val), by omega⟩).toReal
/-- The values, and below them a one (whose memory is the normaliser's) and zeros. -/
def vSeq (t : ℕ) (e : Fin 272) : ℝ :=
  if he : e.val < 256 then (p (row b t) ⟨2048 + (256 * h + e.val), by omega⟩).toReal else if e.val = 256 then 1 else 0

/-- The normalised read-out of batch row `b`, head `h` at position `t`. -/
def hSeq (t : ℕ) (e : Fin 256) : ℝ :=
  hRead (iSeq g b h hh) (fSeq g b h hh) (vSeq p b h hh) (kSeq p b h hh) (qSeq p b h hh) t e

/-- The result of batch row `b`, head `h`, at position `t` and feature `e`, the head's norm weights being `w`. -/
def result (w : Fin 256 → EReal) (t : ℕ) (e : Fin 256) : EReal := rms (fun d => ((hSeq p g b h hh t d : ℝ) : EReal)) (w e) e
end

/-- The projections' first 3072 columns and the gates' first 8 are real. -/
structure Finite (p : Fin 32768 → Fin 6144 → EReal) (g : Fin 32768 → Fin 128 → EReal) : Prop where
  p_real : ∀ (a : Fin 32768) (l : Fin 6144), l.val < 3072 → p a l = ((p a l).toReal : EReal)
  g_real : ∀ (a : Fin 32768) (l : Fin 128), l.val < 8 → g a l = ((g a l).toReal : EReal)

end Cert.Recurrence
-- ==== Proof.StreamValue.lean ====
/-
  One stream's functions on real inputs: where the chunk's gates, queries, keys and values and the carried memory and
  running maximum are real, so are the new memory, the new running maximum and the read-outs, and they are the recurrence
  over positions (Math.lean) at the chunk's positions.
-/
module

public import proofs.«01_k».proof.Proof.Stream
public import proofs.«01_k».proof.Proof.Data
public import Idealize.ShloMosaic.Lib.Pointwise
public import Idealize.ShloMosaic.Lib.WordCmp

@[expose] public section

noncomputable section

namespace Cert.KernelIdeal.Stream

open Idealize.ShloMosaic Cert.KernelIdeal Cert.KernelIdeal.Gen Cert.Recurrence

/-- The causal mask: one where the source (row) is no later than the query (column). -/
theorem mask_apply (s j : Fin 256) : k0_pay4 (ix2 s j) = if s.val < j.val + 1 then 1#1 else 0#1 := by
  pointwise [k0_pay4]
  have hs : (BitVec.ofNat 32 s.val).toInt = (s.val : ℤ) := WordCmp.toInt_ofNat_of_lt (by omega)
  have hj : (BitVec.ofNat 32 j.val).toInt = (j.val : ℤ) := WordCmp.toInt_ofNat_of_lt (by omega)
  show BitVec.ofBool (BitVec.sle _ _) = _
  rw [BitVec.sle_eq_decide, hs, hj]
  by_cases h : s.val < j.val + 1
  · rw [if_pos h, decide_eq_true (by omega)]; rfl
  · rw [if_neg h, decide_eq_false (by omega)]; rfl

/-- The mask as numbers, source by query. -/
theorem upper_apply (s j : Fin 256) : k0_pay6 (F := Ideal) (ix2 s j) = (if s.val < j.val + 1 then 1 else 0 : EReal) := by
  pointwise [k0_pay6]
  rw [mask_apply]
  show (((BitVec.setWidth 32 (if s.val < j.val + 1 then 1#1 else 0#1)).toInt : ℝ) : EReal) = _
  split <;> simp
/-- The mask as numbers, query by source. -/
theorem lower_apply (s j : Fin 256) : k0_pay5 (F := Ideal) (ix2 j s) = (if s.val < j.val + 1 then 1 else 0 : EReal) := by
  have e : k0_pay5 (F := Ideal) (ix2 j s) = k0_pay6 (F := Ideal) (ix2 s j) := by
    pointwise [k0_pay6, k0_pay5, k0_pay4]
  rw [e, upper_apply]
/-- The rows below the transposed values: ones, then zeros. -/
theorem ones_apply (e : Fin 16) (j : Fin 256) : k0_pay7 (F := Ideal) (ix2 e j) = (if e.val = 0 then 1 else 0 : EReal) := by
  pointwise [k0_pay7]
  by_cases h : e.val = 0
  · rw [if_pos h, h]; rfl
  · rw [if_neg h]
    have hne : BitVec.ofNat 32 e.val ≠ 0#32 := fun hc => h (by
      have := congrArg BitVec.toNat hc
      simp at this
      omega)
    have h0 : IntOp.cmpi .eq (BitVec.ofNat 32 e.val) 0#32 = 0#1 := by
      show BitVec.ofBool (decide _) = _
      rw [decide_eq_false hne]; rfl
    rw [h0]; rfl

section
variable (h : ℕ) (hh : h < 4)
  (q k v : FVec Ideal S1x256x256 .bf16) (g : FVec Ideal S1x256x128 .f32) (ct : FVec Ideal S1x272x256 .f32) (mm : FVec Ideal S1x8x128 .f32)
  (w : FVec Ideal S1x256 .f32)
  (i f : ℕ → ℝ) (vr : ℕ → Fin 272 → ℝ) (kr qr : ℕ → Fin 256 → ℝ) (T : ℕ)

/-- A masked sum of reals, as a program writes it, is a sum over the positions up to `j`. -/
theorem masked_sum (x : ℕ → ℝ) (j : Fin 256) :
    ∑ s : Fin 256, (x s.val : EReal) * (if s.val < j.val + 1 then 1 else 0 : EReal)
      = ((∑ s ∈ Finset.range (j.val + 1), x s : ℝ) : EReal) := by
  rw [sum_range_ite 256 (j.val + 1) (by omega), coe_sum]
  refine Finset.sum_congr rfl fun s _ => ?_
  split <;> simp

variable (hF : ∀ j : Fin 256, g (ix3 0 j ⟨4 + h, lt_f hh⟩) = ((f (T + j.val) : ℝ) : EReal))
include hF

theorem bRow_apply (j : Fin 256) : bRow h hh g (ix2 0 j) = ((cum f T (j.val + 1) : ℝ) : EReal) := by
  pointwise [bRow, bRows, k0_pay17, k0_pay14, k0_pay15, k0_pay16, k0_pay13, k0_pay12, k0_pay11, k0_pay10, k0_pay8,
    dot_S8x256_S256x256_S8x256_1_0_0_1_n_n]
  simp only [hF, upper_apply, coe_sub_self, sub_zero, zero_mul, Finset.sum_const_zero, add_zero]
  exact masked_sum (fun s => f (T + s)) j

theorem bCol_apply (j : Fin 256) : k0_pay9 (F := Ideal) g (ix2 j ⟨4 + h, lt_f hh⟩) = ((cum f T (j.val + 1) : ℝ) : EReal) := by
  pointwise [k0_pay9, k0_pay8, dot_S256x256_S256x128_S256x128_1_0_0_1_n_n]
  simp only [hF, lower_apply, coe_sub_self, sub_zero, mul_zero, Finset.sum_const_zero, add_zero]
  simp only [mul_comm (ite _ _ _)]
  exact masked_sum (fun s => f (T + s)) j

variable (hI : ∀ j : Fin 256, g (ix3 0 j ⟨h, lt_i hh⟩) = ((i (T + j.val) : ℝ) : EReal))

theorem bLast_apply : bLast h hh g (ix2 0 0) = ((cum f T 256 : ℝ) : EReal) := by
  pointwise [bLast]
  exact bRow_apply h hh g f T hF 255

include hI

theorem aCol_apply (s : Fin 256) : aCol h hh g (ix2 s 0) = ((i (T + s.val) - cum f T (s.val + 1) : ℝ) : EReal) := by
  have h9 := bCol_apply h hh g f T hF s
  pointwise [aCol]
  rw [h9]
  pointwise [k0_pay8]
  rw [hI, EReal.coe_sub]

theorem logIntra_apply (s j : Fin 256) : logIntra h hh g (ix2 s j) =
    if s.val < j.val + 1 then ((cum f T (j.val + 1) - cum f T (s.val + 1) + i (T + s.val) : ℝ) : EReal) else ⊥ := by
  pointwise [logIntra]
  rw [mask_apply, bRow_apply h hh g f T hF, aCol_apply h hh g i f T hF hI, ofBits_negInf]
  split
  · rw [Scalar.select, if_pos (by decide), ← EReal.coe_add]; congr 1; ring
  · rw [Scalar.select, if_neg (by decide)]

theorem logW_apply (s : Fin 256) : logW h hh g (ix2 0 s) =
    ((cum f T 256 - cum f T (s.val + 1) + i (T + s.val) : ℝ) : EReal) := by
  pointwise [logW, iRow, k0_pay10, k0_pay8]
  rw [bRow_apply h hh g f T hF, bLast_apply h hh g f T hF, hI, ← EReal.coe_sub, ← EReal.coe_add]

variable (hM : mm (ix3 0 0 0) = ((Mh i f T : ℝ) : EReal))
include hM

omit hF hI in
theorem mPrev_apply : mPrev mm (ix2 0 0) = ((Mh i f T : ℝ) : EReal) := by
  pointwise [mPrev]
  exact hM

omit hI in
theorem logInter_apply (j : Fin 256) : logInter h hh g mm (ix2 0 j) = ((cum f T (j.val + 1) + Mh i f T : ℝ) : EReal) := by
  pointwise [logInter]
  rw [bRow_apply h hh g f T hF, mPrev_apply mm i f T hM, ← EReal.coe_add]

/-- The running maximum at a query is the recurrence's after it. -/
theorem mT_apply (j : Fin 256) : mT h hh g mm (ix2 0 j) = ((Mh i f (T + (j.val + 1)) : ℝ) : EReal) := by
  pointwise [mT]
  rw [logInter_apply h hh g mm i f T hF hM, ofBits_negInf]
  exact max_chunk i f T 256 (j.val + 1) (by omega) _ fun s => logIntra_apply h hh g i f T hF hI s j

/-- The running maximum after the chunk is the recurrence's. -/
theorem mNew_apply : mNew h hh g mm (ix2 0 0) = ((Mh i f (T + 256) : ℝ) : EReal) := by
  pointwise [mNew]
  rw [bLast_apply h hh g f T hF, mPrev_apply mm i f T hM, ofBits_negInf, ← EReal.coe_add]
  exact max_chunk i f T 256 256 le_rfl _ fun s => by rw [if_pos s.isLt]; exact logW_apply h hh g i f T hF hI s

theorem mOut_apply (a : Fin 8) (b : Fin 128) : mOut h hh g mm (ix3 0 a b) = ((Mh i f (T + 256) : ℝ) : EReal) := by
  pointwise [mOut]
  exact mNew_apply h hh g mm i f T hF hI hM

theorem dIntra_apply (s j : Fin 256) : dIntra h hh g mm (ix2 s j) =
    ((if s.val < j.val + 1 then Real.exp (cum f T (j.val + 1) - cum f T (s.val + 1) + i (T + s.val) - Mh i f (T + (j.val + 1))) else 0 : ℝ) : EReal) := by
  pointwise [dIntra]
  rw [logIntra_apply h hh g i f T hF hI, mT_apply h hh g mm i f T hF hI hM]
  split
  · rw [← EReal.coe_sub, Ideal.exp_coe]
  · rw [EReal.bot_sub, Ideal.exp_bot, EReal.coe_zero]

theorem dInter_apply (j : Fin 256) : dInter h hh g mm (ix2 0 j) =
    ((Real.exp (cum f T (j.val + 1) + Mh i f T - Mh i f (T + (j.val + 1))) : ℝ) : EReal) := by
  pointwise [dInter]
  rw [logInter_apply h hh g mm i f T hF hM, mT_apply h hh g mm i f T hF hI hM, ← EReal.coe_sub, Ideal.exp_coe]

variable (hK : ∀ j d : Fin 256, k (ix3 0 j d) = ((kr (T + j.val) d : ℝ) : EReal))
  (hV : ∀ (e : Fin 272) (j : Fin 256), vT v (ix2 e j) = ((vr (T + j.val) e : ℝ) : EReal))
  (hC : ∀ (e : Fin 272) (d : Fin 256), ct (ix3 0 e d) = ((Cm i f vr kr T e d : ℝ) : EReal))
include hK hV hC

/-- The memory after the chunk is the recurrence's. -/
theorem ctOut_apply (e : Fin 272) (d : Fin 256) : ctOut h hh k v g ct mm (ix3 0 e d) = ((Cm i f vr kr (T + 256) e d : ℝ) : EReal) := by
  pointwise [ctOut, dot_S272x256_S256x256_S272x256_1_0_0_1_n_n]
  simp only [bLast_apply h hh g f T hF, mPrev_apply mm i f T hM, mNew_apply h hh g mm i f T hF hI hM,
    logW_apply h hh g i f T hF hI, hK, hV, hC, ← EReal.coe_add, ← EReal.coe_sub, Ideal.exp_coe, ← EReal.coe_mul, ← coe_sum]
  rw [Cm_chunk, Finset.sum_range]
  refine congrArg _ (congrArg _ (Finset.sum_congr rfl fun s _ => ?_))
  ring

variable (hQ : ∀ j d : Fin 256, qS q (ix2 j d) = ((qr (T + j.val) d : ℝ) : EReal))
include hQ

/-- Numerators and denominator are the recurrence's read-outs. -/
theorem tot_apply (e : Fin 272) (j : Fin 256) : tot h hh q k v g ct mm (ix2 e j) = ((num i f vr kr qr (T + j.val) e : ℝ) : EReal) := by
  pointwise [tot, pT, dot_S272x256_S256x256_S272x256_1_0_0_1_n_n, dot_S256x256_S256x256_S256x256_1_1_0_0_n_n,
    dot_S272x256_S256x256_S272x256_1_1_0_0_n_n]
  simp only [dIntra_apply h hh g mm i f T hF hI hM, dInter_apply h hh g mm i f T hF hI hM, hK, hV, hC, hQ, ← EReal.coe_add,
    ← EReal.coe_mul, ← coe_sum]
  rw [num_chunk, sum_range_ite 256 (j.val + 1) (by omega), add_comm]
  congr 2
  refine Finset.sum_congr rfl fun s _ => ?_
  split <;> simp

theorem hT_apply (e j : Fin 256) : hT h hh q k v g ct mm (ix2 e j) = ((hRead i f vr kr qr (T + j.val) e : ℝ) : EReal) := by
  pointwise [hT]
  rw [tot_apply h hh q k v g ct mm i f vr kr qr T hF hI hM hK hV hC hQ, tot_apply h hh q k v g ct mm i f vr kr qr T hF hI hM hK hV hC hQ,
    mT_apply h hh g mm i f T hF hI hM]
  exact div_norm _ _ _

end

theorem rmsOut_apply (w : FVec Ideal S1x256 .f32) (x : FVec Ideal S256x256 .f32) (j e : Fin 256) :
    rmsOut w x (ix3 0 j e) = rms (fun d => x (ix2 d j)) (w (ix2 0 e)) e := by
  pointwise [rmsOut]
  rfl

end Cert.KernelIdeal.Stream
-- ==== Proof.KernelBlocks.lean ====
/-
  The kernel's run on real inputs: after each grid point the carried memories and running maxima are the recurrence's at
  the end of the point's chunk, and the result block is the recurrence's read-outs.
-/
module

public import proofs.«01_k».proof.Proof.Block
public import proofs.«01_k».proof.Proof.StreamValue
public import Idealize.ShloMosaic.Lib.Pipeline.ValueKit.Point

@[expose] public section

set_option maxRecDepth 16384

noncomputable section

namespace Cert.KernelIdeal.Stream

open Idealize.ShloMosaic Idealize.ShloMosaic.TcCoe Cert.KernelIdeal Cert.KernelIdeal.Gen Cert.Recurrence

variable (m : (ℓ : Loc nD τ sig) → Buf (Elt Ideal) ℓ) (c : Dev nD)

/-- The projections, as launched. -/
def pArr : Fin 32768 → Fin 6144 → EReal := fun a b => m ((c : Thread nD τ).loc main_arg0) (ix2 a b)
/-- The gates, as launched. -/
def gArr : Fin 32768 → Fin 128 → EReal := fun a b => m ((c : Thread nD τ).loc main_arg1) (ix2 a b)
/-- The norm weights, as launched. -/
def wArr : Fin 1024 → EReal := fun a => m ((c : Thread nD τ).loc main_arg2) (ix2 0 a)

theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 1] := (by decide +kernel : ∀ t : Fin grid0.N, _)
theorem index2 : ∀ t : Fin cfg0.N, win0_2.index t = ![t.val / 8, t.val % 8, 2] := (by decide +kernel : ∀ t : Fin grid0.N, _)
theorem index3 : ∀ t : Fin cfg0.N, win0_3.index t = ![t.val / 8, t.val % 8, 0] := (by decide +kernel : ∀ t : Fin grid0.N, _)
theorem index4 : ∀ t : Fin cfg0.N, win0_4.index t = ![0, 0] := (by decide +kernel : ∀ t : Fin grid0.N, _)

variable (t : Fin cfg0.N) (r : Fin 4) (j : Fin 256)

theorem tlt : t.val < 32 := lt_of_lt_of_eq t.isLt N_0

theorem iblk0_apply (l : Fin 1024) : iblk m c 0 t (ix3 r j l)
    = pArr m c (row (4 * (t.val / 8) + r.val) (256 * (t.val % 8) + j.val)) ⟨l.val, by omega⟩ := by
  have := tlt t
  unfold pArr row
  blk_ext! [iblk, V, index0 t]
theorem iblk1_apply (l : Fin 1024) : iblk m c 1 t (ix3 r j l)
    = pArr m c (row (4 * (t.val / 8) + r.val) (256 * (t.val % 8) + j.val)) ⟨1024 + l.val, by omega⟩ := by
  have := tlt t
  unfold pArr row
  blk_ext! [iblk, V, index1 t]
theorem iblk2_apply (l : Fin 1024) : iblk m c 2 t (ix3 r j l)
    = pArr m c (row (4 * (t.val / 8) + r.val) (256 * (t.val % 8) + j.val)) ⟨2048 + l.val, by omega⟩ := by
  have := tlt t
  unfold pArr row
  blk_ext! [iblk, V, index2 t]
theorem iblk3_apply (l : Fin 128) : iblk m c 3 t (ix3 r j l)
    = gArr m c (row (4 * (t.val / 8) + r.val) (256 * (t.val % 8) + j.val)) l := by
  have := tlt t
  unfold gArr row
  blk_ext! [iblk, V, index3 t]
theorem iblk4_apply (l : Fin 1024) : iblk m c 4 t (ix2 0 l) = wArr m c l := by
  unfold wArr
  blk_ext! [iblk, V, V_main_arg2, index4 t]

end Cert.KernelIdeal.Stream
-- ==== Proof.KernelState.lean ====
/-
  What each grid point leaves, as the block functions over what it reads; what a stream's entry of them is; and what a
  stream reads of the blocks.
-/
module

public import proofs.«01_k».proof.Proof.KernelBlocks
public import Idealize.ShloMosaic.Lib.IdealHost

@[expose] public section

set_option maxRecDepth 16384

noncomputable section

namespace Cert.KernelIdeal.Stream

open Idealize.ShloMosaic Idealize.ShloMosaic.TcCoe Cert.KernelIdeal Cert.KernelIdeal.Gen Cert.Recurrence

section
variable {F : FTy → Type} [FloatOps F] (m : (ℓ : Loc nD τ sig) → Buf (Elt F) ℓ) (c : Dev nD) (t : Fin cfg0.N)

/-- What a point over which the scratch is reset leaves. -/
theorem outsAt_A (h0 : t.val % 8 = 0) : outsAt0 m c t.val t.isLt =
    (GOut (iblk m c 0 t) (iblk m c 1 t) (iblk m c 2 t) (iblk m c 3 t) (iblk m c 4 t) k0_pay2 k0_pay3,
      GCt (iblk m c 1 t) (iblk m c 2 t) (iblk m c 3 t) k0_pay2 k0_pay3, GM (iblk m c 3 t) k0_pay3) := by
  rw [outsAt0_A m c t h0]
  unfold out0_A_5 sout0_A_0 sout0_A_1
  refine congr (congrArg Prod.mk ?_) (congr (congrArg Prod.mk ?_) ?_)
  · rw [View.read_writes_junk_eq_canon, (runA_eq ..).1, canon_LOut]
  · rw [View.read_writes_junk_eq_canon, (runA_eq ..).2.1, canon_LCt]
  · rw [View.read_writes_junk_eq_canon, (runA_eq ..).2.2, canon_LM]

/-- What another point leaves, over the scratch the point before left. -/
theorem outsAt_B (h0 : ¬ t.val % 8 = 0) (n : ℕ) (hn : n < cfg0.N) (hnt : n = t.val - 1) : outsAt0 m c t.val t.isLt =
    (GOut (iblk m c 0 t) (iblk m c 1 t) (iblk m c 2 t) (iblk m c 3 t) (iblk m c 4 t) (outsAt0 m c n hn).2.1 (outsAt0 m c n hn).2.2,
      GCt (iblk m c 1 t) (iblk m c 2 t) (iblk m c 3 t) (outsAt0 m c n hn).2.1 (outsAt0 m c n hn).2.2,
      GM (iblk m c 3 t) (outsAt0 m c n hn).2.2) := by
  subst hnt
  rw [outsAt0_B m c t h0]
  unfold out0_B_5 sout0_B_0 sout0_B_1
  refine congr (congrArg Prod.mk ?_) (congr (congrArg Prod.mk ?_) ?_)
  · rw [View.read_writes_junk_eq_canon, (runB_eq ..).1, canon_LOut]
  · rw [View.read_writes_junk_eq_canon, (runB_eq ..).2.1, ← canon_LCt _ _ _ _ _ [], List.append_nil]
  · rw [View.read_writes_junk_eq_canon, (runB_eq ..).2.2, ← canon_LM _ _ [], List.append_nil]

variable (x0 x1 x2 : Vec F S4x256x1024 .bf16) (x3 : Vec F S4x256x128 .f32) (x4 : Vec F S1x1024 .f32)
  (xs0 : Vec F S16x272x256 .f32) (xs1 : Vec F S16x8x128 .f32) (r h : ℕ) (hr : r < 4) (hh : h < 4)

/-- The result block at a stream's entry. -/
theorem GOut_at (j e : Fin 256) : GOut x0 x1 x2 x3 x4 xs0 xs1 (ix3 ⟨r, hr⟩ j ⟨256 * h + e.val, by omega⟩)
    = pOut x0 x1 x2 x3 x4 xs0 xs1 r h hr hh (ix3 0 j e) := by
  rw [pOut_emb]
  congr 1
  funext a
  match a with
  | ⟨0, _⟩ => exact Fin.ext (show r = r + 1 * 0 by omega)
  | ⟨1, _⟩ => exact Fin.ext (show j.val = 0 + 1 * j.val by omega)
  | ⟨2, _⟩ => exact Fin.ext (show 256 * h + e.val = 256 * h + 1 * e.val by omega)
/-- The memories at a stream's entry. -/
theorem GCt_at (e : Fin 272) (d : Fin 256) : GCt x1 x2 x3 xs0 xs1 (ix3 ⟨4 * r + h, by omega⟩ e d)
    = pCt x1 x2 x3 xs0 xs1 r h hr hh (ix3 0 e d) := by
  rw [pCt_emb]
  congr 1
  funext a
  match a with
  | ⟨0, _⟩ => exact Fin.ext (show 4 * r + h = (4 * r + h) + 1 * 0 by omega)
  | ⟨1, _⟩ => exact Fin.ext (show e.val = 0 + 1 * e.val by omega)
  | ⟨2, _⟩ => exact Fin.ext (show d.val = 0 + 1 * d.val by omega)
/-- The running maxima at a stream's entry. -/
theorem GM_at (a : Fin 8) (b : Fin 128) : GM x3 xs1 (ix3 ⟨4 * r + h, by omega⟩ a b) = pM x3 xs1 r h hr hh (ix3 0 a b) := by
  rw [pM_emb]
  congr 1
  funext i
  match i with
  | ⟨0, _⟩ => exact Fin.ext (show 4 * r + h = (4 * r + h) + 1 * 0 by omega)
  | ⟨1, _⟩ => exact Fin.ext (show a.val = 0 + 1 * a.val by omega)
  | ⟨2, _⟩ => exact Fin.ext (show b.val = 0 + 1 * b.val by omega)

/-- What a stream reads of a block of queries, keys or values. -/
theorem ld_blk (x : Vec F S4x256x1024 .bf16) (j d : Fin 256) :
    View.ld x (blkR r h hr hh) (ix3 0 j d) = x (ix3 ⟨r, hr⟩ j ⟨256 * h + d.val, by omega⟩) := by
  show x ((blkR r h hr hh).emb (ix3 0 j d)) = _
  congr 1
  funext a
  match a with
  | ⟨0, _⟩ => exact Fin.ext (show r + 1 * 0 = r by omega)
  | ⟨1, _⟩ => exact Fin.ext (show 0 + 1 * j.val = j.val by omega)
  | ⟨2, _⟩ => exact Fin.ext (show 256 * h + 1 * d.val = 256 * h + d.val by omega)
theorem ld_gate (j : Fin 256) (l : Fin 128) : View.ld x3 (gateR r hr) (ix3 0 j l) = x3 (ix3 ⟨r, hr⟩ j l) := by
  show x3 ((gateR r hr).emb (ix3 0 j l)) = _
  congr 1
  funext a
  match a with
  | ⟨0, _⟩ => exact Fin.ext (show r + 1 * 0 = r by omega)
  | ⟨1, _⟩ => exact Fin.ext (show 0 + 1 * j.val = j.val by omega)
  | ⟨2, _⟩ => exact Fin.ext (show 0 + 1 * l.val = l.val by omega)
theorem ld_w (e : Fin 256) : View.ld x4 (wR h hh) (ix2 0 e) = x4 (ix2 0 ⟨256 * h + e.val, by omega⟩) := by
  show x4 ((wR h hh).emb (ix2 0 e)) = _
  congr 1
  funext a
  match a with
  | ⟨0, _⟩ => exact Fin.ext (show 0 + 1 * 0 = 0 by omega)
  | ⟨1, _⟩ => exact Fin.ext (show 256 * h + 1 * e.val = 256 * h + e.val by omega)
theorem ld_ct (s : ℕ) (hs : s < 16) (e : Fin 272) (d : Fin 256) : View.ld xs0 (ctR s hs) (ix3 0 e d) = xs0 (ix3 ⟨s, hs⟩ e d) := by
  show xs0 ((ctR s hs).emb (ix3 0 e d)) = _
  congr 1
  funext a
  match a with
  | ⟨0, _⟩ => exact Fin.ext (show s + 1 * 0 = s by omega)
  | ⟨1, _⟩ => exact Fin.ext (show 0 + 1 * e.val = e.val by omega)
  | ⟨2, _⟩ => exact Fin.ext (show 0 + 1 * d.val = d.val by omega)
theorem ld_m (s : ℕ) (hs : s < 16) (a : Fin 8) (b : Fin 128) : View.ld xs1 (mR s hs) (ix3 0 a b) = xs1 (ix3 ⟨s, hs⟩ a b) := by
  show xs1 ((mR s hs).emb (ix3 0 a b)) = _
  congr 1
  funext i
  match i with
  | ⟨0, _⟩ => exact Fin.ext (show s + 1 * 0 = s by omega)
  | ⟨1, _⟩ => exact Fin.ext (show 0 + 1 * a.val = a.val by omega)
  | ⟨2, _⟩ => exact Fin.ext (show 0 + 1 * b.val = b.val by omega)
end

theorem zeroC_apply (i : S16x272x256.Idx) : (k0_pay2 (F := Ideal)) i = (0 : EReal) := by
  rw [show i = ix3 (i 0) (i 1) (i 2) from eq_ix3 i]
  pointwise [k0_pay2]
theorem zeroM_apply (i : S16x8x128.Idx) : (k0_pay3 (F := Ideal)) i = (0 : EReal) := by
  rw [show i = ix3 (i 0) (i 1) (i 2) from eq_ix3 i]
  pointwise [k0_pay3]

/-- The values transposed, with a row of ones and rows of zeros below. -/
theorem vT_apply (v : FVec Ideal S1x256x256 .bf16) (e : Fin 272) (j : Fin 256) :
    (vT (F := Ideal) v (ix2 e j) : EReal) = if he : e.val < 256 then (v (ix3 0 j ⟨e.val, he⟩) : EReal) else if e.val = 256 then (1 : EReal) else 0 := by
  pointwise [vT, k0_pay53]
  split
  · rfl
  · rw [ones_apply]
    congr 1
    have := e.isLt
    simp only [eq_iff_iff]
    omega

/-- The queries scaled. -/
theorem qS_apply (q : FVec Ideal S1x256x256 .bf16) (j d : Fin 256) :
    (qS (F := Ideal) q (ix2 j d) : EReal) = q (ix3 0 j d) * ((1 / 16 : ℝ) : EReal) := by
  pointwise [qS, k0_pay37]
  rw [show Ideal.ofBits .bf16 (15744#16) = ((1 / 16 : ℝ) : EReal) from Ideal.ofBits_sixteenth_bf16]

end Cert.KernelIdeal.Stream
-- ==== Proof.KernelRun.lean ====
/-
  The kernel's run on real inputs: after each grid point the carried memories and running maxima are the recurrence's at
  the end of the point's chunk, and the result block is the recurrence's read-outs, normalised.
-/
module

public import proofs.«01_k».proof.Proof.KernelState

@[expose] public section

set_option maxRecDepth 16384

noncomputable section

namespace Cert.KernelIdeal.Stream

open Idealize.ShloMosaic Idealize.ShloMosaic.TcCoe Cert.KernelIdeal Cert.KernelIdeal.Gen Cert.Recurrence

variable (m : (ℓ : Loc nD τ sig) → Buf (Elt Ideal) ℓ) (c : Dev nD)

/-- The carried buffers hold the recurrence of every stream of batch group `bg` after `T` positions. -/
structure Carried (bg T : ℕ) (xs0 : Vec Ideal S16x272x256 .f32) (xs1 : Vec Ideal S16x8x128 .f32) : Prop where
  mem : ∀ (r h : ℕ) (hr : r < 4) (hh : h < 4) (e : Fin 272) (d : Fin 256), xs0 (ix3 ⟨4 * r + h, by omega⟩ e d)
    = ((Cm (iSeq (gArr m c) (4 * bg + r) h hh) (fSeq (gArr m c) (4 * bg + r) h hh) (vSeq (pArr m c) (4 * bg + r) h hh)
        (kSeq (pArr m c) (4 * bg + r) h hh) T e d : ℝ) : EReal)
  max : ∀ (r h : ℕ) (hr : r < 4) (hh : h < 4) (a : Fin 8) (b : Fin 128), xs1 (ix3 ⟨4 * r + h, by omega⟩ a b)
    = ((Mh (iSeq (gArr m c) (4 * bg + r) h hh) (fSeq (gArr m c) (4 * bg + r) h hh) T : ℝ) : EReal)

/-- Zeros are the recurrence before the first position. -/
theorem carried_zero (bg : ℕ) : Carried m c bg 0 (k0_pay2 (F := Ideal)) (k0_pay3 (F := Ideal)) where
  mem r h hr hh e d := by rw [zeroC_apply]; simp [Cm]
  max r h hr hh a b := by rw [zeroM_apply]; simp [Mh]

section
variable (fin : Finite (pArr m c) (gArr m c)) (t : Fin cfg0.N) (xs0 : Vec Ideal S16x272x256 .f32) (xs1 : Vec Ideal S16x8x128 .f32)
  (hc : Carried m c (t.val / 8) (256 * (t.val % 8)) xs0 xs1) (r h : ℕ) (hr : r < 4) (hh : h < 4)
include fin

theorem gate_f (j : Fin 256) : View.ld (iblk m c 3 t) (gateR r hr) (ix3 0 j ⟨4 + h, lt_f hh⟩)
    = ((fSeq (gArr m c) (4 * (t.val / 8) + r) h hh (256 * (t.val % 8) + j.val) : ℝ) : EReal) := by
  rw [ld_gate, iblk3_apply, fin.g_real _ _ (show 4 + h < 8 by omega)]
  rfl
theorem gate_i (j : Fin 256) : View.ld (iblk m c 3 t) (gateR r hr) (ix3 0 j ⟨h, lt_i hh⟩)
    = ((iSeq (gArr m c) (4 * (t.val / 8) + r) h hh (256 * (t.val % 8) + j.val) : ℝ) : EReal) := by
  rw [ld_gate, iblk3_apply, fin.g_real _ _ (show h < 8 by omega)]
  rfl
theorem key_k (j d : Fin 256) : View.ld (iblk m c 1 t) (blkR r h hr hh) (ix3 0 j d)
    = ((kSeq (pArr m c) (4 * (t.val / 8) + r) h hh (256 * (t.val % 8) + j.val) d : ℝ) : EReal) := by
  rw [ld_blk, iblk1_apply, fin.p_real _ _ (show 1024 + (256 * h + d.val) < 3072 by omega)]
  rfl
theorem val_v (e : Fin 272) (j : Fin 256) : vT (F := Ideal) (View.ld (iblk m c 2 t) (blkR r h hr hh)) (ix2 e j)
    = ((vSeq (pArr m c) (4 * (t.val / 8) + r) h hh (256 * (t.val % 8) + j.val) e : ℝ) : EReal) := by
  refine (vT_apply _ e j).trans ?_
  unfold vSeq
  split
  · rw [ld_blk, iblk2_apply]
    exact fin.p_real _ _ (show 2048 + (256 * h + e.val) < 3072 by omega)
  · split <;> simp
theorem qry_q (j d : Fin 256) : qS (F := Ideal) (View.ld (iblk m c 0 t) (blkR r h hr hh)) (ix2 j d)
    = ((qSeq (pArr m c) (4 * (t.val / 8) + r) h hh (256 * (t.val % 8) + j.val) d : ℝ) : EReal) := by
  refine (qS_apply _ j d).trans ?_
  rw [ld_blk, iblk0_apply, fin.p_real _ _ (show 256 * h + d.val < 3072 by omega), ← EReal.coe_mul]
  rfl

include hc

theorem GOut_value (j e : Fin 256) :
    GOut (iblk m c 0 t) (iblk m c 1 t) (iblk m c 2 t) (iblk m c 3 t) (iblk m c 4 t) xs0 xs1 (ix3 ⟨r, hr⟩ j ⟨256 * h + e.val, by omega⟩)
      = result (pArr m c) (gArr m c) (4 * (t.val / 8) + r) h hh (fun e => wArr m c ⟨256 * h + e.val, by omega⟩)
          (256 * (t.val % 8) + j.val) e := by
  rw [GOut_at _ _ _ _ _ _ _ r h hr hh]
  unfold pOut outB
  rw [rmsOut_apply, ld_w _ r h hh, iblk4_apply]
  unfold result hSeq
  congr 1
  funext d
  exact hT_apply h hh _ _ _ _ _ _ _ _ _ _ _ _ (gate_f m c fin t r h hr hh) (gate_i m c fin t r h hr hh)
    ((ld_m _ _ _ _ _).trans (hc.max r h hr hh 0 0)) (key_k m c fin t r h hr hh) (val_v m c fin t r h hr hh)
    (fun e d => (ld_ct _ _ _ _ _).trans (hc.mem r h hr hh e d)) (qry_q m c fin t r h hr hh) d j

theorem carried_next : Carried m c (t.val / 8) (256 * (t.val % 8) + 256)
    (GCt (iblk m c 1 t) (iblk m c 2 t) (iblk m c 3 t) xs0 xs1) (GM (iblk m c 3 t) xs1) where
  mem r h hr hh e d := by
    rw [GCt_at _ _ _ _ _ r h hr hh]
    exact ctOut_apply h hh _ _ _ _ _ _ _ _ _ _ (gate_f m c fin t r h hr hh) (gate_i m c fin t r h hr hh)
      ((ld_m _ _ _ _ _).trans (hc.max r h hr hh 0 0)) (key_k m c fin t r h hr hh) (val_v m c fin t r h hr hh)
      (fun e d => (ld_ct _ _ _ _ _).trans (hc.mem r h hr hh e d)) e d
  max r h hr hh a b := by
    rw [GM_at _ _ r h hr hh]
    exact mOut_apply h hh _ _ _ _ _ (gate_f m c fin t r h hr hh) (gate_i m c fin t r h hr hh)
      ((ld_m _ _ _ _ _).trans (hc.max r h hr hh 0 0)) a b
end

/-- The result block a point leaves. -/
def BlockValue (t : ℕ) (o : Vec Ideal S4x256x1024 .bf16) : Prop :=
  ∀ (r h : ℕ) (hr : r < 4) (hh : h < 4) (j e : Fin 256), o (ix3 ⟨r, hr⟩ j ⟨256 * h + e.val, by omega⟩)
      = result (pArr m c) (gArr m c) (4 * (t / 8) + r) h hh (fun e => wArr m c ⟨256 * h + e.val, by omega⟩)
          (256 * (t % 8) + j.val) e

/-- After each grid point: the carried buffers and the result block. -/
theorem point_value (fin : Finite (pArr m c) (gArr m c)) (n : ℕ) : ∀ hn : n < cfg0.N,
    Carried m c (n / 8) (256 * (n % 8) + 256) (outsAt0 m c n hn).2.1 (outsAt0 m c n hn).2.2 ∧ BlockValue m c n (outsAt0 m c n hn).1 := by
  have first : ∀ (n : ℕ) (hn : n < cfg0.N), n % 8 = 0 →
      Carried m c (n / 8) (256 * (n % 8) + 256) (outsAt0 m c n hn).2.1 (outsAt0 m c n hn).2.2 ∧ BlockValue m c n (outsAt0 m c n hn).1 := by
    intro n hn h0
    have hz : Carried m c (n / 8) (256 * (n % 8)) (k0_pay2 (F := Ideal)) (k0_pay3 (F := Ideal)) := by rw [h0]; exact carried_zero m c _
    rw [outsAt_A m c ⟨n, hn⟩ h0]
    exact ⟨carried_next m c fin ⟨n, hn⟩ _ _ hz, fun r h hr hh j e => GOut_value m c fin ⟨n, hn⟩ _ _ hz r h hr hh j e⟩
  induction n with
  | zero => exact fun hn => first 0 hn rfl
  | succ n ih =>
    intro hn
    by_cases h0 : (n + 1) % 8 = 0
    · exact first _ hn h0
    · have hp := (ih (Nat.lt_of_succ_lt hn)).1
      rw [show n / 8 = (n + 1) / 8 by omega, show 256 * (n % 8) + 256 = 256 * ((n + 1) % 8) by omega] at hp
      rw [outsAt_B m c ⟨n + 1, hn⟩ h0 n (Nat.lt_of_succ_lt hn) rfl]
      exact ⟨carried_next m c fin ⟨n + 1, hn⟩ _ _ hp, fun r h hr hh j e => GOut_value m c fin ⟨n + 1, hn⟩ _ _ hp r h hr hh j e⟩

end Cert.KernelIdeal.Stream
-- ==== Proof.KernelArray.lean ====
/-
  The kernel's result array on real inputs, entry by entry.
-/
module

public import proofs.«01_k».proof.Proof.KernelRun
public import proofs.«01_k».proof.Proof.Gen.KernelIdeal.Value

@[expose] public section

set_option maxRecDepth 16384

noncomputable section

namespace Cert.KernelIdeal.Stream

open Idealize.ShloMosaic Idealize.ShloMosaic.TcCoe Cert.KernelIdeal Cert.KernelIdeal.Gen Cert.Recurrence

variable (m : (ℓ : Loc nD τ sig) → Buf (Elt Ideal) ℓ) (c : Dev nD)

/-- Entry `(b, t, 256 h + e)` of the kernel's result is head `h`'s normalised read-out at position `t` of row `b`. -/
theorem array_value (fin : Finite (pArr m c) (gArr m c)) (b h : ℕ) (hb : b < 16) (hh : h < 4) (t : Fin 2048) (e : Fin 256) :
    Value.G5 m c (ix3 ⟨b, hb⟩ t ⟨256 * h + e.val, by omega⟩)
      = result (pArr m c) (gArr m c) b h hh (fun e => wArr m c ⟨256 * h + e.val, by omega⟩) t.val e := by
  have hp : Value.pt5Of (ix3 ⟨b, hb⟩ t ⟨256 * h + e.val, by omega⟩) = 8 * (b / 4) + t.val / 256 := by
    show 8 * (b / 4 - 0) + 1 * (t.val / 256 - 0) + 1 * ((256 * h + e.val) / 1024 - 0) = _
    omega
  have hl : Value.loc5Of (ix3 ⟨b, hb⟩ t ⟨256 * h + e.val, by omega⟩)
      = ix3 ⟨b % 4, Nat.mod_lt _ (by decide)⟩ ⟨t.val % 256, Nat.mod_lt _ (by decide)⟩ ⟨256 * h + e.val, by omega⟩ := by
    funext a
    match a with
    | ⟨0, _⟩ => rfl
    | ⟨1, _⟩ => rfl
    | ⟨2, _⟩ => exact Fin.ext (show (256 * h + e.val) % 1024 = 256 * h + e.val by omega)
  have hn : 8 * (b / 4) + t.val / 256 < cfg0.N := lt_of_lt_of_eq (show _ < 32 by omega) N_0.symm
  unfold Value.G5
  rw [dif_pos (by rw [hp]; exact hn), Value.fold0_congr m c _ _ _ (by omega) hp, ← Value.outsAt0_sweep m c _ hn, hl]
  rw [(point_value m c fin _ hn).2 (b % 4) h (Nat.mod_lt _ (by decide)) hh ⟨t.val % 256, Nat.mod_lt _ (by decide)⟩ e]
  rw [show 4 * ((8 * (b / 4) + t.val / 256) / 8) + b % 4 = b by omega,
    show 256 * ((8 * (b / 4) + t.val / 256) % 8) + (t.val % 256) = t.val by omega]

end Cert.KernelIdeal.Stream
-- ==== Proof.RefCumsum.lean ====
/-
  A running sum of floats, as the host writes it (a window of the whole axis, padded low by one less), over the extended
  reals: the sum of the entries up to and including the position.
-/
module

public import proofs.«01_k».proof.Proof.Gen.ReferenceIdeal.Step
public import proofs.«01_k».proof.Proof.Math
public import Idealize.ShloMosaic.PureOps.Ideal
public import Idealize.ShloMosaic.Lib.Pointwise

@[expose] public section

noncomputable section

namespace Cert.ReferenceIdeal.Chunk

open Idealize.ShloMosaic Cert.ReferenceIdeal Cert.ReferenceIdeal.Gen Cert.Recurrence

theorem foldl_add {α : Type} (l : List α) (g : α → EReal) (z : EReal) :
    l.foldl (fun r n => r + g n) z = z + (l.map g).sum := by
  induction l generalizing z with
  | nil => simp
  | cons a l ih => rw [List.foldl_cons, ih, List.map_cons, List.sum_cons, add_assoc]

/-- The window's positions: position `n` is `(0, 0, n)`. -/
theorem window_pos (n : Fin (⟨3, ![1, 1, 64]⟩ : Shape).numel) :
    ((⟨3, ![1, 1, 64]⟩ : Shape).rowMajor.symm n 0).val = 0 ∧ ((⟨3, ![1, 1, 64]⟩ : Shape).rowMajor.symm n 1).val = 0
      ∧ ((⟨3, ![1, 1, 64]⟩ : Shape).rowMajor.symm n 2).val = n.val := by
  have h := rowMajor_val3 ((⟨3, ![1, 1, 64]⟩ : Shape).rowMajor.symm n) 64 64 rfl rfl
  rw [Equiv.apply_symm_apply] at h
  have h0 : ((⟨3, ![1, 1, 64]⟩ : Shape).rowMajor.symm n 0).val < 1 := ((⟨3, ![1, 1, 64]⟩ : Shape).rowMajor.symm n 0).isLt
  have h1 : ((⟨3, ![1, 1, 64]⟩ : Shape).rowMajor.symm n 1).val < 1 := ((⟨3, ![1, 1, 64]⟩ : Shape).rowMajor.symm n 1).isLt
  exact ⟨by omega, by omega, by omega⟩

theorem sum_shift (F : ℕ → EReal) (t : ℕ) (ht : t < 64) :
    ∑ n ∈ Finset.range 64, (if 63 ≤ t + n then F (t + n - 63) else 0) = ∑ s ∈ Finset.range (t + 1), F s := by
  rw [show 64 = (63 - t) + (t + 1) by omega, Finset.sum_range_add, Finset.sum_eq_zero, zero_add]
  · refine Finset.sum_congr rfl fun s _ => ?_
    rw [if_pos (by omega)]
    congr 1
    omega
  · intro n hn
    rw [Finset.mem_range] at hn
    exact if_neg (by omega)

/-- The running sum along the last axis. -/
theorem cumsum_apply (x : S16x4x64.Idx → EReal) (h : S16x4x64.ReduceWindows ![1, 1, 64] ![1, 1, 1] ![0, 0, 63] ![0, 0, 0] S16x4x64)
    (a : Fin 16) (b : Fin 4) (t : Fin 64) :
    Ideal.hostReduceWindowAdd ![1, 1, 64] ![1, 1, 1] ![0, 0, 63] ![0, 0, 0] h x 0 (ix3 a b t)
      = ∑ s ∈ Finset.range (t.val + 1), if hs : s < 64 then x (ix3 a b ⟨s, hs⟩) else 0 := by
  unfold Ideal.hostReduceWindowAdd Host.reduceWindow
  dsimp only
  rw [foldl_add, zero_add, ← List.ofFn_eq_map, List.sum_ofFn]
  rw [← sum_shift _ t.val t.isLt, Finset.sum_range]
  refine Finset.sum_congr rfl fun n _ => ?_
  obtain ⟨w0, w1, w2⟩ := window_pos n
  have hn : n.val < 64 := n.isLt
  split
  · next hin =>
    have h2 := hin 2
    change 63 ≤ t.val * 1 + _ ∧ t.val * 1 + _ - 63 < 64 at h2
    erw [w2] at h2
    rw [if_pos (by omega), dif_pos (by omega)]
    refine congrArg x (funext fun i => Fin.ext ?_)
    match i with
    | ⟨0, _⟩ => show a.val * 1 + _ - 0 = a.val; erw [w0]; omega
    | ⟨1, _⟩ => show b.val * 1 + _ - 0 = b.val; erw [w1]; omega
    | ⟨2, _⟩ => show t.val * 1 + _ - 63 = t.val + n.val - 63; erw [w2]; omega
  · next hin =>
    rw [if_neg fun hle => hin fun i => ?_]
    match i with
    | ⟨0, _⟩ => show 0 ≤ a.val * 1 + _ ∧ a.val * 1 + _ - 0 < 16; erw [w0]; omega
    | ⟨1, _⟩ => show 0 ≤ b.val * 1 + _ ∧ b.val * 1 + _ - 0 < 4; erw [w1]; omega
    | ⟨2, _⟩ => show 63 ≤ t.val * 1 + _ ∧ t.val * 1 + _ - 63 < 64; erw [w2]; omega

end Cert.ReferenceIdeal.Chunk
-- ==== Proof.RefChunk.lean ====
/-
  One trip of the reference's scan on real inputs: where the trip's chunk and the carried memory, normaliser and running
  maximum are real, the values it computes for one batch row and head are the recurrence (Math.lean) at the chunk's
  positions.
-/
module

public import proofs.«01_k».proof.Proof.RefCumsum
public import proofs.«01_k».proof.Proof.Data
public import Idealize.ShloMosaic.Lib.WordCmp

@[expose] public section

noncomputable section

namespace Cert.ReferenceIdeal.Chunk

open Idealize.ShloMosaic Idealize.ShloMosaic.TcCoe Cert.ReferenceIdeal Cert.ReferenceIdeal.Gen Cert.ReferenceIdeal.Step Cert.Recurrence

/-- A column of the memory is one of the 272 columns. -/
theorem lt_v (e : Fin 256) : e.val < 272 := by omega

/-- The causal mask. -/
theorem mask_apply (t s : Fin 64) : K_main_v24 (F := Ideal) (ix2 t s) = if s.val < t.val + 1 then 1#1 else 0#1 := by
  pointwise [K_main_v24, K_main_call0_v4, K_main_call0_v2, K_main_call0_v0, K_main_call0_v1, K_main_call0_c, K_main_call0_v3,
    K_main_v23, K_main_c, K_main_call0_v5, K_main_call0_c_0]
  have hs : (BitVec.ofNat 32 s.val).toInt = (s.val : ℤ) := WordCmp.toInt_ofNat_of_lt (by omega)
  have ht : (BitVec.ofNat 32 t.val).toInt = (t.val : ℤ) := WordCmp.toInt_ofNat_of_lt (by omega)
  rw [show IntOp.addi (BitVec.ofNat 32 t.val) 0#32 = BitVec.ofNat 32 t.val from BitVec.add_zero _, WordCmp.cmpi_sge_eq, hs, ht]
  by_cases hst : s.val < t.val + 1
  · rw [if_pos hst, decide_eq_true (by omega), Scalar.select, if_pos (by decide)]
  · rw [if_neg hst, decide_eq_false (by omega), Scalar.select, if_neg (by decide)]

/-- The division by the larger of two absolute values, on real numbers. -/
theorem div_abs (x y m : ℝ) : Ideal.div (x : EReal) (max (FloatOps.absf (F := Ideal) (φ := .f32) (y : EReal)) (Ideal.exp (-(m : EReal))))
    = ((x * (1 / max |y| (Real.exp (-m))) : ℝ) : EReal) := by
  have e1 : FloatOps.absf (F := Ideal) (φ := .f32) (y : EReal) = ((|y| : ℝ) : EReal) := by
    show max (y : EReal) (-(y : EReal)) = _
    rw [← EReal.coe_neg, abs_eq_max_neg]
    exact (EReal.coe_strictMono.monotone.map_max).symm
  have hp : max |y| (Real.exp (-m)) ≠ 0 := (lt_of_lt_of_le (Real.exp_pos _) (le_max_right _ _)).ne'
  rw [e1, ← EReal.coe_neg, Ideal.exp_coe, show max ((|y| : ℝ) : EReal) ((Real.exp (-m) : ℝ) : EReal) = ((max |y| (Real.exp (-m)) : ℝ) : EReal) from
    (EReal.coe_strictMono.monotone.map_max).symm, Ideal.div_coe hp, ← EReal.coe_mul]

section
variable (n : ℕ) (st : State Ideal) (b : Fin 16) (h : Fin 4) (i f : ℕ → ℝ) (vr : ℕ → Fin 272 → ℝ) (kr qr : ℕ → Fin 256 → ℝ) (T : ℕ)

variable (hF : ∀ j : Fin 64, b27 n st (ix3 b h j) = ((f (T + j.val) : ℝ) : EReal))
include hF

theorem b30_apply (j : Fin 64) : b30 n st (ix3 b h j) = ((cum f T (j.val + 1) : ℝ) : EReal) := by
  have e : b30 n st (ix3 b h j) = Ideal.hostReduceWindowAdd ![1, 1, 64] ![1, 1, 1] ![0, 0, 63] ![0, 0, 0]
      reduceWindows_S16x4x64_S16x4x64_w1s1p0_0_w1s1p0_0_w64s1p63_0 (b27 n st) 0 (ix3 b h j) := by
    have hz : b29 n st (Shape.Idx.first h_S_) = (0 : EReal) := by
      show Ideal.ofBits .f32 (0x00000000 : BitVec 32) = 0
      simp [Ideal.ofBits, Ideal.ieee]
    show Ideal.hostReduceWindowAdd ![1, 1, 64] ![1, 1, 1] ![0, 0, 63] ![0, 0, 0]
      reduceWindows_S16x4x64_S16x4x64_w1s1p0_0_w1s1p0_0_w64s1p63_0 (b27 n st) (b29 n st (Shape.Idx.first h_S_)) (ix3 b h j) = _
    rw [hz]
  rw [e, cumsum_apply]
  unfold cum
  rw [coe_sum]
  refine Finset.sum_congr rfl fun s hs => ?_
  rw [Finset.mem_range] at hs
  rw [dif_pos (by omega), hF]

variable (hI : ∀ j : Fin 64, b22 n st (ix3 b h j) = ((i (T + j.val) : ℝ) : EReal))

theorem b77_apply : b77 n st (ix2 b h) = ((cum f T 64 : ℝ) : EReal) := by
  have h63 := b30_apply n st b h f T hF 63
  pointwise [b77, b76]
  exact h63

include hI

theorem b43_apply (t s : Fin 64) : b43 n st (ix4 b h t s) =
    if s.val < t.val + 1 then ((cum f T (t.val + 1) - cum f T (s.val + 1) + i (T + s.val) : ℝ) : EReal) else ⊥ := by
  pointwise [b43, b42, b41, b40, b39, b38, b37, b36, b35, b34, b33, b32, b31]
  rw [mask_apply, b30_apply n st b h f T hF, b30_apply n st b h f T hF, hI, ofBits_negInf]
  split
  · rw [Scalar.select, if_pos (by decide), ← EReal.coe_sub, ← EReal.coe_add]
  · rw [Scalar.select, if_neg (by decide)]

theorem b81_apply (s : Fin 64) : b81 n st (ix3 b h s) = ((cum f T 64 - cum f T (s.val + 1) + i (T + s.val) : ℝ) : EReal) := by
  pointwise [b81, b80, b79, b78]
  rw [b77_apply n st b h f T hF, b30_apply n st b h f T hF, hI, ← EReal.coe_sub, ← EReal.coe_add]

variable (hM : st.main_v29_9 (ix2 b h) = ((Mh i f T : ℝ) : EReal))
include hM

omit hI in
theorem b46_apply (j : Fin 64) : b46 n st (ix3 b h j) = ((cum f T (j.val + 1) + Mh i f T : ℝ) : EReal) := by
  pointwise [b46, b45, b44]
  rw [b30_apply n st b h f T hF, hM, ← EReal.coe_add]

/-- The running maximum at a query is the recurrence's after it. -/
theorem b49_apply (j : Fin 64) : b49 n st (ix3 b h j) = ((Mh i f (T + (j.val + 1)) : ℝ) : EReal) := by
  pointwise [b49, b48, b47]
  rw [b46_apply n st b h i f T hF hM, ofBits_negInf]
  exact max_chunk i f T 64 (j.val + 1) (by omega) _ fun s => b43_apply n st b h i f T hF hI j s

/-- The running maximum after the chunk is the recurrence's. -/
theorem b85_apply : b85 n st (ix2 b h) = ((Mh i f (T + 64) : ℝ) : EReal) := by
  pointwise [b85, b84, b83, b82]
  rw [b77_apply n st b h f T hF, hM, ofBits_negInf, ← EReal.coe_add]
  exact max_chunk i f T 64 64 le_rfl _ fun s => by rw [if_pos s.isLt]; exact b81_apply n st b h i f T hF hI s

theorem b53_apply (t s : Fin 64) : b53 n st (ix4 b h t s) =
    ((if s.val < t.val + 1 then Real.exp (cum f T (t.val + 1) - cum f T (s.val + 1) + i (T + s.val) - Mh i f (T + (t.val + 1))) else 0 : ℝ) : EReal) := by
  pointwise [b53, b52, b51, b50]
  rw [b43_apply n st b h i f T hF hI, b49_apply n st b h i f T hF hI hM]
  split
  · rw [← EReal.coe_sub, Ideal.exp_coe]
  · rw [EReal.bot_sub, Ideal.exp_bot, EReal.coe_zero]

theorem b55_apply (j : Fin 64) : b55 n st (ix3 b h j) =
    ((Real.exp (cum f T (j.val + 1) + Mh i f T - Mh i f (T + (j.val + 1))) : ℝ) : EReal) := by
  pointwise [b55, b54]
  rw [b46_apply n st b h i f T hF hM, b49_apply n st b h i f T hF hI hM, ← EReal.coe_sub, Ideal.exp_coe]

theorem b89_apply (s : Fin 64) : b89 n st (ix3 b h s) =
    ((Real.exp (cum f T 64 - cum f T (s.val + 1) + i (T + s.val) - Mh i f (T + 64)) : ℝ) : EReal) := by
  pointwise [b89, b88, b87, b86]
  rw [b81_apply n st b h i f T hF hI, b85_apply n st b h i f T hF hI hM, ← EReal.coe_sub, Ideal.exp_coe]

theorem b92_apply : b92 n st (ix2 b h) = ((Real.exp (cum f T 64 + Mh i f T - Mh i f (T + 64)) : ℝ) : EReal) := by
  pointwise [b92, b91, b90]
  rw [b77_apply n st b h f T hF, hM, b85_apply n st b h i f T hF hI hM, ← EReal.coe_add, ← EReal.coe_sub, Ideal.exp_coe]

variable (hK : ∀ (j : Fin 64) (d : Fin 256), b11 n st (ix4 b h j d) = ((kr (T + j.val) d : ℝ) : EReal))
  (hV : ∀ (j : Fin 64) (e : Fin 256), b17 n st (ix4 b h j e) = ((vr (T + j.val) ⟨e.val, lt_v e⟩ : ℝ) : EReal))
  (hV1 : ∀ t, vr t 256 = 1)
  (hC : ∀ (d e : Fin 256), st.main_v29_7 (ix4 b h d e) = ((Cm i f vr kr T ⟨e.val, lt_v e⟩ d : ℝ) : EReal))
  (hN : ∀ (d : Fin 256), st.main_v29_8 (ix3 b h d) = ((Cm i f vr kr T 256 d : ℝ) : EReal))
include hK

/-- The normaliser after the chunk is the recurrence's memory of ones. -/
theorem b105_apply (hV1 : ∀ t, vr t 256 = 1) (hN : ∀ (d : Fin 256), st.main_v29_8 (ix3 b h d) = ((Cm i f vr kr T 256 d : ℝ) : EReal))
    (d : Fin 256) : b105 n st (ix3 b h d) = ((Cm i f vr kr (T + 64) 256 d : ℝ) : EReal) := by
  pointwise [b105, b104, b103, b102, b101, dot_S16x4x64_S16x4x64x256_S16x4x256_2_2_n_3_01_01]
  simp only [b92_apply n st b h i f T hF hI hM, b89_apply n st b h i f T hF hI hM, hK, hN, ← EReal.coe_mul, ← coe_sum, ← EReal.coe_add]
  rw [Cm_chunk, Finset.sum_range]
  simp only [hV1, one_mul]

include hV hC

/-- The memory after the chunk is the recurrence's. -/
theorem b100_apply (d e : Fin 256) : b100 n st (ix4 b h d e) = ((Cm i f vr kr (T + 64) ⟨e.val, lt_v e⟩ d : ℝ) : EReal) := by
  pointwise [b100, b99, b98, b97, b96, b95, b94, b93, dot_S16x4x64x256_S16x4x64x256_S16x4x256x256_2_2_3_3_01_01]
  simp only [b92_apply n st b h i f T hF hI hM, b89_apply n st b h i f T hF hI hM, hK, hV, hC, ← EReal.coe_mul, ← coe_sum, ← EReal.coe_add]
  rw [Cm_chunk, Finset.sum_range]
  refine congrArg _ (congrArg _ (Finset.sum_congr rfl fun s _ => ?_))
  ring

variable (hQ : ∀ (j : Fin 64) (d : Fin 256), b5 n st (ix4 b h j d) = ((qr (T + j.val) d : ℝ) : EReal))
include hQ

omit hV hC in
theorem b57_apply (t s : Fin 64) : b57 n st (ix4 b h t s) = (((∑ d, qr (T + t.val) d * kr (T + s.val) d) *
    (if s.val < t.val + 1 then Real.exp (cum f T (t.val + 1) - cum f T (s.val + 1) + i (T + s.val) - Mh i f (T + (t.val + 1))) else 0) : ℝ) : EReal) := by
  pointwise [b57, b56, dot_S16x4x64x256_S16x4x64x256_S16x4x64x64_3_3_2_2_01_01]
  simp only [b53_apply n st b h i f T hF hI hM, hK, hQ, ← EReal.coe_mul, ← coe_sum]

/-- The numerator is the recurrence's read-out. -/
theorem b63_apply (t : Fin 64) (e : Fin 256) : b63 n st (ix4 b h t e) = ((num i f vr kr qr (T + t.val) ⟨e.val, lt_v e⟩ : ℝ) : EReal) := by
  pointwise [b63, b62, b61, b60, b59, b58, dot_S16x4x64x64_S16x4x64x256_S16x4x64x256_3_2_2_3_01_01,
    dot_S16x4x64x256_S16x4x256x256_S16x4x64x256_3_2_2_3_01_01]
  simp only [b57_apply n st b h i f kr qr T hF hI hM hK hQ, b55_apply n st b h i f T hF hI hM, hV, hC, hQ, ← EReal.coe_mul, ← coe_sum, ← EReal.coe_add]
  rw [num_chunk, sum_range_ite 64 (t.val + 1) (by omega), add_comm]
  refine congrArg _ (congrArg₂ _ ?_ (Finset.sum_congr rfl fun s _ => ?_))
  · exact congrArg _ (Finset.sum_congr rfl fun d _ => mul_comm _ _)
  · rw [show (∑ d, qr (T + t.val) d * kr (T + s.val) d) = ∑ d, kr (T + s.val) d * qr (T + t.val) d from
      Finset.sum_congr rfl fun d _ => mul_comm _ _]
    split <;> ring

omit hV hC in
/-- The denominator is the recurrence's read-out of the memory of ones. -/
theorem b68_apply (hV1 : ∀ t, vr t 256 = 1) (hN : ∀ (d : Fin 256), st.main_v29_8 (ix3 b h d) = ((Cm i f vr kr T 256 d : ℝ) : EReal))
    (t : Fin 64) : b68 n st (ix3 b h t) = ((num i f vr kr qr (T + t.val) 256 : ℝ) : EReal) := by
  pointwise [b68, b67, b66, b65, b64, dot_S16x4x64x256_S16x4x256_S16x4x64_3_2_2_n_01_01]
  simp only [b57_apply n st b h i f kr qr T hF hI hM hK hQ, b55_apply n st b h i f T hF hI hM, hN, hQ, ← EReal.coe_mul, ← coe_sum, ← EReal.coe_add]
  rw [num_chunk, sum_range_ite 64 (t.val + 1) (by omega), add_comm]
  refine congrArg _ (congrArg₂ _ ?_ (Finset.sum_congr rfl fun s _ => ?_))
  · exact congrArg _ (Finset.sum_congr rfl fun d _ => mul_comm _ _)
  · rw [show (∑ d, qr (T + t.val) d * kr (T + s.val) d) = ∑ d, kr (T + s.val) d * qr (T + t.val) d from
      Finset.sum_congr rfl fun d _ => mul_comm _ _, hV1]
    split <;> ring

/-- The normalised read-out is the recurrence's. -/
theorem b75_apply (hV1 : ∀ t, vr t 256 = 1) (hN : ∀ (d : Fin 256), st.main_v29_8 (ix3 b h d) = ((Cm i f vr kr T 256 d : ℝ) : EReal))
    (t : Fin 64) (e : Fin 256) : b75 n st (ix4 b h t e) = ((hRead i f vr kr qr (T + t.val) e : ℝ) : EReal) := by
  pointwise [b75, b74, b73, b72, b71, b70, b69]
  rw [b63_apply n st b h i f vr kr qr T hF hI hM hK hV hC hQ, b68_apply n st b h i f vr kr qr T hF hI hM hK hQ hV1 hN,
    b49_apply n st b h i f T hF hI hM]
  exact div_abs _ _ _
end

end Cert.ReferenceIdeal.Chunk
-- ==== Proof.RefReads.lean ====
/-
  The reference's chunk arrays, entry by entry, and the chunk that a trip of its scan takes from each of them.
-/
module

public import proofs.«01_k».proof.Proof.RefChunk
public import Idealize.ShloMosaic.Lib.DynamicIndex
public import Idealize.ShloMosaic.Lib.Pipeline.Value

@[expose] public section

set_option maxRecDepth 16384

noncomputable section

namespace Cert.ReferenceIdeal.Chunk

open Idealize.ShloMosaic Cert.ReferenceIdeal Cert.ReferenceIdeal.Gen Cert.ReferenceIdeal.Step Cert.Recurrence

section arrays
variable (x : (⟨S32768x6144, .bf16⟩ : BufTy).Contents (Elt Ideal)) (y : (⟨S32768x128, .f32⟩ : BufTy).Contents (Elt Ideal))
  (n : Fin 32) (b : Fin 16) (h : Fin 4) (j : Fin 64) (d : Fin 256)

theorem ofBits_sixteenth : Ideal.ofBits .f32 0x3D800000#32 = ((1 / 16 : ℝ) : EReal) := by
  simp [Ideal.ofBits, Ideal.ieee, -EReal.coe_mul]
  norm_num

theorem q_apply : A_main_v14 x y (ix5 n b h j d) = x (ix2 (row b.val (64 * n.val + j.val)) ⟨256 * h.val + d.val, by omega⟩) * ((1 / 16 : ℝ) : EReal) := by
  pointwise [A_main_v14, A_main_v13, A_main_v12, A_main_v8, A_main_v2, A_main_v1, A_main_v0, K_main_v11, K_main_cst]
  refine (congrArg _ ofBits_sixteenth).trans ?_
  exact congrArg (fun z => z * ((1 / 16 : ℝ) : EReal)) (congrArg x (congrArg₂ ix2 (Fin.ext (by dsimp only [row]; omega)) (Fin.ext (by dsimp only; omega))))

theorem k_apply : A_main_v16 x y (ix5 n b h j d) = x (ix2 (row b.val (64 * n.val + j.val)) ⟨1024 + (256 * h.val + d.val), by omega⟩) := by
  pointwise [A_main_v16, A_main_v15, A_main_v9, A_main_v3, A_main_v1, A_main_v0]
  exact congrArg _ (congrArg₂ ix2 (Fin.ext (by dsimp only [row]; omega)) (Fin.ext (by dsimp only; try omega)))

theorem v_apply : A_main_v18 x y (ix5 n b h j d) = x (ix2 (row b.val (64 * n.val + j.val)) ⟨2048 + (256 * h.val + d.val), by omega⟩) := by
  pointwise [A_main_v18, A_main_v17, A_main_v10, A_main_v4, A_main_v1, A_main_v0]
  exact congrArg _ (congrArg₂ ix2 (Fin.ext (by dsimp only [row]; omega)) (Fin.ext (by dsimp only; try omega)))

theorem i_apply : A_main_v20 x y (ix4 n b h j) = y (ix2 (row b.val (64 * n.val + j.val)) ⟨h.val, lt_i h.isLt⟩) := by
  pointwise [A_main_v20, A_main_v19, A_main_v6, A_main_v5]
  exact congrArg _ (congrArg₂ ix2 (Fin.ext (by dsimp only [row]; omega)) (Fin.ext (by dsimp only; try omega)))

theorem f_apply : A_main_v22 x y (ix4 n b h j) = y (ix2 (row b.val (64 * n.val + j.val)) ⟨4 + h.val, lt_f h.isLt⟩) := by
  pointwise [A_main_v22, A_main_v21, A_main_v7, A_main_v5]
  exact congrArg _ (congrArg₂ ix2 (Fin.ext (by dsimp only [row]; omega)) (Fin.ext (by dsimp only; try omega)))
end arrays

section trips
variable (n : Fin 32) (st : State Ideal) (b : Fin 16) (h : Fin 4) (j : Fin 64) (d : Fin 256)

theorem fits5 : (S32x16x4x64x256).Slices ![n.val, 0, 0, 0, 0] S1x16x4x64x256 :=
  ⟨rfl, fun a => match a with
    | ⟨0, _⟩ => show n.val + 1 ≤ 32 by omega
    | ⟨1, _⟩ => show 0 + 16 ≤ 16 from le_rfl
    | ⟨2, _⟩ => show 0 + 4 ≤ 4 from le_rfl
    | ⟨3, _⟩ => show 0 + 64 ≤ 64 from le_rfl
    | ⟨4, _⟩ => show 0 + 256 ≤ 256 from le_rfl⟩

theorem fits4 : (S32x16x4x64).Slices ![n.val, 0, 0, 0] S1x16x4x64 :=
  ⟨rfl, fun a => match a with
    | ⟨0, _⟩ => show n.val + 1 ≤ 32 by omega
    | ⟨1, _⟩ => show 0 + 16 ≤ 16 from le_rfl
    | ⟨2, _⟩ => show 0 + 4 ≤ 4 from le_rfl
    | ⟨3, _⟩ => show 0 + 64 ≤ 64 from le_rfl⟩

theorem start_val : (BitVec.ofNat 32 n.val).toInt = (n.val : ℤ) := toInt_ofNat_of_lt (by omega)

theorem b5_apply : b5 n.val st (ix4 b h j d) = st.main_v29_0 (ix5 n b h j d) := by
  have e : b4 n.val st = extractStridedSlice S1x16x4x64x256 ![n.val, 0, 0, 0, 0] st.main_v29_0 (fits5 n) :=
    Host.dynamicSlice_eq_extractStridedSlice _ _ _ _ _ _ fun a => match a with
      | ⟨0, _⟩ => start_val n
      | ⟨1, _⟩ => rfl
      | ⟨2, _⟩ => rfl
      | ⟨3, _⟩ => rfl
      | ⟨4, _⟩ => rfl
  unfold b5
  rw [e]
  pointwise []

theorem b11_apply : b11 n.val st (ix4 b h j d) = st.main_v29_1 (ix5 n b h j d) := by
  have e : b10 n.val st = extractStridedSlice S1x16x4x64x256 ![n.val, 0, 0, 0, 0] st.main_v29_1 (fits5 n) :=
    Host.dynamicSlice_eq_extractStridedSlice _ _ _ _ _ _ fun a => match a with
      | ⟨0, _⟩ => start_val n
      | ⟨1, _⟩ => rfl
      | ⟨2, _⟩ => rfl
      | ⟨3, _⟩ => rfl
      | ⟨4, _⟩ => rfl
  unfold b11
  rw [e]
  pointwise []

theorem b17_apply : b17 n.val st (ix4 b h j d) = st.main_v29_2 (ix5 n b h j d) := by
  have e : b16 n.val st = extractStridedSlice S1x16x4x64x256 ![n.val, 0, 0, 0, 0] st.main_v29_2 (fits5 n) :=
    Host.dynamicSlice_eq_extractStridedSlice _ _ _ _ _ _ fun a => match a with
      | ⟨0, _⟩ => start_val n
      | ⟨1, _⟩ => rfl
      | ⟨2, _⟩ => rfl
      | ⟨3, _⟩ => rfl
      | ⟨4, _⟩ => rfl
  unfold b17
  rw [e]
  pointwise []

theorem b22_apply : b22 n.val st (ix3 b h j) = st.main_v29_3 (ix4 n b h j) := by
  have e : b21 n.val st = extractStridedSlice S1x16x4x64 ![n.val, 0, 0, 0] st.main_v29_3 (fits4 n) :=
    Host.dynamicSlice_eq_extractStridedSlice _ _ _ _ _ _ fun a => match a with
      | ⟨0, _⟩ => start_val n
      | ⟨1, _⟩ => rfl
      | ⟨2, _⟩ => rfl
      | ⟨3, _⟩ => rfl
  unfold b22
  rw [e]
  pointwise []

theorem b27_apply : b27 n.val st (ix3 b h j) = st.main_v29_4 (ix4 n b h j) := by
  have e : b26 n.val st = extractStridedSlice S1x16x4x64 ![n.val, 0, 0, 0] st.main_v29_4 (fits4 n) :=
    Host.dynamicSlice_eq_extractStridedSlice _ _ _ _ _ _ fun a => match a with
      | ⟨0, _⟩ => start_val n
      | ⟨1, _⟩ => rfl
      | ⟨2, _⟩ => rfl
      | ⟨3, _⟩ => rfl
  unfold b27
  rw [e]
  pointwise []

theorem b111_apply (n' : Fin 32) : b111 n.val st (ix5 n' b h j d) = if n' = n then b75 n.val st (ix4 b h j d) else st.main_v29_10 (ix5 n' b h j d) := by
  have e : b111 n.val st = updateSlice st.main_v29_10 (b106 n.val st) ![n.val, 0, 0, 0, 0] (fits5 n) :=
    Host.dynamicUpdateSlice_eq_updateSlice _ _ _ _ _ (fun a => match a with
      | ⟨0, _⟩ => by
        show (min (max (BitVec.ofNat 32 n.val).toInt 0) ((32 - 1 : ℕ) : ℤ)).toNat = n.val
        rw [start_val]
        omega
      | ⟨1, _⟩ => rfl
      | ⟨2, _⟩ => rfl
      | ⟨3, _⟩ => rfl
      | ⟨4, _⟩ => rfl) _
  rw [e, updateSlice_apply]
  by_cases hn : n' = n
  · subst hn
    rw [if_pos rfl, dif_pos]
    · refine (congrArg (b106 n'.val st) (?_ : _ = (ix5 0 b h j d : S1x16x4x64x256.Idx))).trans ?_
      · funext a
        exact match a with
          | ⟨0, _⟩ => Fin.ext (Nat.sub_self n'.val)
          | ⟨1, _⟩ => rfl
          | ⟨2, _⟩ => rfl
          | ⟨3, _⟩ => rfl
          | ⟨4, _⟩ => rfl
      · pointwise [b106]
    · exact fun a => match a with
      | ⟨0, _⟩ => ⟨le_rfl, Nat.lt_succ_self _⟩
      | ⟨1, _⟩ => ⟨Nat.zero_le _, show b.val < 0 + 16 by omega⟩
      | ⟨2, _⟩ => ⟨Nat.zero_le _, show h.val < 0 + 4 by omega⟩
      | ⟨3, _⟩ => ⟨Nat.zero_le _, show j.val < 0 + 64 by omega⟩
      | ⟨4, _⟩ => ⟨Nat.zero_le _, show d.val < 0 + 256 by omega⟩
  · rw [if_neg hn, dif_neg]
    intro hin
    have h0 : n.val ≤ n'.val ∧ n'.val < n.val + 1 := hin 0
    exact hn (Fin.ext (by omega))
end trips

end Cert.ReferenceIdeal.Chunk
-- ==== Proof.RefValue.lean ====
/-
  The reference's result array on real inputs, entry by entry: the carried state before each trip is the recurrence's at the
  chunk's first position, so each trip leaves the recurrence's read-outs in the chunk's place.
-/
module

public import proofs.«01_k».proof.Proof.RefReads

@[expose] public section

set_option maxRecDepth 16384

noncomputable section

namespace Cert.ReferenceIdeal.Chunk

open Idealize.ShloMosaic Idealize.ShloMosaic.TcCoe Cert.ReferenceIdeal Cert.ReferenceIdeal.Gen Cert.ReferenceIdeal.Step Cert.Recurrence

/-- The state before trip `n`. -/
def states (x : (⟨S32768x6144, .bf16⟩ : BufTy).Contents (Elt Ideal)) (y : (⟨S32768x128, .f32⟩ : BufTy).Contents (Elt Ideal)) : ℕ → State Ideal
  | 0 => init x y
  | n + 1 => step n (states x y n)

variable (x : (⟨S32768x6144, .bf16⟩ : BufTy).Contents (Elt Ideal)) (y : (⟨S32768x128, .f32⟩ : BufTy).Contents (Elt Ideal))

/-- The chunk arrays are never changed. -/
theorem states_chunks (n : ℕ) : (states x y n).main_v29_0 = A_main_v14 x y ∧ (states x y n).main_v29_1 = A_main_v16 x y
    ∧ (states x y n).main_v29_2 = A_main_v18 x y ∧ (states x y n).main_v29_3 = A_main_v20 x y ∧ (states x y n).main_v29_4 = A_main_v22 x y := by
  induction n with
  | zero => exact ⟨rfl, rfl, rfl, rfl, rfl⟩
  | succ n ih => exact ih

/-- The activations and the gates by row and column. -/
abbrev pOf : Fin 32768 → Fin 6144 → EReal := fun a l => x (ix2 a l)
abbrev gOf : Fin 32768 → Fin 128 → EReal := fun a l => y (ix2 a l)

/-- What the carried state is before trip `n`, at batch row `b` and head `h`. -/
structure Before (n : ℕ) (b : Fin 16) (h : Fin 4) : Prop where
  mem : ∀ d e : Fin 256, (states x y n).main_v29_7 (ix4 b h d e)
    = ((Cm (iSeq (gOf y) b.val h.val h.isLt) (fSeq (gOf y) b.val h.val h.isLt) (vSeq (pOf x) b.val h.val h.isLt) (kSeq (pOf x) b.val h.val h.isLt) (64 * n) ⟨e.val, lt_v e⟩ d : ℝ) : EReal)
  ones : ∀ d : Fin 256, (states x y n).main_v29_8 (ix3 b h d)
    = ((Cm (iSeq (gOf y) b.val h.val h.isLt) (fSeq (gOf y) b.val h.val h.isLt) (vSeq (pOf x) b.val h.val h.isLt) (kSeq (pOf x) b.val h.val h.isLt) (64 * n) 256 d : ℝ) : EReal)
  top : (states x y n).main_v29_9 (ix2 b h) = ((Mh (iSeq (gOf y) b.val h.val h.isLt) (fSeq (gOf y) b.val h.val h.isLt) (64 * n) : ℝ) : EReal)
  out : ∀ (n' : Fin 32) (j : Fin 64) (e : Fin 256), n'.val < n →
    (states x y n).main_v29_10 (ix5 n' b h j e) = ((hSeq (pOf x) (gOf y) b.val h.val h.isLt (64 * n'.val + j.val) e : ℝ) : EReal)

theorem before_zero (b : Fin 16) (h : Fin 4) : Before x y 0 b h where
  mem d e := by
    show K_main_v25 (F := Ideal) (ix4 b h d e) = _
    pointwise [K_main_v25, K_main_cst_0]
    simp [Cm, Ideal.ofBits, Ideal.ieee]
  ones d := by
    show K_main_v26 (F := Ideal) (ix3 b h d) = _
    pointwise [K_main_v26, K_main_cst_1]
    simp [Cm, Ideal.ofBits, Ideal.ieee]
  top := by
    show K_main_v27 (F := Ideal) (ix2 b h) = _
    pointwise [K_main_v27, K_main_cst_2]
    simp [Mh, Ideal.ofBits, Ideal.ieee]
  out _ _ _ h := absurd h (Nat.not_lt_zero _)

variable (fin : Finite (pOf x) (gOf y))
include fin

theorem before_succ (n : Fin 32) (b : Fin 16) (h : Fin 4) (ih : Before x y n.val b h) : Before x y (n.val + 1) b h := by
  obtain ⟨c0, c1, c2, c3, c4⟩ := states_chunks x y n.val
  have hF : ∀ j : Fin 64, b27 n.val (states x y n.val) (ix3 b h j) = ((fSeq (gOf y) b.val h.val h.isLt (64 * n.val + j.val) : ℝ) : EReal) := fun j => by
    rw [b27_apply, c4, f_apply]
    exact fin.g_real _ _ (show 4 + h.val < 8 by omega)
  have hI : ∀ j : Fin 64, b22 n.val (states x y n.val) (ix3 b h j) = ((iSeq (gOf y) b.val h.val h.isLt (64 * n.val + j.val) : ℝ) : EReal) := fun j => by
    rw [b22_apply, c3, i_apply]
    exact fin.g_real _ _ (show h.val < 8 by omega)
  have hQ : ∀ (j : Fin 64) (d : Fin 256), b5 n.val (states x y n.val) (ix4 b h j d) = ((qSeq (pOf x) b.val h.val h.isLt (64 * n.val + j.val) d : ℝ) : EReal) := fun j d => by
    rw [b5_apply, c0, q_apply]
    refine (congrArg (fun z => z * ((1 / 16 : ℝ) : EReal)) (fin.p_real (row b.val (64 * n.val + j.val)) _ (show 256 * h.val + d.val < 3072 by omega))).trans ?_
    exact (EReal.coe_mul _ _).symm
  have hK : ∀ (j : Fin 64) (d : Fin 256), b11 n.val (states x y n.val) (ix4 b h j d) = ((kSeq (pOf x) b.val h.val h.isLt (64 * n.val + j.val) d : ℝ) : EReal) := fun j d => by
    rw [b11_apply, c1, k_apply]
    exact fin.p_real _ _ (show 1024 + (256 * h.val + d.val) < 3072 by omega)
  have hV : ∀ (j : Fin 64) (e : Fin 256), b17 n.val (states x y n.val) (ix4 b h j e) = ((vSeq (pOf x) b.val h.val h.isLt (64 * n.val + j.val) ⟨e.val, lt_v e⟩ : ℝ) : EReal) := fun j e => by
    rw [b17_apply, c2, v_apply]
    unfold vSeq
    rw [dif_pos e.isLt]
    exact fin.p_real _ _ (show 2048 + (256 * h.val + e.val) < 3072 by omega)
  have hV1 : ∀ t, vSeq (pOf x) b.val h.val h.isLt t 256 = 1 := fun t => by
    unfold vSeq
    exact (dif_neg (show ¬ 256 < 256 by decide)).trans (if_pos rfl)
  exact
    { mem := fun d e => b100_apply n.val _ b h _ _ _ _ _ hF hI ih.top hK hV ih.mem d e
      ones := fun d => b105_apply n.val _ b h _ _ _ _ _ hF hI ih.top hK hV1 ih.ones d
      top := b85_apply n.val _ b h _ _ _ hF hI ih.top
      out := fun n' j e hn => by
        show b111 n.val (states x y n.val) (ix5 n' b h j e) = _
        rw [b111_apply]
        by_cases hnn : n' = n
        · subst hnn
          rw [if_pos rfl]
          exact b75_apply n'.val _ b h _ _ _ _ _ _ hF hI ih.top hK hV ih.mem hQ hV1 ih.ones j e
        · rw [if_neg hnn]
          exact ih.out n' j e (by have := fun hh => hnn (Fin.ext hh); omega) }

theorem before (n : ℕ) (hn : n ≤ 32) (b : Fin 16) (h : Fin 4) : Before x y n b h := by
  induction n with
  | zero => exact before_zero x y b h
  | succ n ih => exact before_succ x y fin ⟨n, hn⟩ b h (ih (by omega))

end Cert.ReferenceIdeal.Chunk
-- ==== Proof.RefOut.lean ====
/-
  What the reference does after its scan, entry by entry: each head's row of read-outs over the root of its mean square, times
  the weight.
-/
module

public import proofs.«01_k».proof.Proof.RefCumsum

@[expose] public section

set_option maxRecDepth 16384

noncomputable section

namespace Cert.ReferenceIdeal.Chunk

open Idealize.ShloMosaic Idealize.ShloMosaic.TcCoe Cert.ReferenceIdeal Cert.ReferenceIdeal.Gen Cert.ReferenceIdeal.Step

/-- The read-outs in the order of the positions. -/
def outs (z : (⟨S32x16x4x64x256, .f32⟩ : BufTy).Contents (Elt Ideal)) : (⟨S16x2048x4x256, .f32⟩ : BufTy).Contents (Elt Ideal) :=
  shapeCast _ (transpose S16x32x64x4x256 [1, 0, 3, 2, 4] z transposes_S32x16x4x64x256_S16x32x64x4x256_1_0_3_2_4) shapeCasts_S16x32x64x4x256_S16x2048x4x256

theorem outs_apply (z : (⟨S32x16x4x64x256, .f32⟩ : BufTy).Contents (Elt Ideal)) (b : Fin 16) (t : Fin 2048) (h : Fin 4) (e : Fin 256) :
    outs z (ix4 b t h e) = z (ix5 ⟨t.val / 64, by omega⟩ b h ⟨t.val % 64, Nat.mod_lt _ (by decide)⟩ e) := by
  pointwise [outs]

/-- The sum of a row's squares. -/
def squares (z : (⟨S16x2048x4x256, .f32⟩ : BufTy).Contents (Elt Ideal)) : (⟨S16x2048x4, .f32⟩ : BufTy).Contents (Elt Ideal) :=
  Host.reduceAdd (F := Ideal) (φ := .f32) (mulf z z) (constant S_ .f32 0x00000000#32) reducesTo_S16x2048x4x256_S16x2048x4_d3 h_S_

theorem squares_apply (z : (⟨S16x2048x4x256, .f32⟩ : BufTy).Contents (Elt Ideal)) (b : Fin 16) (t : Fin 2048) (h : Fin 4) :
    squares z (ix3 b t h) = ∑ d : Fin 256, (z (ix4 b t h d) : EReal) * z (ix4 b t h d) := by
  pointwise [squares]

/-- One over the root of a row's mean square. -/
def scale (z : (⟨S16x2048x4, .f32⟩ : BufTy).Contents (Elt Ideal)) : (⟨S16x2048x4x1, .f32⟩ : BufTy).Contents (Elt Ideal) :=
  Host.rsqrt (F := Ideal) (φ := .f32) (addf (Host.divf (broadcastInDim S16x2048x4x1 ![0, 1, 2] bcast_S16x2048x4_S16x2048x4x1_0_1_2 z)
    (broadcastInDim S16x2048x4x1 ![] bcast_S_S16x2048x4x1 (constant S_ .f32 0x43800000#32))) (broadcastInDim S16x2048x4x1 ![] bcast_S_S16x2048x4x1 (constant S_ .f32 0x358637BD#32)))

theorem scale_apply (z : (⟨S16x2048x4, .f32⟩ : BufTy).Contents (Elt Ideal)) (b : Fin 16) (t : Fin 2048) (h : Fin 4) :
    scale z (ix4 b t h 0) = Ideal.rsqrt (Ideal.div (z (ix3 b t h)) (Ideal.ofBits .f32 0x43800000#32) + Ideal.ofBits .f32 0x358637BD#32) := by
  pointwise [scale]

/-- The result of the normalised rows. -/
def final (z : (⟨S16x2048x4x256, .f32⟩ : BufTy).Contents (Elt Ideal)) (r : (⟨S16x2048x4x1, .f32⟩ : BufTy).Contents (Elt Ideal)) (w : (⟨S1x1024, .f32⟩ : BufTy).Contents (Elt Ideal)) :
    (⟨S16x2048x1024, .bf16⟩ : BufTy).Contents (Elt Ideal) :=
  truncf (F := Ideal) .bf16 (shapeCast _ (mulf (mulf z (broadcastInDim S16x2048x4x256 ![0, 1, 2, 3] bcast_S16x2048x4x1_S16x2048x4x256_0_1_2_3 r))
    (broadcastInDim S16x2048x4x256 ![0, 1, 2, 3] bcast_S1x1x4x256_S16x2048x4x256_0_1_2_3 (broadcastInDim S1x1x4x256 ![2, 3] bcast_S4x256_S1x1x4x256_2_3
      (shapeCast _ w shapeCasts_S1x1024_S4x256)))) shapeCasts_S16x2048x4x256_S16x2048x1024) bitsLt_bf16_f32

theorem final_apply (z : (⟨S16x2048x4x256, .f32⟩ : BufTy).Contents (Elt Ideal)) (r : (⟨S16x2048x4x1, .f32⟩ : BufTy).Contents (Elt Ideal)) (w : (⟨S1x1024, .f32⟩ : BufTy).Contents (Elt Ideal))
    (b : Fin 16) (t : Fin 2048) (l : Fin 1024) :
    final z r w (ix3 b t l) = (z (ix4 b t ⟨l.val / 256, by omega⟩ ⟨l.val % 256, Nat.mod_lt _ (by decide)⟩) : EReal) * r (ix4 b t ⟨l.val / 256, by omega⟩ 0) * w (ix2 0 l) := by
  pointwise [final]

theorem R_eq (st : State Ideal) (w : (⟨S1x1024, .f32⟩ : BufTy).Contents (Elt Ideal)) :
    R_main_v47 st w = final (outs st.main_v29_10) (scale (squares (outs st.main_v29_10))) w := rfl

end Cert.ReferenceIdeal.Chunk
-- ==== Proof.RefArray.lean ====
/-
  The reference's result array on real inputs, entry by entry.
-/
module

public import proofs.«01_k».proof.Proof.RefValue
public import proofs.«01_k».proof.Proof.RefOut

@[expose] public section

set_option maxRecDepth 16384

noncomputable section

namespace Cert.ReferenceIdeal.Chunk

open Idealize.ShloMosaic Idealize.ShloMosaic.TcCoe Cert.ReferenceIdeal Cert.ReferenceIdeal.Gen Cert.ReferenceIdeal.Step Cert.Recurrence

variable (x : (⟨S32768x6144, .bf16⟩ : BufTy).Contents (Elt Ideal)) (y : (⟨S32768x128, .f32⟩ : BufTy).Contents (Elt Ideal))
  (fin : Finite (pOf x) (gOf y))
include fin

/-- The read-outs of the whole sequence, in the order of the positions. -/
theorem outs_value (b : Fin 16) (h : Fin 4) (t : Fin 2048) (e : Fin 256) :
    outs (states x y 32).main_v29_10 (ix4 b t h e) = ((hSeq (pOf x) (gOf y) b.val h.val h.isLt t.val e : ℝ) : EReal) := by
  rw [outs_apply, (before x y fin 32 le_rfl b h).out _ _ _ (show t.val / 64 < 32 by omega)]
  rw [show 64 * (t.val / 64) + t.val % 64 = t.val by omega]

/-- Entry `(b, t, l)` of the reference's result is head `l / 256`'s normalised read-out at position `t` of row `b`. -/
theorem array_value (w : (⟨S1x1024, .f32⟩ : BufTy).Contents (Elt Ideal)) (b : Fin 16) (h : Fin 4) (t : Fin 2048) (e : Fin 256)
    (l : Fin 1024) (hl : l.val = 256 * h.val + e.val) (wr : Fin 256 → EReal) (hw : wr e = w (ix2 0 l)) :
    R_main_v47 (states x y 32) w (ix3 b t l) = result (pOf x) (gOf y) b.val h.val h.isLt wr t.val e := by
  rw [R_eq, final_apply, scale_apply, squares_apply]
  rw [show (⟨l.val / 256, by omega⟩ : Fin 4) = h from Fin.ext (by dsimp only; omega),
    show (⟨l.val % 256, Nat.mod_lt _ (by decide)⟩ : Fin 256) = e from Fin.ext (by dsimp only; omega)]
  simp only [outs_value x y fin]
  unfold result rms
  rw [hw]

end Cert.ReferenceIdeal.Chunk
-- ==== Proof.Equation.lean ====
/-
  The kernel's result and the reference's are the same array, on inputs that the precondition admits.
-/
module

public import proofs.«01_k».proof.Proof.KernelArray
public import proofs.«01_k».proof.Proof.RefArray

@[expose] public section

set_option maxRecDepth 16384

noncomputable section

namespace Cert.Recurrence

open Idealize.ShloMosaic Idealize.ShloMosaic.TcCoe Cert.KernelIdeal

variable (m : (ℓ : Loc nD τ sig) → Buf (Elt Ideal) ℓ) (c : Dev nD)

/-- Both results, entry by entry, are the normalised read-out of the recurrence. -/
theorem equation (fin : Finite (Stream.pArr m c) (Stream.gArr m c)) :
    (Cert.ReferenceIdeal.Step.R_main_v47 (Cert.ReferenceIdeal.Chunk.states (m ((c : Thread nD τ).loc main_arg0)) (m ((c : Thread nD τ).loc main_arg1)) 32)
      (m ((c : Thread nD τ).loc main_arg2)) : (⟨3, ![16, 2048, 1024]⟩ : Shape).Idx → EReal) = Value.G5 m c := by
  funext i
  obtain ⟨b, t, l, rfl⟩ : ∃ (b : Fin 16) (t : Fin 2048) (l : Fin 1024), i = ix3 b t l := ⟨i 0, i 1, i 2, eq_ix3 i⟩
  have hh : l.val / 256 < 4 := by omega
  have hl : l = ⟨256 * (l.val / 256) + l.val % 256, by omega⟩ := Fin.ext (by dsimp only; omega)
  have hk := Stream.array_value m c fin b.val (l.val / 256) b.isLt hh t ⟨l.val % 256, Nat.mod_lt _ (by decide)⟩
  refine (Cert.ReferenceIdeal.Chunk.array_value _ _ fin _ b ⟨l.val / 256, hh⟩ t ⟨l.val % 256, Nat.mod_lt _ (by decide)⟩ l
    (by dsimp only; omega) (fun e => Stream.wArr m c ⟨256 * (l.val / 256) + e.val, by omega⟩) ?_).trans ?_
  · exact congrArg (fun z => Stream.wArr m c z) hl.symm
  · exact hk.symm.trans (congrArg (fun z => Value.G5 m c (ix3 b t z)) hl.symm)

end Cert.Recurrence
-- ==== Proof.FfnTiles.lean ====
/-
  One grid point of the feed-forward kernel, as functions of the blocks it reads: the modulated rows, their product with
  256 columns of the up weights, the convolution's halo carried from the point before, and the sum over the eleven
  column tiles.
-/
module

public import proofs.«01_k».proof.Proof.Gen.FfnIdeal.Value
public import Idealize.ShloMosaic.Lib.Pointwise

@[expose] public section

set_option maxRecDepth 16384

noncomputable section

namespace Cert.FfnIdeal.Tiles

open Idealize.ShloMosaic Idealize.ShloMosaic.TcCoe Idealize.ShloMosaic.Tactic Cert.FfnIdeal Cert.FfnIdeal.Gen

variable {F : FTy → Type} [FloatOps F]

theorem inbUp (c : ℕ) (hc : c + 256 ≤ 5632) : ∀ a, (![0, c] : Fin 2 → ℕ) a + (![1024, 256] : Fin 2 → ℕ) a ≤ S1024x5632.size a :=
  fun a => by match a with | ⟨0, _⟩ => simp [S1024x5632] | ⟨1, _⟩ => simpa [S1024x5632] using hc
theorem inbTail (c : ℕ) (hc : c + 256 ≤ 5632) : ∀ a, (![0, c] : Fin 2 → ℕ) a + (![8, 256] : Fin 2 → ℕ) a ≤ S8x5632.size a :=
  fun a => by match a with | ⟨0, _⟩ => simp [S8x5632] | ⟨1, _⟩ => simpa [S8x5632] using hc
theorem inbTap (k c : ℕ) (hk : k < 3) (hc : c + 256 ≤ 5632) : ∀ a, (![k, c] : Fin 2 → ℕ) a + (![1, 256] : Fin 2 → ℕ) a ≤ S3x5632.size a :=
  fun a => by match a with | ⟨0, _⟩ => simp [S3x5632]; omega | ⟨1, _⟩ => simpa [S3x5632] using hc
theorem inbBias (c : ℕ) (hc : c + 256 ≤ 5632) : ∀ a, (![0, c] : Fin 2 → ℕ) a + (![1, 256] : Fin 2 → ℕ) a ≤ S1x5632.size a :=
  fun a => by match a with | ⟨0, _⟩ => simp [S1x5632] | ⟨1, _⟩ => simpa [S1x5632] using hc
theorem inbDown (c : ℕ) (hc : c + 256 ≤ 2816) : ∀ a, (![c, 0] : Fin 2 → ℕ) a + (![256, 1024] : Fin 2 → ℕ) a ≤ S2816x1024.size a :=
  fun a => by match a with | ⟨0, _⟩ => simpa [S2816x1024] using hc | ⟨1, _⟩ => simp [S2816x1024]
theorem inbBuf (o : ℕ) (ho : o ≤ 8) : ∀ a, (![o, 0] : Fin 2 → ℕ) a + (![512, 256] : Fin 2 → ℕ) a ≤ S520x256.size a :=
  fun a => by match a with | ⟨0, _⟩ => simp [S520x256]; omega | ⟨1, _⟩ => simp [S520x256]
theorem inbAda (k : ℕ) (hk : k < 6) : ∀ a, (![0, k, 0] : Fin 3 → ℕ) a + (![1, 1, 1024] : Fin 3 → ℕ) a ≤ S1x6x1024.size a :=
  fun a => by match a with | ⟨0, _⟩ => simp [S1x6x1024] | ⟨1, _⟩ => simp [S1x6x1024]; omega | ⟨2, _⟩ => simp [S1x6x1024]

/-- 256 columns of the up weights. -/
abbrev upR (c : ℕ) (hc : c + 256 ≤ 5632) : Rect S1024x5632 := Rect.unit ![0, c] ![1024, 256] (inbUp c hc)
/-- 256 columns of the carried rows. -/
abbrev tailR (c : ℕ) (hc : c + 256 ≤ 5632) : Rect S8x5632 := Rect.unit ![0, c] ![8, 256] (inbTail c hc)
/-- 256 columns of the `k`-th tap. -/
abbrev tapR (k c : ℕ) (hk : k < 3) (hc : c + 256 ≤ 5632) : Rect S3x5632 := Rect.unit ![k, c] ![1, 256] (inbTap k c hk hc)
/-- 256 columns of the bias. -/
abbrev biasR (c : ℕ) (hc : c + 256 ≤ 5632) : Rect S1x5632 := Rect.unit ![0, c] ![1, 256] (inbBias c hc)
/-- 256 rows of the down weights. -/
abbrev downR (c : ℕ) (hc : c + 256 ≤ 2816) : Rect S2816x1024 := Rect.unit ![c, 0] ![256, 1024] (inbDown c hc)
/-- 512 rows of the staging buffer, from row `o`. -/
abbrev bufR (o : ℕ) (ho : o ≤ 8) : Rect S520x256 := Rect.unit ![o, 0] ![512, 256] (inbBuf o ho)
/-- The `k`-th conditioning row. -/
abbrev adaR (k : ℕ) (hk : k < 6) : Rect S1x6x1024 := Rect.unit ![0, k, 0] ![1, 1, 1024] (inbAda k hk)

/-- Eight rows above 512 rows. -/
def joinV (a : Vec F S8x256 .f32) (u : Vec F S512x256 .f32) : Vec F S520x256 .f32 := fun y =>
  if h : (y 0).val < 8 then a (ix2 ⟨(y 0).val, h⟩ (y 1)) else u (ix2 ⟨(y 0).val - 8, by have := (y 0).isLt; simp [S520x256] at this; omega⟩ (y 1))

/-- A load of a buffer whose last stores are its first eight rows and the 512 below reads the two joined. -/
theorem readCov_join {sig : RefSig} {κ : Kind} {sp : Space} (v : View sig κ sp S520x256 .f32)
    (ha : ∀ x, (![0, 0] : Fin 2 → ℕ) x + (![8, 256] : Fin 2 → ℕ) x ≤ S520x256.size x)
    (hb : ∀ x, (![8, 0] : Fin 2 → ℕ) x + (![512, 256] : Fin 2 → ℕ) x ≤ S520x256.size x)
    (a : Vec F S8x256 .f32) (u : Vec F S512x256 .f32) (L : List (View.Piece (Elt F) S520x256 .f32)) (R : Rect S520x256) :
    v.readCov ((⟨Rect.unit (s := S520x256) ![0, 0] ![8, 256] ha, a⟩ : View.Piece (Elt F) S520x256 .f32)
        :: (⟨Rect.unit (s := S520x256) ![8, 0] ![512, 256] hb, u⟩ : View.Piece (Elt F) S520x256 .f32) :: L) R.toLoadRect
      = View.ld (e' := .f32) (S := S520x256) (joinV a u) R := by
  rw [View.readCov_eq_canon']
  funext j
  show View.canon _ (R.toLoadRect.idx j) = joinV a u (R.toLoadRect.idx j)
  generalize R.toLoadRect.idx j = y
  unfold joinV
  split
  · rename_i h
    have e : (Rect.unit (s := S520x256) ![0, 0] ![8, 256] ha).emb (ix2 ⟨(y 0).val, h⟩ (y 1) : (Rect.unit (s := S520x256) ![0, 0] ![8, 256] ha).shape.Idx) = y := by
      funext x
      match x with
      | ⟨0, _⟩ => exact Fin.ext (show 0 + 1 * (y 0).val = (y 0).val by omega)
      | ⟨1, _⟩ => exact Fin.ext (show 0 + 1 * (y 1).val = (y 1).val by omega)
    conv_lhs => rw [← e]
    rw [View.canon_cons_emb]
  · rename_i h
    have hy : (y 0).val < 520 := (y 0).isLt
    rw [View.canon_cons_of_not_mem]
    · have e : (Rect.unit (s := S520x256) ![8, 0] ![512, 256] hb).emb (ix2 ⟨(y 0).val - 8, by omega⟩ (y 1) : (Rect.unit (s := S520x256) ![8, 0] ![512, 256] hb).shape.Idx) = y := by
        funext x
        match x with
        | ⟨0, _⟩ => exact Fin.ext (show 8 + 1 * ((y 0).val - 8) = (y 0).val by omega)
        | ⟨1, _⟩ => exact Fin.ext (show 0 + 1 * (y 1).val = (y 1).val by omega)
      conv_lhs => rw [← e]
      rw [View.canon_cons_emb]
    · intro hm
      have hm' : y ∈ (Rect.unit (s := S520x256) ![0, 0] ![8, 256] ha).set := hm
      have h0 := (Rect.mem_set_unit.mp hm') 0
      simp at h0
      omega

/-- A load of a whole buffer after a store of all of it reads the store. -/
theorem readCov_whole {sig : RefSig} {κ : Kind} {sp : Space} {e : EltTy} (v : View sig κ sp S512x1024 e)
    (ha hb : ∀ x, (![0, 0] : Fin 2 → ℕ) x + (![512, 1024] : Fin 2 → ℕ) x ≤ S512x1024.size x)
    (w : Vec F S512x1024 e) (L : List (View.Piece (Elt F) S512x1024 e)) :
    v.readCov ((⟨Rect.unit (s := S512x1024) ![0, 0] ![512, 1024] ha, w⟩ : View.Piece (Elt F) S512x1024 e) :: L)
        (Rect.unit (s := S512x1024) ![0, 0] ![512, 1024] hb).toLoadRect
      = w := by
  rw [View.readCov_eq_canon']
  funext j
  have e' : (Rect.unit (s := S512x1024) ![0, 0] ![512, 1024] hb).toLoadRect.idx j = (Rect.unit (s := S512x1024) ![0, 0] ![512, 1024] ha).emb j := rfl
  rw [e', View.canon_cons_emb]

/-- Is the point the first of its sequence. -/
def firstBit (i : grid0.Coords) : BitVec 1 :=
  (Scalar.cmpi CmpIPredicate.eq
    (Scalar.select
      (Scalar.andi
        (Scalar.xori (Scalar.cmpi CmpIPredicate.slt (Scalar.remsi (BitVec.ofNat 32 ↑(i 0)) 4#32) 0#32) 0#1)
        (Scalar.cmpi CmpIPredicate.ne (Scalar.remsi (BitVec.ofNat 32 ↑(i 0)) 4#32) 0#32))
      (Scalar.addi (Scalar.remsi (BitVec.ofNat 32 ↑(i 0)) 4#32) 4#32)
      (Scalar.remsi (BitVec.ofNat 32 ↑(i 0)) 4#32))
    0#32)

/-- The convolution of three shifted reads with the taps, plus the bias. -/
def conv (b8 b7 b6 : FVec F S512x256 .f32) (w2 w1 w0 b : FVec F S1x256 .f32) : FVec F S512x256 .f32 :=
  addf (addf (addf (mulf b8 (broadcastTo S512x256 w2 broadcasts_S1x256_S512x256))
        (mulf b7 (broadcastTo S512x256 w1 broadcasts_S1x256_S512x256)))
      (mulf b6 (broadcastTo S512x256 w0 broadcasts_S1x256_S512x256)))
    (broadcastTo S512x256 (shapeCast S1x256 b shapeCasts_S1x256_S1x256) broadcasts_S1x256_S512x256)
/-- The gate's activation times the value. -/
def act (cg cv : FVec F S512x256 .f32) : FVec F S512x256 .bf16 := truncf .bf16 (mulf (mulf cg (logistic cg)) cv) bitsLt_bf16_f32
/-- The product with 256 rows of the down weights. -/
def prod (a : FVec F S512x256 .bf16) (wd : FVec F S256x1024 .bf16) : FVec F S512x1024 .f32 :=
  matmul dot_S512x256_S256x1024_S512x1024_1_0_0_1_n_n none a (shapeCast S256x1024 wd shapeCasts_S256x1024_S256x1024)
    (constant S512x1024 .f32 0x00000000#32)

section
variable (x0 : Vec F S512x1024 .f32) (x1 : Vec F S1x6x1024 .f32) (x2 : Vec F S1x1024 .f32) (x3 : Vec F S1024x5632 .bf16)
  (x4 : Vec F S3x5632 .f32) (x5 : Vec F S1x5632 .f32) (x6 : Vec F S2816x1024 .bf16) (xs1 : Vec F S8x5632 .f32) (b : BitVec 1)

/-- The modulated rows. -/
def hT : FVec F S512x1024 .bf16 :=
  k0_pay7 (k0_pay3 (View.ld x1 (adaR 3 (by decide)))) (k0_pay4 (View.ld x1 (adaR 4 (by decide))))
    (k0_pay5 (View.ld x0 (Rect.unit ![0, 0] ![512, 1024] inb_S512x1024_S512x1024_0_0))
      (View.ld x2 (Rect.unit ![0, 0] ![1, 1024] inb_S1x1024_S1x1024_0_0))) k0_pay6
/-- Their product with 256 columns of the up weights. -/
def uT (c : ℕ) (hc : c + 256 ≤ 5632) : FVec F S512x256 .f32 := k0_pay8 (hT x0 x1 x2) (View.ld x3 (upR c hc))
/-- The staging buffer of 256 columns. -/
def bufT (c : ℕ) (hc : c + 256 ≤ 5632) : Vec F S520x256 .f32 :=
  joinV (k0_pay10 b (View.ld xs1 (tailR c hc))) (k0_pay9 (hT x0 x1 x2) (View.ld x3 (upR c hc)))
/-- The convolution of 256 columns. -/
def convT (c : ℕ) (hc : c + 256 ≤ 5632) : FVec F S512x256 .f32 :=
  conv (View.ld (bufT x0 x1 x2 x3 xs1 b c hc) (bufR 8 (by decide))) (View.ld (bufT x0 x1 x2 x3 xs1 b c hc) (bufR 7 (by decide)))
    (View.ld (bufT x0 x1 x2 x3 xs1 b c hc) (bufR 6 (by decide)))
    (View.ld x4 (tapR 2 c (by decide) hc)) (View.ld x4 (tapR 1 c (by decide) hc)) (View.ld x4 (tapR 0 c (by decide) hc))
    (View.ld x5 (biasR c hc))
theorem le_gate {f : ℕ} (hf : f < 11) : 256 * f + 256 ≤ 5632 := by omega
theorem le_val {f : ℕ} (hf : f < 11) : 2816 + 256 * f + 256 ≤ 5632 := by omega
theorem le_down {f : ℕ} (hf : f < 11) : 256 * f + 256 ≤ 2816 := by omega
/-- The activations of column tile `f`. -/
def actT (f : ℕ) (hf : f < 11) : FVec F S512x256 .bf16 :=
  act (convT x0 x1 x2 x3 x4 x5 xs1 b (256 * f) (le_gate hf)) (convT x0 x1 x2 x3 x4 x5 xs1 b (2816 + 256 * f) (le_val hf))
/-- The sum over the column tiles up to `f`. -/
def accT : (f : ℕ) → (hf : f < 11) → FVec F S512x1024 .f32
  | 0, hf => shapeCast S512x1024 (prod (actT x0 x1 x2 x3 x4 x5 xs1 b 0 hf) (View.ld x6 (downR (256 * 0) (le_down hf)))) shapeCasts_S512x1024_S512x1024
  | f + 1, hf => shapeCast S512x1024 (addf (accT f (Nat.lt_of_succ_lt hf))
      (prod (actT x0 x1 x2 x3 x4 x5 xs1 b (f + 1) hf) (View.ld x6 (downR (256 * (f + 1)) (le_down hf))))) shapeCasts_S512x1024_S512x1024
/-- The result block. -/
def outT : FVec F S512x1024 .f32 :=
  k0_pay1 (View.ld x0 (Rect.unit ![0, 0] ![512, 1024] inb_S512x1024_S512x1024_0_0)) (View.ld x1 (adaR 5 (by decide)))
    (accT x0 x1 x2 x3 x4 x5 x6 xs1 b 10 (by decide))
/-- The last eight rows of 256 columns, stored into the carried rows. -/
def tailP (c : ℕ) (hc : c + 256 ≤ 5632) : View.Piece (Elt F) S8x5632 .f32 :=
  ⟨tailR c hc, k0_pay11 (hT x0 x1 x2) (View.ld x3 (upR c hc))⟩
/-- The stores into the carried rows, the last first. -/
def LTail : List (View.Piece (Elt F) S8x5632 .f32) :=
  [tailP x0 x1 x2 x3 5376 (by decide), tailP x0 x1 x2 x3 2560 (by decide), tailP x0 x1 x2 x3 5120 (by decide), tailP x0 x1 x2 x3 2304 (by decide), tailP x0 x1 x2 x3 4864 (by decide), tailP x0 x1 x2 x3 2048 (by decide), tailP x0 x1 x2 x3 4608 (by decide), tailP x0 x1 x2 x3 1792 (by decide), tailP x0 x1 x2 x3 4352 (by decide), tailP x0 x1 x2 x3 1536 (by decide), tailP x0 x1 x2 x3 4096 (by decide), tailP x0 x1 x2 x3 1280 (by decide), tailP x0 x1 x2 x3 3840 (by decide), tailP x0 x1 x2 x3 1024 (by decide), tailP x0 x1 x2 x3 3584 (by decide), tailP x0 x1 x2 x3 768 (by decide), tailP x0 x1 x2 x3 3328 (by decide), tailP x0 x1 x2 x3 512 (by decide), tailP x0 x1 x2 x3 3072 (by decide), tailP x0 x1 x2 x3 256 (by decide), tailP x0 x1 x2 x3 2816 (by decide), tailP x0 x1 x2 x3 0 (by decide)]
end

end Cert.FfnIdeal.Tiles
-- ==== Proof.FfnMath.lean ====
/-
  The feed-forward part as functions of its arrays' entries: the modulated rows, their product with the up weights, the
  causal convolution over three positions (zeros before the sequence's start), the gated activation, the product with the
  down weights and the gated residual.
-/
module

public import Idealize.ShloMosaic.PureOps.Ideal

@[expose] public section

noncomputable section

namespace Cert.FeedForward

open Idealize.ShloMosaic

/-- One row normalised by the root of its mean square, weighted and modulated. -/
def hid (x n sc sh : Fin 1024 → EReal) (k : Fin 1024) : EReal :=
  x k * Ideal.rsqrt (Ideal.div (∑ d : Fin 1024, x d * x d) (Ideal.ofBits .f32 0x44800000#32) + Ideal.ofBits .f32 0x358637BD#32) * n k
      * (1 + sc k) + sh k

/-- The logistic function. -/
def sigm (x : EReal) : EReal := Ideal.div 1 (1 + Ideal.exp (-x))

section
variable (X : Fin 16 → Fin 2048 → Fin 1024 → EReal) (A : Fin 16 → Fin 6144 → EReal) (N : Fin 1024 → EReal)
  (W : Fin 1024 → Fin 5632 → EReal) (Cw : Fin 3 → Fin 5632 → EReal) (Cb : Fin 5632 → EReal) (D : Fin 2816 → Fin 1024 → EReal)

/-- The up product. -/
def up (b : Fin 16) (s : Fin 2048) (c : Fin 5632) : EReal :=
  ∑ k : Fin 1024, hid (X b s) N (fun k => A b ⟨4096 + k.val, by omega⟩) (fun k => A b ⟨3072 + k.val, by omega⟩) k * W k c
/-- The up product with two rows of zeros before it. -/
def padded (b : Fin 16) (t : ℕ) (c : Fin 5632) : EReal := if h : 2 ≤ t ∧ t - 2 < 2048 then up X A N W b ⟨t - 2, h.2⟩ c else 0
/-- The convolution at position `s`. -/
def cv (b : Fin 16) (s : ℕ) (c : Fin 5632) : EReal :=
  padded X A N W b (s + 2) c * Cw 2 c + padded X A N W b (s + 1) c * Cw 1 c + padded X A N W b s c * Cw 0 c + Cb c
/-- The gated activation of feature `j`. -/
def actv (b : Fin 16) (s : ℕ) (j : Fin 2816) : EReal :=
  cv X A N W Cw Cb b s ⟨j.val, by omega⟩ * sigm (cv X A N W Cw Cb b s ⟨j.val, by omega⟩) * cv X A N W Cw Cb b s ⟨2816 + j.val, by omega⟩
/-- The result. -/
def out (b : Fin 16) (s : Fin 2048) (d : Fin 1024) : EReal :=
  X b s d + A b ⟨5120 + d.val, by omega⟩ * ∑ j : Fin 2816, actv X A N W Cw Cb b s.val j * D j d
end

/-- A sum over the 2816 features is the sum over the first ten tiles of 256 and the eleventh. -/
theorem sum_tiles (g : ℕ → EReal) : ∑ j : Fin 2816, g j.val = ∑ j ∈ Finset.range (256 * (10 + 1)), g j :=
  (Finset.sum_range g).symm

/-- One more tile. -/
theorem sum_next (g : ℕ → EReal) (f : ℕ) :
    ∑ j ∈ Finset.range (256 * (f + 1 + 1)), g j = ∑ j ∈ Finset.range (256 * (f + 1)), g j + ∑ j : Fin 256, g (256 * (f + 1) + j.val) := by
  rw [show 256 * (f + 1 + 1) = 256 * (f + 1) + 256 by ring, Finset.sum_range_add, Finset.sum_range (fun x => g (256 * (f + 1) + x))]

end Cert.FeedForward
-- ==== Proof.FfnValue.lean ====
/-
  The functions of one grid point of the feed-forward kernel, entry by entry.
-/
module

public import proofs.«01_k».proof.Proof.FfnTiles
public import proofs.«01_k».proof.Proof.FfnMath

@[expose] public section

noncomputable section

namespace Cert.FfnIdeal.Tiles

open Idealize.ShloMosaic Idealize.ShloMosaic.TcCoe Cert.FfnIdeal Cert.FfnIdeal.Gen Cert.FeedForward

section
variable {F : FTy → Type} [FloatOps F]

theorem ld_x (x : Vec F S512x1024 .f32) (r : Fin 512) (k : Fin 1024) :
    View.ld x (Rect.unit (s := S512x1024) ![0, 0] ![512, 1024] inb_S512x1024_S512x1024_0_0) (ix2 r k) = x (ix2 r k) := by
  show x ((Rect.unit (s := S512x1024) ![0, 0] ![512, 1024] inb_S512x1024_S512x1024_0_0).emb (ix2 r k)) = _
  congr 1
  funext a
  match a with
  | ⟨0, _⟩ => exact Fin.ext (show 0 + 1 * r.val = r.val by omega)
  | ⟨1, _⟩ => exact Fin.ext (show 0 + 1 * k.val = k.val by omega)
theorem ld_n (x : Vec F S1x1024 .f32) (k : Fin 1024) :
    View.ld x (Rect.unit (s := S1x1024) ![0, 0] ![1, 1024] inb_S1x1024_S1x1024_0_0) (ix2 0 k) = x (ix2 0 k) := by
  show x ((Rect.unit (s := S1x1024) ![0, 0] ![1, 1024] inb_S1x1024_S1x1024_0_0).emb (ix2 0 k)) = _
  congr 1
  funext a
  match a with
  | ⟨0, _⟩ => exact Fin.ext (show 0 + 1 * 0 = 0 by omega)
  | ⟨1, _⟩ => exact Fin.ext (show 0 + 1 * k.val = k.val by omega)
theorem ld_ada (x : Vec F S1x6x1024 .f32) (i : ℕ) (hi : i < 6) (k : Fin 1024) : View.ld x (adaR i hi) (ix3 0 0 k) = x (ix3 0 ⟨i, hi⟩ k) := by
  show x ((adaR i hi).emb (ix3 0 0 k)) = _
  congr 1
  funext a
  match a with
  | ⟨0, _⟩ => exact Fin.ext (show 0 + 1 * 0 = 0 by omega)
  | ⟨1, _⟩ => exact Fin.ext (show i + 1 * 0 = i by omega)
  | ⟨2, _⟩ => exact Fin.ext (show 0 + 1 * k.val = k.val by omega)
theorem col_lt {c : ℕ} (hc : c + 256 ≤ 5632) (j : Fin 256) : c + j.val < 5632 := by omega
theorem row_lt {c : ℕ} (hc : c + 256 ≤ 2816) (j : Fin 256) : c + j.val < 2816 := by omega
theorem buf_lt {o : ℕ} (ho : o ≤ 8) (r : Fin 512) : o + r.val < 520 := by omega
theorem ld_up (x : Vec F S1024x5632 .bf16) (c : ℕ) (hc : c + 256 ≤ 5632) (k : Fin 1024) (j : Fin 256) :
    View.ld x (upR c hc) (ix2 k j) = x (ix2 k ⟨c + j.val, col_lt hc j⟩) := by
  show x ((upR c hc).emb (ix2 k j)) = _
  congr 1
  funext a
  match a with
  | ⟨0, _⟩ => exact Fin.ext (show 0 + 1 * k.val = k.val by omega)
  | ⟨1, _⟩ => exact Fin.ext (show c + 1 * j.val = c + j.val by omega)
theorem ld_tail (x : Vec F S8x5632 .f32) (c : ℕ) (hc : c + 256 ≤ 5632) (i : Fin 8) (j : Fin 256) :
    View.ld x (tailR c hc) (ix2 i j) = x (ix2 i ⟨c + j.val, col_lt hc j⟩) := by
  show x ((tailR c hc).emb (ix2 i j)) = _
  congr 1
  funext a
  match a with
  | ⟨0, _⟩ => exact Fin.ext (show 0 + 1 * i.val = i.val by omega)
  | ⟨1, _⟩ => exact Fin.ext (show c + 1 * j.val = c + j.val by omega)
theorem ld_tap (x : Vec F S3x5632 .f32) (w c : ℕ) (hw : w < 3) (hc : c + 256 ≤ 5632) (j : Fin 256) :
    View.ld x (tapR w c hw hc) (ix2 0 j) = x (ix2 ⟨w, hw⟩ ⟨c + j.val, col_lt hc j⟩) := by
  show x ((tapR w c hw hc).emb (ix2 0 j)) = _
  congr 1
  funext a
  match a with
  | ⟨0, _⟩ => exact Fin.ext (show w + 1 * 0 = w by omega)
  | ⟨1, _⟩ => exact Fin.ext (show c + 1 * j.val = c + j.val by omega)
theorem ld_bias (x : Vec F S1x5632 .f32) (c : ℕ) (hc : c + 256 ≤ 5632) (j : Fin 256) :
    View.ld x (biasR c hc) (ix2 0 j) = x (ix2 0 ⟨c + j.val, col_lt hc j⟩) := by
  show x ((biasR c hc).emb (ix2 0 j)) = _
  congr 1
  funext a
  match a with
  | ⟨0, _⟩ => exact Fin.ext (show 0 + 1 * 0 = 0 by omega)
  | ⟨1, _⟩ => exact Fin.ext (show c + 1 * j.val = c + j.val by omega)
theorem ld_down (x : Vec F S2816x1024 .bf16) (c : ℕ) (hc : c + 256 ≤ 2816) (j : Fin 256) (d : Fin 1024) :
    View.ld x (downR c hc) (ix2 j d) = x (ix2 ⟨c + j.val, row_lt hc j⟩ d) := by
  show x ((downR c hc).emb (ix2 j d)) = _
  congr 1
  funext a
  match a with
  | ⟨0, _⟩ => exact Fin.ext (show c + 1 * j.val = c + j.val by omega)
  | ⟨1, _⟩ => exact Fin.ext (show 0 + 1 * d.val = d.val by omega)
theorem ld_buf (x : Vec F S520x256 .f32) (o : ℕ) (ho : o ≤ 8) (r : Fin 512) (j : Fin 256) :
    View.ld x (bufR o ho) (ix2 r j) = x (ix2 ⟨o + r.val, buf_lt ho r⟩ j) := by
  show x ((bufR o ho).emb (ix2 r j)) = _
  congr 1
  funext a
  match a with
  | ⟨0, _⟩ => exact Fin.ext (show o + 1 * r.val = o + r.val by omega)
  | ⟨1, _⟩ => exact Fin.ext (show 0 + 1 * j.val = j.val by omega)
end

theorem hid_apply (v14 : Vec Ideal S512x1024 .f32) (v16 : Vec Ideal S1x1024 .f32) (v18 v20 : Vec Ideal S1x1x1024 .f32) (r : Fin 512) (k : Fin 1024) :
    k0_pay7 (k0_pay3 v18) (k0_pay4 v20) (k0_pay5 v14 v16) k0_pay6 (ix2 r k)
      = hid (fun k => v14 (ix2 r k)) (fun k => v16 (ix2 0 k)) (fun k => v20 (ix3 0 0 k)) (fun k => v18 (ix3 0 0 k)) k := by
  pointwise [k0_pay7, k0_pay3, k0_pay4, k0_pay5, k0_pay6]
  rfl

theorem up_apply (h : Vec Ideal S512x1024 .bf16) (w : Vec Ideal S1024x256 .bf16) (r : Fin 512) (j : Fin 256) :
    k0_pay8 h w (ix2 r j) = ∑ k : Fin 1024, (h (ix2 r k) : EReal) * w (ix2 k j) := by
  pointwise [k0_pay8, dot_S512x1024_S1024x256_S512x256_1_0_0_1_n_n]
theorem up9_apply (h : Vec Ideal S512x1024 .bf16) (w : Vec Ideal S1024x256 .bf16) (r : Fin 512) (j : Fin 256) :
    k0_pay9 h w (ix2 r j) = k0_pay8 h w (ix2 r j) := by
  pointwise [k0_pay9]
theorem up11_apply (h : Vec Ideal S512x1024 .bf16) (w : Vec Ideal S1024x256 .bf16) (r : Fin 8) (j : Fin 256) :
    k0_pay11 h w (ix2 r j) = k0_pay8 h w (ix2 ⟨504 + r.val, by omega⟩ j) := by
  pointwise [k0_pay11]
theorem halo_apply (b : BitVec 1) (x : Vec Ideal S8x256 .f32) (r : Fin 8) (j : Fin 256) :
    k0_pay10 b x (ix2 r j) = if b = 1#1 then (0 : EReal) else x (ix2 r j) := by
  pointwise [k0_pay10]
  rfl
theorem conv_apply (b8 b7 b6 : FVec Ideal S512x256 .f32) (w2 w1 w0 b : FVec Ideal S1x256 .f32) (r : Fin 512) (j : Fin 256) :
    conv b8 b7 b6 w2 w1 w0 b (ix2 r j) = (b8 (ix2 r j) : EReal) * w2 (ix2 0 j) + b7 (ix2 r j) * w1 (ix2 0 j) + b6 (ix2 r j) * w0 (ix2 0 j) + b (ix2 0 j) := by
  pointwise [conv]
theorem act_apply (cg cv : FVec Ideal S512x256 .f32) (r : Fin 512) (j : Fin 256) :
    act cg cv (ix2 r j) = (cg (ix2 r j) : EReal) * sigm (cg (ix2 r j)) * cv (ix2 r j) := by
  pointwise [act]
  rfl
theorem prod_apply (a : FVec Ideal S512x256 .bf16) (wd : FVec Ideal S256x1024 .bf16) (r : Fin 512) (d : Fin 1024) :
    prod a wd (ix2 r d) = ∑ j : Fin 256, (a (ix2 r j) : EReal) * wd (ix2 j d) := by
  pointwise [prod, dot_S512x256_S256x1024_S512x1024_1_0_0_1_n_n]
theorem res_apply (x acc : Vec Ideal S512x1024 .f32) (g : Vec Ideal S1x1x1024 .f32) (r : Fin 512) (d : Fin 1024) :
    k0_pay1 x g acc (ix2 r d) = (x (ix2 r d) : EReal) + g (ix3 0 0 d) * acc (ix2 r d) := by
  pointwise [k0_pay1]
theorem same_apply (v : FVec Ideal S512x1024 .f32) (r : Fin 512) (d : Fin 1024) :
    shapeCast S512x1024 v shapeCasts_S512x1024_S512x1024 (ix2 r d) = v (ix2 r d) := by
  pointwise []
theorem zero_apply (r : Fin 8) (c : Fin 5632) : k0_pay2 (F := Ideal) (ix2 r c) = (0 : EReal) := by
  pointwise [k0_pay2]

end Cert.FfnIdeal.Tiles
-- ==== Proof.FfnBlocks.lean ====
/-
  What a grid point of the feed-forward kernel reads of its arrays: its 512 rows of the stream, its sequence's conditioning
  row, and the whole of the weights; and which points are the first of their sequence.
-/
module

public import proofs.«01_k».proof.Proof.FfnValue
public import Idealize.ShloMosaic.Lib.Pipeline.ValueKit.Point

@[expose] public section

set_option maxRecDepth 16384

noncomputable section

namespace Cert.FfnIdeal.Tiles

open Idealize.ShloMosaic Idealize.ShloMosaic.TcCoe Cert.FfnIdeal Cert.FfnIdeal.Gen Cert.FeedForward

variable (m : (ℓ : Loc nD τ sig) → Buf (Elt Ideal) ℓ) (c : Dev nD)

/-- The merged stream, as launched. -/
def xArr : Fin 16 → Fin 2048 → Fin 1024 → EReal := fun b s k => m ((c : Thread nD τ).loc main_arg0) (ix3 b s k)
/-- The conditioning, as launched. -/
def aArr : Fin 16 → Fin 6144 → EReal := fun b k => m ((c : Thread nD τ).loc main_arg1) (ix2 b k)
/-- The norm weights, as launched. -/
def nArr : Fin 1024 → EReal := fun k => m ((c : Thread nD τ).loc main_arg2) (ix1 k)
/-- The up weights, as launched. -/
def wArr : Fin 1024 → Fin 5632 → EReal := fun k f => m ((c : Thread nD τ).loc main_arg3) (ix2 k f)
/-- The taps, as launched. -/
def cwArr : Fin 3 → Fin 5632 → EReal := fun w f => m ((c : Thread nD τ).loc main_arg4) (ix2 w f)
/-- The convolution's bias, as launched. -/
def cbArr : Fin 5632 → EReal := fun f => m ((c : Thread nD τ).loc main_arg5) (ix1 f)
/-- The down weights, as launched. -/
def dArr : Fin 2816 → Fin 1024 → EReal := fun f d => m ((c : Thread nD τ).loc main_arg6) (ix2 f d)

theorem index0 : ∀ t : Fin cfg0.N, win0_0.index t = ![t.val, 0] := (by decide +kernel : ∀ t : Fin grid0.N, _)
theorem index1 : ∀ t : Fin cfg0.N, win0_1.index t = ![t.val / 4, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem first_iff : ∀ t : Fin cfg0.N, firstBit (grid0.coords t) = 1#1 ↔ t.val % 4 = 0 := (by decide +kernel : ∀ t : Fin grid0.N, _)

variable (t : Fin cfg0.N)

theorem tlt : t.val < 64 := lt_of_lt_of_eq t.isLt N_0
/-- The point's sequence. -/
def seqOf : Fin 16 := ⟨t.val / 4, by have := tlt t; omega⟩
/-- The `r`-th row of the point, in its sequence. -/
def posOf (r : Fin 512) : Fin 2048 := ⟨512 * (t.val % 4) + r.val, by omega⟩

theorem iblk0_apply (r : Fin 512) (k : Fin 1024) : iblk m c 0 t (ix2 r k) = xArr m c (seqOf t) (posOf t r) k := by
  have := tlt t
  unfold xArr seqOf posOf
  blk_ext! [iblk, V, index0 t]
theorem iblk1_apply (i : Fin 6) (k : Fin 1024) (hi : 1024 * i.val + k.val < 6144) :
    iblk m c 1 t (ix3 0 i k) = aArr m c (seqOf t) ⟨1024 * i.val + k.val, hi⟩ := by
  have := tlt t
  unfold aArr seqOf
  blk_ext! [iblk, V, index1 t]
theorem iblk2_apply (k : Fin 1024) : iblk m c 2 t (ix2 0 k) = nArr m c k := by
  unfold nArr
  blk_ext! [iblk, V, index2 t]
theorem iblk3_apply (k : Fin 1024) (f : Fin 5632) : iblk m c 3 t (ix2 k f) = wArr m c k f := by
  unfold wArr
  blk_ext! [iblk, V, index3 t]
theorem iblk4_apply (w : Fin 3) (f : Fin 5632) : iblk m c 4 t (ix2 w f) = cwArr m c w f := by
  unfold cwArr
  blk_ext! [iblk, V, V_main_arg4, index4 t]
theorem iblk5_apply (f : Fin 5632) : iblk m c 5 t (ix2 0 f) = cbArr m c f := by
  unfold cbArr
  blk_ext! [iblk, V, index5 t]
theorem iblk6_apply (f : Fin 2816) (d : Fin 1024) : iblk m c 6 t (ix2 f d) = dArr m c f d := by
  unfold dArr
  blk_ext! [iblk, V, index6 t]

end Cert.FfnIdeal.Tiles
-- ==== Proof.FfnRunB.lean ====
/-
  What a grid point of the feed-forward kernel other than the first leaves, as lists of stores.
-/
module

public import proofs.«01_k».proof.Proof.FfnTiles

@[expose] public section

set_option maxRecDepth 16384

noncomputable section

namespace Cert.FfnIdeal.Tiles

open Idealize.ShloMosaic Idealize.ShloMosaic.TcCoe Idealize.ShloMosaic.Tactic Cert.FfnIdeal Cert.FfnIdeal.Gen

variable {F : FTy → Type} [FloatOps F]

theorem runB_eq (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S520x256 .f32) (harg12 : arg12.IsWhole) (arg13 : Memref sig .tc .vmem S520x256 .f32) (harg13 : arg13.IsWhole) (arg14 : Memref sig .tc .vmem S520x256 .f32) (harg14 : arg14.IsWhole) (arg15 : Memref sig .tc .vmem S520x256 .f32) (harg15 : arg15.IsWhole) (arg16 : Memref sig .tc .vmem S520x256 .f32) (harg16 : arg16.IsWhole) (arg17 : Memref sig .tc .vmem S520x256 .f32) (harg17 : arg17.IsWhole) (arg18 : Memref sig .tc .vmem S520x256 .f32) (harg18 : arg18.IsWhole) (arg19 : Memref sig .tc .vmem S520x256 .f32) (harg19 : arg19.IsWhole) (hc0 : ¬cond0_0 i)
    (x0 : Vec F S512x1024 .f32) (x1 : Vec F S1x6x1024 .f32) (x2 : Vec F S1x1024 .f32) (x3 : Vec F S1024x5632 .bf16) (x4 : Vec F S3x5632 .f32) (x5 : Vec F S1x5632 .f32) (x6 : Vec F S2816x1024 .bf16) (xs1 : Vec F S8x5632 .f32) :
   (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs1).1 = [⟨Rect.unit ![0, 0] ![512, 1024] inb_S512x1024_S512x1024_0_0, outT x0 x1 x2 x3 x4 x5 x6 xs1 (firstBit i)⟩] ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs1).2.1 = LTail x0 x1 x2 x3 := by
  unfold kernelRun0_B
  dsimp only
  sl_unfold_words
  simp (disch := first | decide | rfl) only [View.readAt_eq_ld, harg1.read_unread, harg2.read_unread, harg3.read_unread, harg4.read_unread, harg5.read_unread, harg6.read_unread, harg7.read_unread, harg10.read_unread, readCov_join, readCov_whole]
  exact ⟨rfl, rfl⟩

end Cert.FfnIdeal.Tiles
-- ==== Proof.FfnRunA.lean ====
/-
  What a grid point of the feed-forward kernel that is the first leaves, as lists of stores: it reads the zeros it fills the carried rows with.
-/
module

public import proofs.«01_k».proof.Proof.FfnRunB

@[expose] public section

set_option maxRecDepth 16384

noncomputable section

namespace Cert.FfnIdeal.Tiles

open Idealize.ShloMosaic Idealize.ShloMosaic.TcCoe Idealize.ShloMosaic.Tactic Cert.FfnIdeal Cert.FfnIdeal.Gen

variable {F : FTy → Type} [FloatOps F]

/-- A load of 256 columns of the carried rows passes over a store into other columns. -/
theorem readCov_skip {sig : RefSig} {κ : Kind} {sp : Space} (v : View sig κ sp S8x5632 .f32) (a b : ℕ)
    (hab : a + 256 ≤ b ∨ b + 256 ≤ a)
    (ha : ∀ x, (![0, a] : Fin 2 → ℕ) x + (![8, 256] : Fin 2 → ℕ) x ≤ S8x5632.size x)
    (hb : ∀ x, (![0, b] : Fin 2 → ℕ) x + (![8, 256] : Fin 2 → ℕ) x ≤ S8x5632.size x)
    (w : Vec F S8x256 .f32) (L : List (View.Piece (Elt F) S8x5632 .f32)) :
    v.readCov ((⟨Rect.unit (s := S8x5632) ![0, a] ![8, 256] ha, w⟩ : View.Piece (Elt F) S8x5632 .f32) :: L)
        (Rect.unit (s := S8x5632) ![0, b] ![8, 256] hb).toLoadRect
      = v.readCov L (Rect.unit (s := S8x5632) ![0, b] ![8, 256] hb).toLoadRect := by
  rw [View.readCov_eq_canon', View.readCov_eq_canon']
  funext j
  refine View.canon_cons_of_not_mem _ _ fun hm => ?_
  have hm' : (Rect.unit (s := S8x5632) ![0, b] ![8, 256] hb).toLoadRect.idx j ∈ (Rect.unit (s := S8x5632) ![0, a] ![8, 256] ha).set := hm
  have h1 := (Rect.mem_set_unit.mp hm') 1
  have hj : (j 1).val < 256 := (j 1).isLt
  have e : (((Rect.unit (s := S8x5632) ![0, b] ![8, 256] hb).toLoadRect.idx j) 1).val = b + 1 * (j 1).val := rfl
  simp only [e] at h1
  simp at h1
  omega

/-- Below the stores into columns, the fill is read. -/
theorem readCov_fill {sig : RefSig} {κ : Kind} {sp : Space} (v : View sig κ sp S8x5632 .f32)
    (inb : ∀ a, (![0, 0] : Fin 2 → ℕ) a + (![8, 5632] : Fin 2 → ℕ) a ≤ S8x5632.size a)
    (w : Vec F S8x5632 .f32) (R : Rect S8x5632) :
    v.readCov [(⟨Rect.unit (s := S8x5632) ![0, 0] ![8, 5632] inb, w⟩ : View.Piece (Elt F) S8x5632 .f32)] R.toLoadRect = View.ld (e' := .f32) (S := S8x5632) w R := by
  rw [View.readCov_eq_canon']
  funext j
  exact congrFun (View.canon_unit_zero (S := S8x5632) (by decide : (![0, 0] : Fin 2 → ℕ) = fun _ => 0) inb w) _

theorem runA_eq (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x5632 .f32) (harg10 : arg10.IsWhole) (arg11 : Memref sig .tc .vmem S512x1024 .f32) (harg11 : arg11.IsWhole) (arg12 : Memref sig .tc .vmem S520x256 .f32) (harg12 : arg12.IsWhole) (arg13 : Memref sig .tc .vmem S520x256 .f32) (harg13 : arg13.IsWhole) (arg14 : Memref sig .tc .vmem S520x256 .f32) (harg14 : arg14.IsWhole) (arg15 : Memref sig .tc .vmem S520x256 .f32) (harg15 : arg15.IsWhole) (arg16 : Memref sig .tc .vmem S520x256 .f32) (harg16 : arg16.IsWhole) (arg17 : Memref sig .tc .vmem S520x256 .f32) (harg17 : arg17.IsWhole) (arg18 : Memref sig .tc .vmem S520x256 .f32) (harg18 : arg18.IsWhole) (arg19 : Memref sig .tc .vmem S520x256 .f32) (harg19 : arg19.IsWhole) (hc0 : cond0_0 i)
    (x0 : Vec F S512x1024 .f32) (x1 : Vec F S1x6x1024 .f32) (x2 : Vec F S1x1024 .f32) (x3 : Vec F S1024x5632 .bf16) (x4 : Vec F S3x5632 .f32) (x5 : Vec F S1x5632 .f32) (x6 : Vec F S2816x1024 .bf16) :
   (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1 = [⟨Rect.unit ![0, 0] ![512, 1024] inb_S512x1024_S512x1024_0_0, outT x0 x1 x2 x3 x4 x5 x6 k0_pay2 (firstBit i)⟩]
     ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1 = LTail x0 x1 x2 x3 ++ [⟨Rect.unit ![0, 0] ![8, 5632] inb_S8x5632_S8x5632_0_0, k0_pay2⟩] := by
  unfold kernelRun0_A
  dsimp only
  sl_unfold_words
  simp (disch := first | decide | rfl) only [↓ readCov_skip, readCov_fill, View.readAt_eq_ld, harg1.read_unread, harg2.read_unread, harg3.read_unread, harg4.read_unread, harg5.read_unread, harg6.read_unread, harg7.read_unread, readCov_join, readCov_whole]
  exact ⟨rfl, rfl⟩

end Cert.FfnIdeal.Tiles
-- ==== Proof.FfnState.lean ====
/-
  What each grid point of the feed-forward kernel leaves: the carried rows column by column, and the result block.
-/
module

public import proofs.«01_k».proof.Proof.FfnBlocks
public import proofs.«01_k».proof.Proof.FfnRunA

@[expose] public section

set_option maxRecDepth 16384

noncomputable section

namespace Cert.FfnIdeal.Tiles

open Idealize.ShloMosaic Idealize.ShloMosaic.TcCoe Cert.FfnIdeal Cert.FfnIdeal.Gen Cert.FeedForward

section
variable {F : FTy → Type} [FloatOps F]
variable (x0 : Vec F S512x1024 .f32) (x1 : Vec F S1x6x1024 .f32) (x2 : Vec F S1x1024 .f32) (x3 : Vec F S1024x5632 .bf16)

/-- A first column of a column tile. -/
abbrev Col := { a : ℕ // a + 256 ≤ 5632 ∧ a % 256 = 0 }

theorem tile_le (c : Fin 5632) : 256 * (c.val / 256) + 256 ≤ 5632 := by omega

/-- The carried rows after the stores: at each column its tile's store. -/
theorem canon_cols (L : List (View.Piece (Elt F) S8x5632 .f32)) (i : Fin 8) (c : Fin 5632) : ∀ cols : List Col,
    256 * (c.val / 256) ∈ cols.map Subtype.val →
    View.canon (cols.map (fun a => tailP x0 x1 x2 x3 a.1 a.2.1) ++ L) (ix2 i c)
      = k0_pay11 (hT x0 x1 x2) (View.ld x3 (upR (256 * (c.val / 256)) (tile_le c))) (ix2 i ⟨c.val % 256, Nat.mod_lt _ (by decide)⟩)
  | [], h => absurd h (List.not_mem_nil)
  | ⟨a, ha, ha'⟩ :: cols, h => by
    rw [List.map_cons, List.cons_append]
    by_cases e : a = 256 * (c.val / 256)
    · subst e
      have he : (tailR (256 * (c.val / 256)) ha).emb (ix2 i ⟨c.val % 256, Nat.mod_lt _ (by decide)⟩ : (tailR (256 * (c.val / 256)) ha).shape.Idx) = ix2 i c := by
        funext x
        match x with
        | ⟨0, _⟩ => exact Fin.ext (show 0 + 1 * i.val = i.val by omega)
        | ⟨1, _⟩ => exact Fin.ext (show 256 * (c.val / 256) + 1 * (c.val % 256) = c.val by omega)
      conv_lhs => rw [← he]
      unfold tailP
      rw [View.canon_cons_emb]
    · rw [View.canon_cons_of_not_mem]
      · refine canon_cols L i c cols ?_
        rw [List.map_cons, List.mem_cons] at h
        exact h.resolve_left (fun h => e h.symm)
      · intro hm
        have hm' : ix2 i c ∈ (Rect.unit (s := S8x5632) ![0, a] ![8, 256] (inbTail a ha)).set := hm
        have h1 := (Rect.mem_set_unit.mp hm') 1
        have h2 : a ≤ c.val ∧ c.val < a + 256 := h1
        omega

/-- The column tiles, in the order of the stores, the last first. -/
def colList : List Col :=
  [⟨5376, by decide⟩, ⟨2560, by decide⟩, ⟨5120, by decide⟩, ⟨2304, by decide⟩, ⟨4864, by decide⟩, ⟨2048, by decide⟩, ⟨4608, by decide⟩,
    ⟨1792, by decide⟩, ⟨4352, by decide⟩, ⟨1536, by decide⟩, ⟨4096, by decide⟩, ⟨1280, by decide⟩, ⟨3840, by decide⟩, ⟨1024, by decide⟩,
    ⟨3584, by decide⟩, ⟨768, by decide⟩, ⟨3328, by decide⟩, ⟨512, by decide⟩, ⟨3072, by decide⟩, ⟨256, by decide⟩, ⟨2816, by decide⟩, ⟨0, by decide⟩]

theorem mem_cols : ∀ q : Fin 22, 256 * q.val ∈ colList.map Subtype.val := by decide

theorem LTail_eq : LTail x0 x1 x2 x3 = colList.map (fun a => tailP x0 x1 x2 x3 a.1 a.2.1) := rfl

theorem canon_LTail (L : List (View.Piece (Elt F) S8x5632 .f32)) (i : Fin 8) (c : Fin 5632) :
    View.canon (LTail x0 x1 x2 x3 ++ L) (ix2 i c)
      = k0_pay11 (hT x0 x1 x2) (View.ld x3 (upR (256 * (c.val / 256)) (tile_le c))) (ix2 i ⟨c.val % 256, Nat.mod_lt _ (by decide)⟩) := by
  rw [LTail_eq]
  exact canon_cols x0 x1 x2 x3 L i c colList (mem_cols ⟨c.val / 256, by omega⟩)

/-- The carried rows. -/
def tailT : Vec F S8x5632 .f32 := View.canon (LTail x0 x1 x2 x3 ++ [])

theorem canon_fill (L : List (View.Piece (Elt F) S8x5632 .f32)) : View.canon (LTail x0 x1 x2 x3 ++ L) = tailT x0 x1 x2 x3 := by
  funext y
  rw [show y = ix2 (y 0) (y 1) from eq_ix2 y]
  exact (canon_LTail x0 x1 x2 x3 L _ _).trans (canon_LTail x0 x1 x2 x3 [] _ _).symm

variable (m : (ℓ : Loc nD τ sig) → Buf (Elt F) ℓ) (c : Dev nD) (t : Fin cfg0.N)

theorem canon_whole (w : Vec F S512x1024 .f32) :
    View.canon [(⟨Rect.unit (s := S512x1024) ![0, 0] ![512, 1024] inb_S512x1024_S512x1024_0_0, w⟩ : View.Piece (Elt F) S512x1024 .f32)] = w :=
  View.canon_unit_zero (S := S512x1024) (by decide : (![0, 0] : Fin 2 → ℕ) = fun _ => 0) inb_S512x1024_S512x1024_0_0 w

/-- What the first point leaves. -/
theorem outsAt_A (h0 : t.val % 64 = 0) : outsAt0 m c t.val t.isLt =
    (outT (iblk m c 0 t) (iblk m c 1 t) (iblk m c 2 t) (iblk m c 3 t) (iblk m c 4 t) (iblk m c 5 t) (iblk m c 6 t) k0_pay2 (firstBit (grid0.coords t)),
      tailT (iblk m c 0 t) (iblk m c 1 t) (iblk m c 2 t) (iblk m c 3 t)) := by
  rw [outsAt0_A m c t h0]
  unfold out0_A_7 sout0_A_1
  refine congr (congrArg Prod.mk ?_) ?_
  · rw [View.read_writes_junk_eq_canon, (runA_eq ..).1, canon_whole]
  · rw [View.read_writes_junk_eq_canon, (runA_eq ..).2, canon_fill]

/-- What another point leaves, over the rows the point before left. -/
theorem outsAt_B (h0 : ¬ t.val % 64 = 0) (n : ℕ) (hn : n < cfg0.N) (hnt : n = t.val - 1) : outsAt0 m c t.val t.isLt =
    (outT (iblk m c 0 t) (iblk m c 1 t) (iblk m c 2 t) (iblk m c 3 t) (iblk m c 4 t) (iblk m c 5 t) (iblk m c 6 t) (outsAt0 m c n hn).2 (firstBit (grid0.coords t)),
      tailT (iblk m c 0 t) (iblk m c 1 t) (iblk m c 2 t) (iblk m c 3 t)) := by
  subst hnt
  rw [outsAt0_B m c t h0]
  unfold out0_B_7 sout0_B_1
  refine congr (congrArg Prod.mk ?_) ?_
  · rw [View.read_writes_junk_eq_canon, (runB_eq ..).1, canon_whole]
  · rw [View.read_writes_junk_eq_canon, (runB_eq ..).2, ← canon_fill _ _ _ _ [], List.append_nil]
end

end Cert.FfnIdeal.Tiles
-- ==== Proof.FfnPoint.lean ====
/-
  One grid point of the feed-forward kernel over the arrays: the modulated rows, the up product, the staging buffer with
  its halo, the convolution, the activations, their product with the down weights, and the result.
-/
module

public import proofs.«01_k».proof.Proof.FfnBlocks

@[expose] public section

set_option maxRecDepth 16384

noncomputable section

namespace Cert.FfnIdeal.Tiles

open Idealize.ShloMosaic Idealize.ShloMosaic.TcCoe Cert.FfnIdeal Cert.FfnIdeal.Gen Cert.FeedForward

variable (m : (ℓ : Loc nD τ sig) → Buf (Elt Ideal) ℓ) (c : Dev nD) (t : Fin cfg0.N)

/-- The padded up product of the launched arrays. -/
abbrev padA (b : Fin 16) (s : ℕ) (f : Fin 5632) : EReal := padded (xArr m c) (aArr m c) (nArr m c) (wArr m c) b s f
/-- The convolution of the launched arrays. -/
abbrev cvA (b : Fin 16) (s : ℕ) (f : Fin 5632) : EReal := cv (xArr m c) (aArr m c) (nArr m c) (wArr m c) (cwArr m c) (cbArr m c) b s f
/-- The activations of the launched arrays. -/
abbrev actA (b : Fin 16) (s : ℕ) (f : Fin 2816) : EReal := actv (xArr m c) (aArr m c) (nArr m c) (wArr m c) (cwArr m c) (cbArr m c) b s f

theorem hT_apply (r : Fin 512) (k : Fin 1024) : hT (iblk m c 0 t) (iblk m c 1 t) (iblk m c 2 t) (ix2 r k)
    = hid (xArr m c (seqOf t) (posOf t r)) (nArr m c) (fun k => aArr m c (seqOf t) ⟨4096 + k.val, by omega⟩)
        (fun k => aArr m c (seqOf t) ⟨3072 + k.val, by omega⟩) k := by
  unfold hT
  refine (hid_apply _ _ _ _ r k).trans ?_
  have e0 : (fun k => View.ld (iblk m c 0 t) (Rect.unit (s := S512x1024) ![0, 0] ![512, 1024] inb_S512x1024_S512x1024_0_0) (ix2 r k))
      = xArr m c (seqOf t) (posOf t r) := funext fun k => (ld_x _ r k).trans (iblk0_apply m c t r k)
  have e2 : (fun k => View.ld (iblk m c 2 t) (Rect.unit (s := S1x1024) ![0, 0] ![1, 1024] inb_S1x1024_S1x1024_0_0) (ix2 0 k))
      = nArr m c := funext fun k => (ld_n _ k).trans (iblk2_apply m c t k)
  have e4 : (fun k => View.ld (iblk m c 1 t) (adaR 4 (by decide)) (ix3 0 0 k)) = fun k => aArr m c (seqOf t) ⟨4096 + k.val, by omega⟩ :=
    funext fun k => (ld_ada _ 4 (by decide) k).trans (iblk1_apply m c t 4 k (show 1024 * 4 + k.val < 6144 by omega))
  have e3 : (fun k => View.ld (iblk m c 1 t) (adaR 3 (by decide)) (ix3 0 0 k)) = fun k => aArr m c (seqOf t) ⟨3072 + k.val, by omega⟩ :=
    funext fun k => (ld_ada _ 3 (by decide) k).trans (iblk1_apply m c t 3 k (show 1024 * 3 + k.val < 6144 by omega))
  exact congr (congr (congr (congr (congrArg hid e0) e2) e4) e3) rfl

theorem uT_apply (f : ℕ) (hf : f + 256 ≤ 5632) (r : Fin 512) (j : Fin 256) :
    k0_pay8 (hT (iblk m c 0 t) (iblk m c 1 t) (iblk m c 2 t)) (View.ld (iblk m c 3 t) (upR f hf)) (ix2 r j)
      = up (xArr m c) (aArr m c) (nArr m c) (wArr m c) (seqOf t) (posOf t r) ⟨f + j.val, col_lt hf j⟩ := by
  refine (up_apply _ _ r j).trans ?_
  unfold up
  refine Finset.sum_congr rfl fun k _ => ?_
  exact congr (congrArg HMul.hMul (hT_apply m c t r k)) ((ld_up _ f hf k j).trans (iblk3_apply m c t k _))

theorem pad_eq (b : Fin 16) (s : Fin 2048) (n : ℕ) (hn : n = s.val + 2) (f : Fin 5632) :
    up (xArr m c) (aArr m c) (nArr m c) (wArr m c) b s f = padA m c b n f := by
  subst hn
  unfold padA padded
  rw [dif_pos ⟨by omega, by have := s.isLt; omega⟩]
  rfl

/-- The carried rows hold the last eight rows before the point, where the point is not the first of its sequence. -/
def Carried (xs1 : Vec Ideal S8x5632 .f32) : Prop :=
  ¬ t.val % 4 = 0 → ∀ (i : Fin 8) (f : Fin 5632), xs1 (ix2 i f) = padA m c (seqOf t) (512 * (t.val % 4) + i.val - 6) f

section
variable (xs1 : Vec Ideal S8x5632 .f32) (hc : Carried m c t xs1)
include hc

theorem bufT_apply (f : ℕ) (hf : f + 256 ≤ 5632) (p : Fin 520) (hp : 6 ≤ p.val) (j : Fin 256) :
    bufT (iblk m c 0 t) (iblk m c 1 t) (iblk m c 2 t) (iblk m c 3 t) xs1 (firstBit (grid0.coords t)) f hf (ix2 p j)
      = padA m c (seqOf t) (512 * (t.val % 4) + p.val - 6) ⟨f + j.val, col_lt hf j⟩ := by
  have hp' := p.isLt
  unfold bufT joinV
  by_cases h : p.val < 8
  · refine (dif_pos (show (ix2 p j 0).val < 8 from h)).trans ?_
    refine (halo_apply _ _ ⟨p.val, h⟩ j).trans ?_
    by_cases h0 : t.val % 4 = 0
    · rw [if_pos ((first_iff t).mpr h0)]
      unfold padA padded
      rw [dif_neg (by omega)]
    · rw [if_neg (fun e => h0 ((first_iff t).mp e))]
      exact (ld_tail _ f hf _ j).trans (hc h0 ⟨p.val, h⟩ _)
  · refine (dif_neg (show ¬ (ix2 p j 0).val < 8 from h)).trans ?_
    refine (up9_apply _ _ ⟨p.val - 8, by omega⟩ j).trans ?_
    refine (uT_apply m c t f hf ⟨p.val - 8, by omega⟩ j).trans ?_
    exact pad_eq m c _ _ _ (show _ = 512 * (t.val % 4) + (p.val - 8) + 2 by omega) _

theorem convT_apply (f : ℕ) (hf : f + 256 ≤ 5632) (r : Fin 512) (j : Fin 256) :
    convT (iblk m c 0 t) (iblk m c 1 t) (iblk m c 2 t) (iblk m c 3 t) (iblk m c 4 t) (iblk m c 5 t) xs1 (firstBit (grid0.coords t)) f hf (ix2 r j)
      = cvA m c (seqOf t) (512 * (t.val % 4) + r.val) ⟨f + j.val, col_lt hf j⟩ := by
  unfold convT
  refine (conv_apply _ _ _ _ _ _ _ r j).trans ?_
  have b8 := (ld_buf _ 8 (by decide) r j).trans (bufT_apply m c t xs1 hc f hf ⟨8 + r.val, buf_lt (by decide) r⟩ (by dsimp only; omega) j)
  have b7 := (ld_buf _ 7 (by decide) r j).trans (bufT_apply m c t xs1 hc f hf ⟨7 + r.val, buf_lt (by decide) r⟩ (by dsimp only; omega) j)
  have b6 := (ld_buf _ 6 (by decide) r j).trans (bufT_apply m c t xs1 hc f hf ⟨6 + r.val, buf_lt (by decide) r⟩ (by dsimp only; omega) j)
  have w2 := (ld_tap _ 2 f (by decide) hf j).trans (iblk4_apply m c t ⟨2, by decide⟩ _)
  have w1 := (ld_tap _ 1 f (by decide) hf j).trans (iblk4_apply m c t ⟨1, by decide⟩ _)
  have w0 := (ld_tap _ 0 f (by decide) hf j).trans (iblk4_apply m c t ⟨0, by decide⟩ _)
  have bb := (ld_bias _ f hf j).trans (iblk5_apply m c t _)
  rw [b8, b7, b6, w2, w1, w0, bb]
  unfold cvA cv
  dsimp only
  rw [show 512 * (t.val % 4) + (8 + r.val) - 6 = 512 * (t.val % 4) + r.val + 2 by omega,
    show 512 * (t.val % 4) + (7 + r.val) - 6 = 512 * (t.val % 4) + r.val + 1 by omega,
    show 512 * (t.val % 4) + (6 + r.val) - 6 = 512 * (t.val % 4) + r.val by omega]
  rfl

theorem actT_apply (f : ℕ) (hf : f < 11) (r : Fin 512) (j : Fin 256) :
    actT (iblk m c 0 t) (iblk m c 1 t) (iblk m c 2 t) (iblk m c 3 t) (iblk m c 4 t) (iblk m c 5 t) xs1 (firstBit (grid0.coords t)) f hf (ix2 r j)
      = actA m c (seqOf t) (512 * (t.val % 4) + r.val) ⟨256 * f + j.val, row_lt (le_down hf) j⟩ := by
  unfold actT
  refine (act_apply _ _ r j).trans ?_
  rw [convT_apply m c t xs1 hc, convT_apply m c t xs1 hc]
  unfold actA actv
  rw [show (⟨2816 + 256 * f + j.val, col_lt (le_val hf) j⟩ : Fin 5632) = ⟨2816 + (256 * f + j.val), by omega⟩ from Fin.ext (by dsimp only; omega)]

/-- One feature's share of an entry of the down product. -/
def share (b : Fin 16) (s : ℕ) (d : Fin 1024) (j : ℕ) : EReal := if h : j < 2816 then actA m c b s ⟨j, h⟩ * dArr m c ⟨j, h⟩ d else 0

theorem prodT_apply (f : ℕ) (hf : f < 11) (r : Fin 512) (d : Fin 1024) :
    prod (actT (iblk m c 0 t) (iblk m c 1 t) (iblk m c 2 t) (iblk m c 3 t) (iblk m c 4 t) (iblk m c 5 t) xs1 (firstBit (grid0.coords t)) f hf)
        (View.ld (iblk m c 6 t) (downR (256 * f) (le_down hf))) (ix2 r d)
      = ∑ j : Fin 256, share m c (seqOf t) (512 * (t.val % 4) + r.val) d (256 * f + j.val) := by
  refine (prod_apply _ _ r d).trans (Finset.sum_congr rfl fun j _ => ?_)
  unfold share
  rw [dif_pos (row_lt (le_down hf) j), actT_apply m c t xs1 hc]
  exact congrArg _ ((ld_down _ _ (le_down hf) j d).trans (iblk6_apply m c t _ d))

theorem accT_apply (r : Fin 512) (d : Fin 1024) : ∀ (f : ℕ) (hf : f < 11),
    accT (iblk m c 0 t) (iblk m c 1 t) (iblk m c 2 t) (iblk m c 3 t) (iblk m c 4 t) (iblk m c 5 t) (iblk m c 6 t) xs1 (firstBit (grid0.coords t)) f hf (ix2 r d)
      = ∑ j ∈ Finset.range (256 * (f + 1)), share m c (seqOf t) (512 * (t.val % 4) + r.val) d j
  | 0, hf => by
    unfold accT
    refine (same_apply _ r d).trans ((prodT_apply m c t xs1 hc 0 hf r d).trans ?_)
    rw [Finset.sum_range]
    exact Finset.sum_congr rfl fun j _ => congrArg _ (show 256 * 0 + j.val = j.val by omega)
  | f + 1, hf => by
    unfold accT
    refine (same_apply _ r d).trans ?_
    refine (congr (congrArg HAdd.hAdd (accT_apply r d f (Nat.lt_of_succ_lt hf))) (prodT_apply m c t xs1 hc (f + 1) hf r d)).trans ?_
    exact (sum_next _ f).symm

theorem outT_apply (r : Fin 512) (d : Fin 1024) :
    outT (iblk m c 0 t) (iblk m c 1 t) (iblk m c 2 t) (iblk m c 3 t) (iblk m c 4 t) (iblk m c 5 t) (iblk m c 6 t) xs1 (firstBit (grid0.coords t)) (ix2 r d)
      = out (xArr m c) (aArr m c) (nArr m c) (wArr m c) (cwArr m c) (cbArr m c) (dArr m c) (seqOf t) (posOf t r) d := by
  unfold outT
  refine (res_apply _ _ _ r d).trans ?_
  rw [accT_apply m c t xs1 hc, ← sum_tiles]
  have e0 := (ld_x _ r d).trans (iblk0_apply m c t r d)
  have e5 := (ld_ada _ 5 (by decide) d).trans (iblk1_apply m c t 5 d (show 1024 * 5 + d.val < 6144 by omega))
  unfold out
  refine congr (congrArg HAdd.hAdd e0) (congr (congrArg HMul.hMul e5) (Finset.sum_congr rfl fun j _ => ?_))
  unfold share
  rw [dif_pos j.isLt]
  rfl
end

end Cert.FfnIdeal.Tiles
-- ==== Proof.FfnArray.lean ====
/-
  The feed-forward kernel's result array, entry by entry: after each grid point the carried rows hold the point's last eight
  rows of the up product, so the next point's convolution reads what it needs.
-/
module

public import proofs.«01_k».proof.Proof.FfnState
public import proofs.«01_k».proof.Proof.FfnPoint

@[expose] public section

set_option maxRecDepth 16384

noncomputable section

namespace Cert.FfnIdeal.Tiles

open Idealize.ShloMosaic Idealize.ShloMosaic.TcCoe Cert.FfnIdeal Cert.FfnIdeal.Gen Cert.FeedForward

variable (m : (ℓ : Loc nD τ sig) → Buf (Elt Ideal) ℓ) (c : Dev nD)

theorem tailT_apply (t : Fin cfg0.N) (i : Fin 8) (f : Fin 5632) :
    tailT (iblk m c 0 t) (iblk m c 1 t) (iblk m c 2 t) (iblk m c 3 t) (ix2 i f) = padA m c (seqOf t) (512 * (t.val % 4) + 506 + i.val) f := by
  have hi := i.isLt
  unfold tailT
  refine (canon_LTail _ _ _ _ [] i f).trans ((up11_apply _ _ i _).trans ((uT_apply m c t _ (tile_le f) ⟨504 + i.val, by omega⟩ _).trans ?_))
  refine (pad_eq m c _ _ (512 * (t.val % 4) + 506 + i.val) (show _ = 512 * (t.val % 4) + (504 + i.val) + 2 by omega) _).trans ?_
  exact congrArg _ (Fin.ext (show 256 * (f.val / 256) + f.val % 256 = f.val by omega))

/-- What a point leaves is what the point after it in the sequence carries. -/
theorem carried_next (n : ℕ) (hn : n < cfg0.N) (hn' : n + 1 < cfg0.N) :
    Carried m c ⟨n + 1, hn'⟩ (tailT (iblk m c 0 ⟨n, hn⟩) (iblk m c 1 ⟨n, hn⟩) (iblk m c 2 ⟨n, hn⟩) (iblk m c 3 ⟨n, hn⟩)) := by
  intro h i f
  have h' : ¬ (n + 1) % 4 = 0 := h
  refine (tailT_apply m c ⟨n, hn⟩ i f).trans ?_
  have e1 : seqOf ⟨n, hn⟩ = seqOf ⟨n + 1, hn'⟩ := Fin.ext (show n / 4 = (n + 1) / 4 by omega)
  have e2 : 512 * (n % 4) + 506 + i.val = 512 * ((n + 1) % 4) + i.val - 6 := by omega
  rw [e1]
  exact congrArg (fun s => padA m c (seqOf ⟨n + 1, hn'⟩) s f) e2

/-- The rows a point leaves. -/
theorem outs_tail (n : ℕ) (hn : n < cfg0.N) :
    (outsAt0 m c n hn).2 = tailT (iblk m c 0 ⟨n, hn⟩) (iblk m c 1 ⟨n, hn⟩) (iblk m c 2 ⟨n, hn⟩) (iblk m c 3 ⟨n, hn⟩) := by
  by_cases h0 : n % 64 = 0
  · rw [outsAt_A m c ⟨n, hn⟩ h0]
  · rw [outsAt_B m c ⟨n, hn⟩ h0 (n - 1) (by omega) rfl]

/-- The result block a point leaves. -/
theorem outs_out (n : ℕ) (hn : n < cfg0.N) (r : Fin 512) (d : Fin 1024) :
    (outsAt0 m c n hn).1 (ix2 r d)
      = out (xArr m c) (aArr m c) (nArr m c) (wArr m c) (cwArr m c) (cbArr m c) (dArr m c) (seqOf ⟨n, hn⟩) (posOf ⟨n, hn⟩ r) d := by
  by_cases h0 : n % 64 = 0
  · rw [outsAt_A m c ⟨n, hn⟩ h0]
    exact outT_apply m c ⟨n, hn⟩ _ (fun h => absurd (show n % 4 = 0 by omega) h) r d
  · rw [outsAt_B m c ⟨n, hn⟩ h0 (n - 1) (by omega) rfl]
    refine outT_apply m c ⟨n, hn⟩ _ ?_ r d
    obtain ⟨k, rfl⟩ : ∃ k, n = k + 1 := ⟨n - 1, by omega⟩
    rw [outs_tail]
    exact carried_next m c k _ hn

/-- Row `2048 b + s` of the kernel's result. -/
theorem array_value (b : Fin 16) (s : Fin 2048) (d : Fin 1024) (h : 2048 * b.val + s.val < 32768) :
    Value.G7 m c (ix2 ⟨2048 * b.val + s.val, h⟩ d)
      = out (xArr m c) (aArr m c) (nArr m c) (wArr m c) (cwArr m c) (cbArr m c) (dArr m c) b s d := by
  have hs := s.isLt
  have hd := d.isLt
  have hp : Value.pt7Of (ix2 ⟨2048 * b.val + s.val, h⟩ d) = 4 * b.val + s.val / 512 := by
    show 1 * ((2048 * b.val + s.val) / 512 - 0) + 1 * (d.val / 1024 - 0) = _
    omega
  have hl : Value.loc7Of (ix2 ⟨2048 * b.val + s.val, h⟩ d) = ix2 ⟨s.val % 512, Nat.mod_lt _ (by decide)⟩ d := by
    funext a
    match a with
    | ⟨0, _⟩ => exact Fin.ext (show (2048 * b.val + s.val) % 512 = s.val % 512 by omega)
    | ⟨1, _⟩ => exact Fin.ext (show d.val % 1024 = d.val by omega)
  have hn : 4 * b.val + s.val / 512 < cfg0.N := lt_of_lt_of_eq (show _ < 64 by omega) N_0.symm
  unfold Value.G7
  rw [dif_pos (by rw [hp]; exact hn), Value.fold0_congr m c _ _ _ (by omega) hp, ← Value.outsAt0_sweep m c _ hn, hl]
  rw [outs_out m c _ hn]
  have e1 : seqOf ⟨4 * b.val + s.val / 512, hn⟩ = b := Fin.ext (show (4 * b.val + s.val / 512) / 4 = b.val by omega)
  have e2 : posOf ⟨4 * b.val + s.val / 512, hn⟩ ⟨s.val % 512, Nat.mod_lt _ (by decide)⟩ = s :=
    Fin.ext (show 512 * ((4 * b.val + s.val / 512) % 4) + s.val % 512 = s.val by omega)
  rw [e1, e2]

end Cert.FfnIdeal.Tiles
-- ==== Proof.FfnRef.lean ====
/-
  The feed-forward reference's result, entry by entry: its composed term cut into the modulated rows, the up product with
  two rows of zeros before it, the convolution, the gated activation and the residual.
-/
module

public import proofs.«01_k».proof.Proof.Gen.FfnReferenceIdeal.Run
public import proofs.«01_k».proof.Proof.FfnMath
public import Idealize.ShloMosaic.Lib.Pointwise

@[expose] public section

set_option maxRecDepth 16384

noncomputable section

namespace Cert.FfnReferenceIdeal.Pieces

open Idealize.ShloMosaic Idealize.ShloMosaic.TcCoe Cert.FfnReferenceIdeal Cert.FfnReferenceIdeal.Gen Cert.FeedForward

abbrev X3 := (⟨S16x2048x1024, .f32⟩ : BufTy).Contents (Elt Ideal)
abbrev U3 := (⟨S16x2048x5632, .f32⟩ : BufTy).Contents (Elt Ideal)
abbrev G3 := (⟨S16x2048x2816, .f32⟩ : BufTy).Contents (Elt Ideal)
abbrev A2 := (⟨S16x6144, .f32⟩ : BufTy).Contents (Elt Ideal)

/-- The sums of the rows' squares. -/
def squares (x : X3) : (⟨S16x2048, .f32⟩ : BufTy).Contents (Elt Ideal) :=
  Host.reduceAdd (F := Ideal) (φ := .f32) (mulf x x) (constant S_ .f32 0x00000000#32) reducesTo_S16x2048x1024_S16x2048_d2 h_S_
theorem squares_apply (x : X3) (b : Fin 16) (s : Fin 2048) : squares x (ix2 b s) = ∑ d : Fin 1024, (x (ix3 b s d) : EReal) * x (ix3 b s d) := by
  pointwise [squares]

/-- The modulated rows. -/
def hidden (x : X3) (q : (⟨S16x2048, .f32⟩ : BufTy).Contents (Elt Ideal)) (a : A2) (n : (⟨S1024, .f32⟩ : BufTy).Contents (Elt Ideal)) : X3 :=
  addf (F := Ideal) (φ := .f32) (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 q) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 n))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 4096] a slices_S16x6144_S16x1024_0_4096))))) (broadcastInDim S16x2048x1024 ![0, 1, 2] bcast_S16x1x1024_S16x2048x1024_0_1_2 (broadcastInDim S16x1x1024 ![0, 2] bcast_S16x1024_S16x1x1024_0_2 (extractStridedSlice S16x1024 ![0, 3072] a slices_S16x6144_S16x1024_0_3072)))
theorem hidden_apply (x : X3) (q : (⟨S16x2048, .f32⟩ : BufTy).Contents (Elt Ideal)) (a : A2) (n : (⟨S1024, .f32⟩ : BufTy).Contents (Elt Ideal))
    (b : Fin 16) (s : Fin 2048) (k : Fin 1024) : hidden x q a n (ix3 b s k)
      = (x (ix3 b s k) : EReal) * Ideal.rsqrt (Ideal.div (q (ix2 b s)) (Ideal.ofBits .f32 0x44800000#32) + Ideal.ofBits .f32 0x358637BD#32) * n (ix1 k)
          * (1 + a (ix2 b ⟨4096 + k.val, by omega⟩)) + a (ix2 b ⟨3072 + k.val, by omega⟩) := by
  pointwise [hidden]

/-- The up product. -/
def upper (h : X3) (w : (⟨S1024x5632, .f32⟩ : BufTy).Contents (Elt Ideal)) : U3 :=
  Host.dotGeneral (F := Ideal) (φ₁ := .f32) (φ₂ := .f32) dot_S16x2048x1024_S1024x5632_S16x2048x5632_2_0_01_1_n_n none h w
theorem upper_apply (h : X3) (w : (⟨S1024x5632, .f32⟩ : BufTy).Contents (Elt Ideal)) (b : Fin 16) (s : Fin 2048) (f : Fin 5632) :
    upper h w (ix3 b s f) = ∑ k : Fin 1024, (h (ix3 b s k) : EReal) * w (ix2 k f) := by
  pointwise [upper, dot_S16x2048x1024_S1024x5632_S16x2048x5632_2_0_01_1_n_n]

/-- The up product with two rows of zeros before it. -/
def padding (u : U3) : (⟨S16x2050x5632, .f32⟩ : BufTy).Contents (Elt Ideal) :=
  concatenate S16x2050x5632 1 [⟨S16x2x5632, (broadcastInDim S16x2x5632 ![] bcast_S_S16x2x5632 (constant (F := Ideal) S_ .f32 0x00000000#32))⟩, ⟨S16x2048x5632, u⟩] concatenates_S16x2x5632_S16x2048x5632_S16x2050x5632_d1
theorem padding_apply (u : U3) (b : Fin 16) (p : Fin 2050) (f : Fin 5632) :
    padding u (ix3 b p f) = if h : p.val < 2 then (0 : EReal) else u (ix3 b ⟨p.val - 2, by omega⟩ f) := by
  pointwise [padding]

/-- The convolution. -/
def convolved (p : (⟨S16x2050x5632, .f32⟩ : BufTy).Contents (Elt Ideal)) (w : (⟨S3x5632, .f32⟩ : BufTy).Contents (Elt Ideal)) (bb : (⟨S5632, .f32⟩ : BufTy).Contents (Elt Ideal)) : U3 :=
  addf (F := Ideal) (φ := .f32) (addf (addf (mulf (extractStridedSlice S16x2048x5632 ![0, 0, 0] p slices_S16x2050x5632_S16x2048x5632_0_0_0) (broadcastInDim S16x2048x5632 ![0, 1, 2] bcast_S1x1x5632_S16x2048x5632_0_1_2 (broadcastInDim S1x1x5632 ![2] bcast_S5632_S1x1x5632_2 (shapeCast _ (extractStridedSlice S1x5632 ![0, 0] w slices_S3x5632_S1x5632_0_0) shapeCasts_S1x5632_S5632))))
      (mulf (extractStridedSlice S16x2048x5632 ![0, 1, 0] p slices_S16x2050x5632_S16x2048x5632_0_1_0) (broadcastInDim S16x2048x5632 ![0, 1, 2] bcast_S1x1x5632_S16x2048x5632_0_1_2 (broadcastInDim S1x1x5632 ![2] bcast_S5632_S1x1x5632_2 (shapeCast _ (extractStridedSlice S1x5632 ![1, 0] w slices_S3x5632_S1x5632_1_0) shapeCasts_S1x5632_S5632)))))
      (mulf (extractStridedSlice S16x2048x5632 ![0, 2, 0] p slices_S16x2050x5632_S16x2048x5632_0_2_0) (broadcastInDim S16x2048x5632 ![0, 1, 2] bcast_S1x1x5632_S16x2048x5632_0_1_2 (broadcastInDim S1x1x5632 ![2] bcast_S5632_S1x1x5632_2 (shapeCast _ (extractStridedSlice S1x5632 ![2, 0] w slices_S3x5632_S1x5632_2_0) shapeCasts_S1x5632_S5632)))))
    (broadcastInDim S16x2048x5632 ![0, 1, 2] bcast_S1x1x5632_S16x2048x5632_0_1_2 (broadcastInDim S1x1x5632 ![2] bcast_S5632_S1x1x5632_2 bb))
theorem convolved_apply (p : (⟨S16x2050x5632, .f32⟩ : BufTy).Contents (Elt Ideal)) (w : (⟨S3x5632, .f32⟩ : BufTy).Contents (Elt Ideal)) (bb : (⟨S5632, .f32⟩ : BufTy).Contents (Elt Ideal))
    (b : Fin 16) (s : Fin 2048) (f : Fin 5632) : convolved p w bb (ix3 b s f)
      = (p (ix3 b ⟨s.val, by omega⟩ f) : EReal) * w (ix2 0 f) + p (ix3 b ⟨1 + s.val, by omega⟩ f) * w (ix2 1 f) + p (ix3 b ⟨2 + s.val, by omega⟩ f) * w (ix2 2 f) + bb (ix1 f) := by
  pointwise [convolved]

/-- The gated activation. -/
def gated (u : U3) : G3 :=
  mulf (F := Ideal) (φ := .f32) (mulf (extractStridedSlice S16x2048x2816 ![0, 0, 0] u slices_S16x2048x5632_S16x2048x2816_0_0_0)
    (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] u slices_S16x2048x5632_S16x2048x2816_0_0_0))))))
    (extractStridedSlice S16x2048x2816 ![0, 0, 2816] u slices_S16x2048x5632_S16x2048x2816_0_0_2816)
theorem gated_apply (u : U3) (b : Fin 16) (s : Fin 2048) (j : Fin 2816) : gated u (ix3 b s j)
    = (u (ix3 b s ⟨j.val, by omega⟩) : EReal) * sigm (u (ix3 b s ⟨j.val, by omega⟩)) * u (ix3 b s ⟨2816 + j.val, by omega⟩) := by
  pointwise [gated]
  rfl

/-- The down product. -/
def lower (g : G3) (d : (⟨S2816x1024, .f32⟩ : BufTy).Contents (Elt Ideal)) : X3 :=
  Host.dotGeneral (F := Ideal) (φ₁ := .f32) (φ₂ := .f32) dot_S16x2048x2816_S2816x1024_S16x2048x1024_2_0_01_1_n_n none g d
theorem lower_apply (g : G3) (d : (⟨S2816x1024, .f32⟩ : BufTy).Contents (Elt Ideal)) (b : Fin 16) (s : Fin 2048) (k : Fin 1024) :
    lower g d (ix3 b s k) = ∑ j : Fin 2816, (g (ix3 b s j) : EReal) * d (ix2 j k) := by
  pointwise [lower, dot_S16x2048x2816_S2816x1024_S16x2048x1024_2_0_01_1_n_n]

/-- The gated residual, as rows. -/
def result (x : X3) (a : A2) (y : X3) : (⟨S32768x1024, .f32⟩ : BufTy).Contents (Elt Ideal) :=
  shapeCast _ (addf (F := Ideal) (φ := .f32) x (mulf (broadcastInDim S16x2048x1024 ![0, 1, 2] bcast_S16x1x1024_S16x2048x1024_0_1_2 (broadcastInDim S16x1x1024 ![0, 2] bcast_S16x1024_S16x1x1024_0_2 (extractStridedSlice S16x1024 ![0, 5120] a slices_S16x6144_S16x1024_0_5120))) y)) shapeCasts_S16x2048x1024_S32768x1024
theorem result_apply (x : X3) (a : A2) (y : X3) (i : Fin 32768) (k : Fin 1024) :
    result x a y (ix2 i k) = (x (ix3 ⟨i.val / 2048, by omega⟩ ⟨i.val % 2048, Nat.mod_lt _ (by decide)⟩ k) : EReal)
      + a (ix2 ⟨i.val / 2048, by omega⟩ ⟨5120 + k.val, by omega⟩) * y (ix3 ⟨i.val / 2048, by omega⟩ ⟨i.val % 2048, Nat.mod_lt _ (by decide)⟩ k) := by
  pointwise [result]

section
variable (m : (ℓ : Loc nD τ sig) → Buf (Elt Ideal) ℓ) (c : Dev nD)

/-- The whole of the reference of its arguments. -/
def whole (x : X3) (a : A2) (n : (⟨S1024, .f32⟩ : BufTy).Contents (Elt Ideal)) (w : (⟨S1024x5632, .f32⟩ : BufTy).Contents (Elt Ideal))
    (cw : (⟨S3x5632, .f32⟩ : BufTy).Contents (Elt Ideal)) (cb : (⟨S5632, .f32⟩ : BufTy).Contents (Elt Ideal)) (d : (⟨S2816x1024, .f32⟩ : BufTy).Contents (Elt Ideal)) :
    (⟨S32768x1024, .f32⟩ : BufTy).Contents (Elt Ideal) :=
  result x a (lower (gated (convolved (padding (upper (hidden x (squares x) a n) w)) cw cb)) d)

theorem res_eq : Value.res_out0 m c = whole (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := rfl
end

section
variable (x : X3) (a : A2) (n : (⟨S1024, .f32⟩ : BufTy).Contents (Elt Ideal)) (w : (⟨S1024x5632, .f32⟩ : BufTy).Contents (Elt Ideal))
    (cw : (⟨S3x5632, .f32⟩ : BufTy).Contents (Elt Ideal)) (cb : (⟨S5632, .f32⟩ : BufTy).Contents (Elt Ideal)) (d : (⟨S2816x1024, .f32⟩ : BufTy).Contents (Elt Ideal))

abbrev fX : Fin 16 → Fin 2048 → Fin 1024 → EReal := fun b s k => x (ix3 b s k)
abbrev fA : Fin 16 → Fin 6144 → EReal := fun b k => a (ix2 b k)
abbrev fN : Fin 1024 → EReal := fun k => n (ix1 k)
abbrev fW : Fin 1024 → Fin 5632 → EReal := fun k f => w (ix2 k f)
abbrev fCw : Fin 3 → Fin 5632 → EReal := fun k f => cw (ix2 k f)
abbrev fCb : Fin 5632 → EReal := fun f => cb (ix1 f)
abbrev fD : Fin 2816 → Fin 1024 → EReal := fun j k => d (ix2 j k)

theorem up_value (b : Fin 16) (s : Fin 2048) (f : Fin 5632) :
    upper (hidden x (squares x) a n) w (ix3 b s f) = up (fX x) (fA a) (fN n) (fW w) b s f := by
  rw [upper_apply]
  unfold up
  refine Finset.sum_congr rfl fun k _ => ?_
  rw [hidden_apply, squares_apply]
  rfl

theorem pad_value (b : Fin 16) (p : Fin 2050) (f : Fin 5632) :
    padding (upper (hidden x (squares x) a n) w) (ix3 b p f) = padded (fX x) (fA a) (fN n) (fW w) b p.val f := by
  have hp := p.isLt
  rw [padding_apply]
  unfold padded
  by_cases h : p.val < 2
  · rw [dif_pos h, dif_neg (by omega)]
  · rw [dif_neg h, dif_pos ⟨by omega, by omega⟩, up_value]

theorem cv_value (b : Fin 16) (s : Fin 2048) (f : Fin 5632) :
    convolved (padding (upper (hidden x (squares x) a n) w)) cw cb (ix3 b s f) = cv (fX x) (fA a) (fN n) (fW w) (fCw cw) (fCb cb) b s.val f := by
  rw [convolved_apply, pad_value, pad_value, pad_value]
  unfold cv
  dsimp only
  rw [Nat.add_comm 1 s.val, Nat.add_comm 2 s.val]
  refine congrArg (· + (cb (ix1 f) : EReal)) ?_
  rw [add_comm, ← add_assoc, add_right_comm]

theorem act_value (b : Fin 16) (s : Fin 2048) (j : Fin 2816) :
    gated (convolved (padding (upper (hidden x (squares x) a n) w)) cw cb) (ix3 b s j) = actv (fX x) (fA a) (fN n) (fW w) (fCw cw) (fCb cb) b s.val j := by
  rw [gated_apply, cv_value, cv_value]
  rfl

theorem whole_value (b : Fin 16) (s : Fin 2048) (k : Fin 1024) (i : Fin 32768) (hi : i.val = 2048 * b.val + s.val) :
    whole x a n w cw cb d (ix2 i k) = out (fX x) (fA a) (fN n) (fW w) (fCw cw) (fCb cb) (fD d) b s k := by
  have hs := s.isLt
  have e1 : (⟨i.val / 2048, by omega⟩ : Fin 16) = b := Fin.ext (by dsimp only; omega)
  have e2 : (⟨i.val % 2048, Nat.mod_lt _ (by decide)⟩ : Fin 2048) = s := Fin.ext (by dsimp only; omega)
  unfold whole
  rw [result_apply, e1, e2, lower_apply]
  unfold out
  refine congrArg _ (congrArg _ (Finset.sum_congr rfl fun j _ => ?_))
  rw [act_value]
end

end Cert.FfnReferenceIdeal.Pieces
-- ==== Proof.FfnEquation.lean ====
/-
  The feed-forward kernel's result and its reference's are the same array.
-/
module

public import proofs.«01_k».proof.Proof.FfnArray
public import proofs.«01_k».proof.Proof.FfnRef

@[expose] public section

set_option maxRecDepth 16384

noncomputable section

namespace Cert.FeedForward

open Idealize.ShloMosaic Idealize.ShloMosaic.TcCoe Cert.FfnIdeal

variable (m : (ℓ : Loc nD τ sig) → Buf (Elt Ideal) ℓ) (c : Dev nD)

/-- Both results, entry by entry, are the same function of the arguments' entries. -/
theorem equation :
    (Cert.FfnReferenceIdeal.Pieces.whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
        : (⟨2, ![32768, 1024]⟩ : Shape).Idx → EReal) = Value.G7 m c := by
  funext i
  obtain ⟨a, d, rfl⟩ : ∃ (a : Fin 32768) (d : Fin 1024), i = ix2 a d := ⟨i 0, i 1, eq_ix2 i⟩
  have ha := a.isLt
  have e : a = ⟨2048 * (a.val / 2048) + a.val % 2048, by omega⟩ := Fin.ext (by dsimp only; omega)
  have hk := Tiles.array_value m c ⟨a.val / 2048, by omega⟩ ⟨a.val % 2048, Nat.mod_lt _ (by decide)⟩ d (by dsimp only; omega)
  refine (Cert.FfnReferenceIdeal.Pieces.whole_value _ _ _ _ _ _ _ ⟨a.val / 2048, by omega⟩ ⟨a.val % 2048, Nat.mod_lt _ (by decide)⟩ d a
    (by dsimp only; omega)).trans ?_
  exact hk.symm.trans (congrArg (fun z => Value.G7 m c (ix2 z d)) e.symm)

end Cert.FeedForward
-- ==== Proof.MergeMath.lean ====
/-
  The merge as a function of its arrays' entries: the gated memory branch and the attention branch, each with its product,
  their gated sum, the output product and the gated residual.
-/
module

public import proofs.«01_k».proof.Proof.FfnMath

@[expose] public section

noncomputable section

namespace Cert.Merging

open Idealize.ShloMosaic Cert.FeedForward

variable (X : Fin 16 → Fin 2048 → Fin 1024 → EReal) (A : Fin 16 → Fin 6144 → EReal) (H : Fin 16 → Fin 2048 → Fin 1024 → EReal)
  (T : Fin 16 → Fin 2048 → Fin 1024 → EReal) (P : Fin 16 → Fin 2048 → Fin 6144 → EReal) (Wa Wb Wo : Fin 1024 → Fin 1024 → EReal)

/-- The memory branch's product; `P` holds its gate from column 3072 on. -/
def ya (b : Fin 16) (s : Fin 2048) (d : Fin 1024) : EReal :=
  ∑ e : Fin 1024, H b s e * sigm (P b s ⟨3072 + e.val, by omega⟩) * Wa e d
/-- The attention branch's product. -/
def yb (b : Fin 16) (s : Fin 2048) (d : Fin 1024) : EReal := ∑ e : Fin 1024, T b s e * Wb e d
/-- The gated sum of the branches; `P` holds their gates from columns 4096 and 5120 on. -/
def merged (b : Fin 16) (s : Fin 2048) (d : Fin 1024) : EReal :=
  sigm (P b s ⟨4096 + d.val, by omega⟩) * ya H P Wa b s d + sigm (P b s ⟨5120 + d.val, by omega⟩) * yb T Wb b s d
/-- The result. -/
def out (b : Fin 16) (s : Fin 2048) (d : Fin 1024) : EReal :=
  X b s d + A b ⟨2048 + d.val, by omega⟩ * ∑ k : Fin 1024, merged H T P Wa Wb b s k * Wo k d

end Cert.Merging
-- ==== Proof.MergeValue.lean ====
/-
  One grid point of the merge kernel, entry by entry: its payloads cut into the gated memory branch, the attention branch's
  four slabs side by side, the products, the gated sum and the residual.
-/
module

public import proofs.«01_k».proof.Proof.Gen.MergeIdeal.Value
public import proofs.«01_k».proof.Proof.MergeMath
public import Idealize.ShloMosaic.Lib.Pointwise

@[expose] public section

set_option maxRecDepth 16384

noncomputable section

namespace Cert.MergeIdeal.Pieces

open Idealize.ShloMosaic Idealize.ShloMosaic.TcCoe Cert.MergeIdeal Cert.MergeIdeal.Gen Cert.FeedForward

abbrev Rows := FVec Ideal S512x1024 .bf16
abbrev RowsF := FVec Ideal S512x1024 .f32
abbrev Wt := FVec Ideal S1024x1024 .bf16
abbrev Slab := FVec Ideal S1x512x256 .bf16

/-- The gated memory branch. -/
def gatedH (h o : Rows) : Rows :=
  truncf .bf16 (mulf (extf .f32 (shapeCast S512x1024 h shapeCasts_S512x1024_S512x1024) bitsLt_bf16_f32) (logistic (extf .f32 o bitsLt_bf16_f32))) bitsLt_bf16_f32
theorem gatedH_apply (h o : Rows) (r : Fin 512) (e : Fin 1024) : gatedH h o (ix2 r e) = (h (ix2 r e) : EReal) * sigm (o (ix2 r e)) := by
  pointwise [gatedH]
  rfl

/-- A product with a square weight. -/
def prod (a : Rows) (w : Wt) : RowsF :=
  matmul dot_S512x1024_S1024x1024_S512x1024_1_0_0_1_n_n none a (shapeCast S1024x1024 w shapeCasts_S1024x1024_S1024x1024) (constant S512x1024 .f32 0x00000000#32)
theorem prod_apply (a : Rows) (w : Wt) (r : Fin 512) (d : Fin 1024) : prod a w (ix2 r d) = ∑ e : Fin 1024, (a (ix2 r e) : EReal) * w (ix2 e d) := by
  pointwise [prod, dot_S512x1024_S1024x1024_S512x1024_1_0_0_1_n_n]

/-- Four slabs side by side. -/
def slabs (a b c d : Slab) : Rows :=
  concatenate S512x1024 1 [⟨S512x256, shapeCast S512x256 a shapeCasts_S1x512x256_S512x256⟩, ⟨S512x256, shapeCast S512x256 b shapeCasts_S1x512x256_S512x256⟩, ⟨S512x256, shapeCast S512x256 c shapeCasts_S1x512x256_S512x256⟩, ⟨S512x256, shapeCast S512x256 d shapeCasts_S1x512x256_S512x256⟩] concatenates_S512x256_S512x256_S512x256_S512x256_S512x1024_d1

/-- The gated sum. -/
def mix (ga : Rows) (ya : RowsF) (gb : Rows) (yb : RowsF) : Rows :=
  truncf .bf16 (addf (mulf (logistic (extf .f32 ga bitsLt_bf16_f32)) ya) (mulf (logistic (extf .f32 gb bitsLt_bf16_f32)) yb)) bitsLt_bf16_f32
theorem mix_apply (ga : Rows) (ya : RowsF) (gb : Rows) (yb : RowsF) (r : Fin 512) (d : Fin 1024) :
    mix ga ya gb yb (ix2 r d) = sigm (ga (ix2 r d)) * (ya (ix2 r d) : EReal) + sigm (gb (ix2 r d)) * yb (ix2 r d) := by
  pointwise [mix]
  rfl

/-- The gated residual. -/
def resid (x : RowsF) (g : FVec Ideal S1x1x1024 .f32) (y : RowsF) : RowsF :=
  addf (shapeCast S512x1024 x shapeCasts_S512x1024_S512x1024) (mulf (broadcastTo S512x1024 (shapeCast S1x1024 g shapeCasts_S1x1x1024_S1x1024) broadcasts_S1x1024_S512x1024) y)
theorem resid_apply (x : RowsF) (g : FVec Ideal S1x1x1024 .f32) (y : RowsF) (r : Fin 512) (d : Fin 1024) :
    resid x g y (ix2 r d) = (x (ix2 r d) : EReal) + g (ix3 0 0 d) * y (ix2 r d) := by
  pointwise [resid]

theorem pay2_eq (v0 v3 : Rows) (v8 : Wt) (v11 v13 v15 v17 : Slab) (v20 : Wt) (v23 v27 : Rows) :
    k0_pay2 (F := Ideal) v0 v3 v8 v11 v13 v15 v17 v20 v23 v27 = mix v23 (prod (gatedH v0 v3) v8) v27 (prod (slabs v11 v13 v15 v17) v20) := rfl
theorem pay1_eq (v32 : Rows) (v33 : Wt) (v36 : RowsF) (v38 : FVec Ideal S1x1x1024 .f32) :
    k0_pay1 (F := Ideal) v32 v33 v36 v38 = resid v36 v38 (prod v32 v33) := rfl

theorem hz2 : (![0, 0] : Fin 2 → Nat) = fun _ => 0 := funext fun a => by fin_cases a <;> rfl

theorem ld_rows {φ : EltTy} (x : Vec Ideal S512x1024 φ) : View.ld x r0_0 = x := View.ld_unit_zero (S := S512x1024) hz2 _ x
theorem ld_square {φ : EltTy} (x : Vec Ideal S1024x1024 φ) : View.ld x r0_1 = x := View.ld_unit_zero (S := S1024x1024) hz2 _ x
theorem ld_ada (x : Vec Ideal S1x6x1024 .f32) (k : Fin 1024) : View.ld x r0_6 (ix3 0 0 k) = x (ix3 0 2 k) := by
  show x (r0_6.emb (ix3 0 0 k)) = _
  congr 1
  funext a
  match a with
  | ⟨0, _⟩ => exact Fin.ext (show 0 + 1 * 0 = 0 by omega)
  | ⟨1, _⟩ => exact Fin.ext (show 2 + 1 * 0 = 2 by omega)
  | ⟨2, _⟩ => exact Fin.ext (show 0 + 1 * k.val = k.val by omega)

theorem slabs_apply (a b c d : Slab) (r : Fin 512) (e : Fin 1024) :
    slabs a b c d (ix2 r e) = (if h : e.val < 256 then a (ix3 0 r ⟨e.val, h⟩) else if h : e.val - 256 < 256 then b (ix3 0 r ⟨e.val - 256, h⟩)
      else if h : e.val - 256 - 256 < 256 then c (ix3 0 r ⟨e.val - 256 - 256, h⟩) else d (ix3 0 r ⟨e.val - 256 - 256 - 256, by omega⟩) : EReal) := by
  pointwise [slabs]

theorem out_eq (x0 : Vec Ideal S512x1024 .f32) (x1 : Vec Ideal S1x6x1024 .f32) (x2 x3 : Vec Ideal S512x1024 .bf16) (x4 : Vec Ideal S4x512x256 .bf16)
    (x5 x6 : Vec Ideal S512x1024 .bf16) (x7 x8 x9 : Vec Ideal S1024x1024 .bf16) :
    out0_10 x0 x1 x2 x3 x4 x5 x6 x7 x8 x9 = resid x0 (View.ld x1 r0_6) (prod (mix x5 (prod (gatedH x2 x3) x7) x6
      (prod (slabs (View.ld x4 r0_2) (View.ld x4 r0_3) (View.ld x4 r0_4) (View.ld x4 r0_5)) x8)) x9) := by
  unfold out0_10
  rw [View.canon_unit_zero hz2, pay1_eq, pay2_eq]
  rw [ld_rows, ld_rows, ld_rows, ld_rows, ld_rows, ld_square, ld_square, ld_square]

end Cert.MergeIdeal.Pieces
-- ==== Proof.MergeArray.lean ====
/-
  The merge kernel's result array, entry by entry: what a grid point reads of the arrays, what it writes, and the array that
  the 64 points' blocks make up.
-/
module

public import proofs.«01_k».proof.Proof.MergeValue
public import Idealize.ShloMosaic.Lib.Pipeline.ValueKit.Point

@[expose] public section

set_option maxRecDepth 16384

noncomputable section

namespace Cert.MergeIdeal.Pieces

open Idealize.ShloMosaic Idealize.ShloMosaic.TcCoe Cert.MergeIdeal Cert.MergeIdeal.Gen Cert.FeedForward Cert.Merging

variable (m : (ℓ : Loc nD τ sig) → Buf (Elt Ideal) ℓ) (c : Dev nD)

/-- The stream, as launched. -/
def xArr : Fin 16 → Fin 2048 → Fin 1024 → EReal := fun b s k => m ((c : Thread nD τ).loc main_arg0) (ix3 b s k)
/-- The conditioning, as launched. -/
def aArr : Fin 16 → Fin 6144 → EReal := fun b k => m ((c : Thread nD τ).loc main_arg1) (ix2 b k)
/-- The memory branch, as launched. -/
def hArr : Fin 16 → Fin 2048 → Fin 1024 → EReal := fun b s k => m ((c : Thread nD τ).loc main_arg2) (ix3 b s k)
/-- The attention branch, as launched, by position. -/
def tArr : Fin 16 → Fin 2048 → Fin 1024 → EReal := fun b s e =>
  m ((c : Thread nD τ).loc main_arg3) (ix3 ⟨e.val / 256, by omega⟩ ⟨b.val * 2048 + s.val, by omega⟩ ⟨e.val % 256, Nat.mod_lt _ (by decide)⟩)
/-- The projections, as launched, by position. -/
def pArr : Fin 16 → Fin 2048 → Fin 6144 → EReal := fun b s k => m ((c : Thread nD τ).loc main_arg4) (ix2 ⟨b.val * 2048 + s.val, by omega⟩ k)
/-- The memory branch's weight, as launched. -/
def waArr : Fin 1024 → Fin 1024 → EReal := fun k d => m ((c : Thread nD τ).loc main_arg5) (ix2 k d)
/-- The attention branch's weight, as launched. -/
def wbArr : Fin 1024 → Fin 1024 → EReal := fun k d => m ((c : Thread nD τ).loc main_arg6) (ix2 k d)
/-- The output weight, as launched. -/
def woArr : Fin 1024 → Fin 1024 → EReal := fun k d => m ((c : Thread nD τ).loc main_arg7) (ix2 k d)

theorem index0 : ∀ t : Fin cfg0.N, win0_0.index t = ![t.val, 0] := (by decide +kernel : ∀ t : Fin grid0.N, _)
theorem index1 : ∀ t : Fin cfg0.N, win0_1.index t = ![t.val / 4, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 3] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![t.val, 4] := (by decide +kernel : ∀ t : Fin grid0.N, _)
theorem index6 : ∀ t : Fin cfg0.N, win0_6.index t = ![t.val, 5] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val, 0] := (by decide +kernel : ∀ t : Fin grid0.N, _)

variable (t : Fin cfg0.N)

theorem tlt : t.val < 64 := lt_of_lt_of_eq t.isLt N_0
/-- The point's sequence. -/
def seqOf : Fin 16 := ⟨t.val / 4, by have := tlt t; omega⟩
/-- The `r`-th row of the point, in its sequence. -/
def posOf (r : Fin 512) : Fin 2048 := ⟨512 * (t.val % 4) + r.val, by omega⟩

theorem iblk0_apply (r : Fin 512) (k : Fin 1024) : iblk m c 0 t (ix2 r k) = xArr m c (seqOf t) (posOf t r) k := by
  have := tlt t
  unfold xArr seqOf posOf
  blk_ext! [iblk, V, index0 t]
theorem iblk1_apply (i : Fin 6) (k : Fin 1024) (hi : 1024 * i.val + k.val < 6144) :
    iblk m c 1 t (ix3 0 i k) = aArr m c (seqOf t) ⟨1024 * i.val + k.val, hi⟩ := by
  have := tlt t
  unfold aArr seqOf
  blk_ext! [iblk, V, index1 t]
theorem iblk2_apply (r : Fin 512) (k : Fin 1024) : iblk m c 2 t (ix2 r k) = hArr m c (seqOf t) (posOf t r) k := by
  have := tlt t
  unfold hArr seqOf posOf
  blk_ext! [iblk, V, index2 t]
theorem iblk3_apply (r : Fin 512) (k : Fin 1024) : iblk m c 3 t (ix2 r k) = pArr m c (seqOf t) (posOf t r) ⟨3072 + k.val, by omega⟩ := by
  have := tlt t
  unfold pArr seqOf posOf
  blk_ext! [iblk, V, V_main_arg4, index3 t]
theorem iblk5_apply (r : Fin 512) (k : Fin 1024) : iblk m c 5 t (ix2 r k) = pArr m c (seqOf t) (posOf t r) ⟨4096 + k.val, by omega⟩ := by
  have := tlt t
  unfold pArr seqOf posOf
  blk_ext! [iblk, V, V_main_arg4, index5 t]
theorem iblk6_apply (r : Fin 512) (k : Fin 1024) : iblk m c 6 t (ix2 r k) = pArr m c (seqOf t) (posOf t r) ⟨5120 + k.val, by omega⟩ := by
  have := tlt t
  unfold pArr seqOf posOf
  blk_ext! [iblk, V, V_main_arg4, index6 t]
theorem iblk7_apply (k d : Fin 1024) : iblk m c 7 t (ix2 k d) = waArr m c k d := by
  unfold waArr
  blk_ext! [iblk, V, index7 t]
theorem iblk8_apply (k d : Fin 1024) : iblk m c 8 t (ix2 k d) = wbArr m c k d := by
  unfold wbArr
  blk_ext! [iblk, V, index8 t]
theorem iblk9_apply (k d : Fin 1024) : iblk m c 9 t (ix2 k d) = woArr m c k d := by
  unfold woArr
  blk_ext! [iblk, V, index9 t]

/-- A slab of the attention branch's block. -/
theorem slab_apply (q : Fin 4) (r : Fin 512) (j : Fin 256) (e : Fin 1024) (he : e.val = 256 * q.val + j.val) :
    iblk m c 4 t (ix3 q r j) = tArr m c (seqOf t) (posOf t r) e := by
  have := tlt t
  have e1 : (⟨e.val / 256, by omega⟩ : Fin 4) = q := Fin.ext (show e.val / 256 = q.val by omega)
  have e2 : (⟨e.val % 256, Nat.mod_lt _ (by decide)⟩ : Fin 256) = j := Fin.ext (show e.val % 256 = j.val by omega)
  unfold tArr
  rw [e1, e2]
  unfold seqOf posOf
  blk_ext! [iblk, V, V_main_arg3, index4 t]

theorem ld_slab (x : Vec Ideal S4x512x256 .bf16) (q : ℕ) (hq : q < 4) (hi : ∀ a, (![q, 0, 0] : Fin 3 → ℕ) a + S1x512x256.size a ≤ S4x512x256.size a)
    (r : Fin 512) (j : Fin 256) :
    View.ld x (Rect.unit (s := S4x512x256) ![q, 0, 0] S1x512x256.size hi) (ix3 0 r j) = x (ix3 ⟨q, hq⟩ r j) := by
  show x ((Rect.unit (s := S4x512x256) ![q, 0, 0] S1x512x256.size hi).emb (ix3 0 r j)) = _
  congr 1
  funext a
  match a with
  | ⟨0, _⟩ => exact Fin.ext (show q + 1 * 0 = q by omega)
  | ⟨1, _⟩ => exact Fin.ext (show 0 + 1 * r.val = r.val by omega)
  | ⟨2, _⟩ => exact Fin.ext (show 0 + 1 * j.val = j.val by omega)

theorem heads_apply (r : Fin 512) (e : Fin 1024) :
    slabs (View.ld (iblk m c 4 t) r0_2) (View.ld (iblk m c 4 t) r0_3) (View.ld (iblk m c 4 t) r0_4) (View.ld (iblk m c 4 t) r0_5) (ix2 r e)
      = tArr m c (seqOf t) (posOf t r) e := by
  have he := e.isLt
  refine (slabs_apply _ _ _ _ r e).trans ?_
  split
  · exact (ld_slab _ 0 (by decide) _ r _).trans (slab_apply m c t 0 r _ e (show e.val = 256 * 0 + e.val by omega))
  · split
    · exact (ld_slab _ 1 (by decide) _ r _).trans (slab_apply m c t 1 r _ e (show e.val = 256 * 1 + (e.val - 256) by omega))
    · split
      · exact (ld_slab _ 2 (by decide) _ r _).trans (slab_apply m c t 2 r _ e (show e.val = 256 * 2 + (e.val - 256 - 256) by omega))
      · exact (ld_slab _ 3 (by decide) _ r _).trans (slab_apply m c t 3 r _ e (show e.val = 256 * 3 + (e.val - 256 - 256 - 256) by omega))

/-- What a point computes. -/
theorem point_value (r : Fin 512) (d : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r d)
      = Merging.out (xArr m c) (aArr m c) (hArr m c) (tArr m c) (pArr m c) (waArr m c) (wbArr m c) (woArr m c) (seqOf t) (posOf t r) d := by
  refine (congrFun (out_eq _ _ _ _ _ _ _ _ _ _) (ix2 r d)).trans ((resid_apply _ _ _ r d).trans ?_)
  unfold Merging.out
  refine congr (congrArg HAdd.hAdd (iblk0_apply m c t r d)) (congr (congrArg HMul.hMul
    ((ld_ada _ d).trans (iblk1_apply m c t 2 d (show 1024 * 2 + d.val < 6144 by omega)))) ((prod_apply _ _ r d).trans ?_))
  refine Finset.sum_congr rfl fun k _ => congr (congrArg HMul.hMul ((mix_apply _ _ _ _ r k).trans ?_)) (iblk9_apply m c t k d)
  unfold merged
  refine congr (congrArg HAdd.hAdd (congr (congrArg HMul.hMul (congrArg sigm (iblk5_apply m c t r k))) ((prod_apply _ _ r k).trans ?_)))
    (congr (congrArg HMul.hMul (congrArg sigm (iblk6_apply m c t r k))) ((prod_apply _ _ r k).trans ?_))
  · refine Finset.sum_congr rfl fun e _ => congr (congrArg HMul.hMul ((gatedH_apply _ _ r e).trans ?_)) (iblk7_apply m c t e k)
    exact congr (congrArg HMul.hMul (iblk2_apply m c t r e)) (congrArg sigm (iblk3_apply m c t r e))
  · exact Finset.sum_congr rfl fun e _ => congr (congrArg HMul.hMul (heads_apply m c t r e)) (iblk8_apply m c t e k)

/-- An index of the result's block at a point is this index of the array. -/
theorem emb_out (r : Fin 512) (d : Fin 1024) (h : 512 * t.val + r.val < 32768) :
    ((cfg0.win 10).blk t).view.emb (ix2 r d) = (ix2 ⟨512 * t.val + r.val, h⟩ d : S32768x1024.Idx) := by
  have e0 : win0_10.index t (0 : Fin 2) = t.val := congrFun (index10 t) 0
  have e1 : win0_10.index t (1 : Fin 2) = 0 := congrFun (index10 t) 1
  funext a
  apply Fin.ext
  match a with
  | ⟨0, _⟩ => show win0_10.index t (0 : Fin 2) * 512 + 1 * r.val = 512 * t.val + r.val; omega
  | ⟨1, _⟩ => show win0_10.index t (1 : Fin 2) * 1024 + 1 * d.val = d.val; omega

/-- Row `2048 b + s` of the kernel's result. -/
theorem array_value (b : Fin 16) (s : Fin 2048) (d : Fin 1024) (h : 2048 * b.val + s.val < 32768) :
    ((dats m 0 c).arrAt 10 cfg0.N : S32768x1024.Idx → EReal) (ix2 ⟨2048 * b.val + s.val, h⟩ d)
      = Merging.out (xArr m c) (aArr m c) (hArr m c) (tArr m c) (pArr m c) (waArr m c) (wbArr m c) (woArr m c) b s d := by
  have hs := s.isLt
  have hb := b.isLt
  have hn : 4 * b.val + s.val / 512 < cfg0.N := lt_of_lt_of_eq (show _ < 64 by omega) N_0.symm
  have e1 : seqOf ⟨4 * b.val + s.val / 512, hn⟩ = b := Fin.ext (show (4 * b.val + s.val / 512) / 4 = b.val by omega)
  have e2 : posOf ⟨4 * b.val + s.val / 512, hn⟩ ⟨s.val % 512, Nat.mod_lt _ (by decide)⟩ = s :=
    Fin.ext (show 512 * ((4 * b.val + s.val / 512) % 4) + s.val % 512 = s.val by omega)
  have key := congrFun ((Value.blocks10 m c ⟨4 * b.val + s.val / 512, hn⟩ (flush0_10 _)).trans (Value.flushed10 m c ⟨4 * b.val + s.val / 512, hn⟩))
    (ix2 ⟨s.val % 512, Nat.mod_lt _ (by decide)⟩ d)
  have pv := point_value m c ⟨4 * b.val + s.val / 512, hn⟩ ⟨s.val % 512, Nat.mod_lt _ (by decide)⟩ d
  rw [e1, e2] at pv
  have ei : (ix2 ⟨2048 * b.val + s.val, h⟩ d : S32768x1024.Idx)
      = ((cfg0.win 10).blk ⟨4 * b.val + s.val / 512, hn⟩).view.emb (ix2 ⟨s.val % 512, Nat.mod_lt _ (by decide)⟩ d) := by
    rw [emb_out ⟨4 * b.val + s.val / 512, hn⟩ ⟨s.val % 512, Nat.mod_lt _ (by decide)⟩ d (show 512 * (4 * b.val + s.val / 512) + s.val % 512 < 32768 by omega)]
    exact congrArg (fun z => (ix2 z d : S32768x1024.Idx)) (Fin.ext (show 2048 * b.val + s.val = 512 * (4 * b.val + s.val / 512) + s.val % 512 by omega))
  rw [ei]
  exact key.trans pv

end Cert.MergeIdeal.Pieces
-- ==== Proof.MergeRef.lean ====
/-
  The merge reference's result, entry by entry: its composed term cut into the gated memory branch, the attention branch laid
  out by position, the products, the gated sum and the residual.
-/
module

public import proofs.«01_k».proof.Proof.Gen.MergeReferenceIdeal.Run
public import proofs.«01_k».proof.Proof.MergeMath
public import Idealize.ShloMosaic.Lib.Pointwise

@[expose] public section

set_option maxRecDepth 16384

noncomputable section

namespace Cert.MergeReferenceIdeal.Pieces

open Idealize.ShloMosaic Idealize.ShloMosaic.TcCoe Cert.MergeReferenceIdeal Cert.MergeReferenceIdeal.Gen Cert.FeedForward Cert.Merging

abbrev X3 := (⟨S16x2048x1024, .f32⟩ : BufTy).Contents (Elt Ideal)
abbrev H3 := (⟨S16x2048x1024, .bf16⟩ : BufTy).Contents (Elt Ideal)
abbrev T3 := (⟨S4x32768x256, .bf16⟩ : BufTy).Contents (Elt Ideal)
abbrev P2 := (⟨S32768x6144, .bf16⟩ : BufTy).Contents (Elt Ideal)
abbrev A2 := (⟨S16x6144, .f32⟩ : BufTy).Contents (Elt Ideal)
abbrev W2 := (⟨S1024x1024, .f32⟩ : BufTy).Contents (Elt Ideal)

/-- The logistic function of an array. -/
def gate (x : X3) : X3 :=
  Host.divf (F := Ideal) (φ := .f32) (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf x)))
theorem gate_apply (x : X3) (b : Fin 16) (s : Fin 2048) (d : Fin 1024) : gate x (ix3 b s d) = sigm (x (ix3 b s d)) := by
  pointwise [gate]
  rfl

/-- Columns 3072 to 4095 of the projections. -/
def colsO (p : P2) : X3 :=
  extf (F := Ideal) .f32 (extractStridedSlice S16x2048x1024 ![0, 0, 3072] (shapeCast _ p shapeCasts_S32768x6144_S16x2048x6144) slices_S16x2048x6144_S16x2048x1024_0_0_3072) bitsLt_bf16_f32
/-- Columns 4096 to 5119 of the projections. -/
def colsA (p : P2) : X3 :=
  extf (F := Ideal) .f32 (extractStridedSlice S16x2048x1024 ![0, 0, 4096] (shapeCast _ p shapeCasts_S32768x6144_S16x2048x6144) slices_S16x2048x6144_S16x2048x1024_0_0_4096) bitsLt_bf16_f32
/-- Columns 5120 to 6143 of the projections. -/
def colsB (p : P2) : X3 :=
  extf (F := Ideal) .f32 (extractStridedSlice S16x2048x1024 ![0, 0, 5120] (shapeCast _ p shapeCasts_S32768x6144_S16x2048x6144) slices_S16x2048x6144_S16x2048x1024_0_0_5120) bitsLt_bf16_f32
theorem colsO_apply (p : P2) (b : Fin 16) (s : Fin 2048) (d : Fin 1024) :
    colsO p (ix3 b s d) = (p (ix2 ⟨b.val * 2048 + s.val, by omega⟩ ⟨3072 + d.val, by omega⟩) : EReal) := by
  pointwise [colsO]
theorem colsA_apply (p : P2) (b : Fin 16) (s : Fin 2048) (d : Fin 1024) :
    colsA p (ix3 b s d) = (p (ix2 ⟨b.val * 2048 + s.val, by omega⟩ ⟨4096 + d.val, by omega⟩) : EReal) := by
  pointwise [colsA]
theorem colsB_apply (p : P2) (b : Fin 16) (s : Fin 2048) (d : Fin 1024) :
    colsB p (ix3 b s d) = (p (ix2 ⟨b.val * 2048 + s.val, by omega⟩ ⟨5120 + d.val, by omega⟩) : EReal) := by
  pointwise [colsB]

/-- The attention branch by position. -/
def heads (t : T3) : X3 :=
  shapeCast _ (transpose S32768x4x256 [1, 0, 2] (extf (F := Ideal) .f32 t bitsLt_bf16_f32) transposes_S4x32768x256_S32768x4x256_1_0_2) shapeCasts_S32768x4x256_S16x2048x1024
theorem heads_apply (t : T3) (b : Fin 16) (s : Fin 2048) (e : Fin 1024) :
    heads t (ix3 b s e) = (t (ix3 ⟨e.val / 256, by omega⟩ ⟨b.val * 2048 + s.val, by omega⟩ ⟨e.val % 256, Nat.mod_lt _ (by decide)⟩) : EReal) := by
  pointwise [heads]

/-- The gated memory branch. -/
def memory (h : H3) (g : X3) : X3 := mulf (F := Ideal) (φ := .f32) (extf .f32 h bitsLt_bf16_f32) g
theorem memory_apply (h : H3) (g : X3) (b : Fin 16) (s : Fin 2048) (e : Fin 1024) : memory h g (ix3 b s e) = (h (ix3 b s e) : EReal) * g (ix3 b s e) := by
  pointwise [memory]

/-- A product with a square weight. -/
def prod (a : X3) (w : W2) : X3 :=
  Host.dotGeneral (F := Ideal) (φ₁ := .f32) (φ₂ := .f32) dot_S16x2048x1024_S1024x1024_S16x2048x1024_2_0_01_1_n_n none a w
theorem prod_apply (a : X3) (w : W2) (b : Fin 16) (s : Fin 2048) (d : Fin 1024) :
    prod a w (ix3 b s d) = ∑ e : Fin 1024, (a (ix3 b s e) : EReal) * w (ix2 e d) := by
  pointwise [prod, dot_S16x2048x1024_S1024x1024_S16x2048x1024_2_0_01_1_n_n]

/-- The gated sum. -/
def mix (ga ya gb yb : X3) : X3 := addf (F := Ideal) (φ := .f32) (mulf ga ya) (mulf gb yb)
theorem mix_apply (ga ya gb yb : X3) (b : Fin 16) (s : Fin 2048) (d : Fin 1024) :
    mix ga ya gb yb (ix3 b s d) = (ga (ix3 b s d) : EReal) * ya (ix3 b s d) + gb (ix3 b s d) * yb (ix3 b s d) := by
  pointwise [mix]

/-- The gated residual, as rows. -/
def result (x : X3) (a : A2) (y : X3) : (⟨S32768x1024, .f32⟩ : BufTy).Contents (Elt Ideal) :=
  shapeCast _ (addf (F := Ideal) (φ := .f32) x (mulf (broadcastInDim S16x2048x1024 ![0, 1, 2] bcast_S16x1x1024_S16x2048x1024_0_1_2 (broadcastInDim S16x1x1024 ![0, 2] bcast_S16x1024_S16x1x1024_0_2 (extractStridedSlice S16x1024 ![0, 2048] a slices_S16x6144_S16x1024_0_2048))) y)) shapeCasts_S16x2048x1024_S32768x1024
theorem result_apply (x : X3) (a : A2) (y : X3) (i : Fin 32768) (k : Fin 1024) :
    result x a y (ix2 i k) = (x (ix3 ⟨i.val / 2048, by omega⟩ ⟨i.val % 2048, Nat.mod_lt _ (by decide)⟩ k) : EReal)
      + a (ix2 ⟨i.val / 2048, by omega⟩ ⟨2048 + k.val, by omega⟩) * y (ix3 ⟨i.val / 2048, by omega⟩ ⟨i.val % 2048, Nat.mod_lt _ (by decide)⟩ k) := by
  pointwise [result]

/-- The whole of the reference of its arguments. -/
def whole (x : X3) (a : A2) (h : H3) (t : T3) (p : P2) (wa wb wo : W2) : (⟨S32768x1024, .f32⟩ : BufTy).Contents (Elt Ideal) :=
  result x a (prod (mix (gate (colsA p)) (prod (memory h (gate (colsO p))) wa) (gate (colsB p)) (prod (heads t) wb)) wo)

section
variable (x : X3) (a : A2) (h : H3) (t : T3) (p : P2) (wa wb wo : W2)

abbrev fX : Fin 16 → Fin 2048 → Fin 1024 → EReal := fun b s k => x (ix3 b s k)
abbrev fA : Fin 16 → Fin 6144 → EReal := fun b k => a (ix2 b k)
abbrev fH : Fin 16 → Fin 2048 → Fin 1024 → EReal := fun b s k => h (ix3 b s k)
abbrev fT : Fin 16 → Fin 2048 → Fin 1024 → EReal := fun b s e =>
  t (ix3 ⟨e.val / 256, by omega⟩ ⟨b.val * 2048 + s.val, by omega⟩ ⟨e.val % 256, Nat.mod_lt _ (by decide)⟩)
abbrev fP : Fin 16 → Fin 2048 → Fin 6144 → EReal := fun b s k => p (ix2 ⟨b.val * 2048 + s.val, by omega⟩ k)
abbrev fW : Fin 1024 → Fin 1024 → EReal := fun k d => wa (ix2 k d)

theorem mix_value (b : Fin 16) (s : Fin 2048) (d : Fin 1024) :
    mix (gate (colsA p)) (prod (memory h (gate (colsO p))) wa) (gate (colsB p)) (prod (heads t) wb) (ix3 b s d)
      = merged (fH h) (fT t) (fP p) (fW wa) (fW wb) b s d := by
  rw [mix_apply, gate_apply, gate_apply, colsA_apply, colsB_apply, prod_apply, prod_apply]
  unfold merged ya yb
  refine congr (congrArg HAdd.hAdd (congrArg _ (Finset.sum_congr rfl fun e _ => ?_))) (congrArg _ (Finset.sum_congr rfl fun e _ => ?_))
  · rw [memory_apply, gate_apply, colsO_apply]
  · rw [heads_apply]

theorem whole_value (b : Fin 16) (s : Fin 2048) (k : Fin 1024) (i : Fin 32768) (hi : i.val = 2048 * b.val + s.val) :
    whole x a h t p wa wb wo (ix2 i k) = Merging.out (fX x) (fA a) (fH h) (fT t) (fP p) (fW wa) (fW wb) (fW wo) b s k := by
  have hs := s.isLt
  have e1 : (⟨i.val / 2048, by omega⟩ : Fin 16) = b := Fin.ext (by dsimp only; omega)
  have e2 : (⟨i.val % 2048, Nat.mod_lt _ (by decide)⟩ : Fin 2048) = s := Fin.ext (by dsimp only; omega)
  unfold whole
  rw [result_apply, e1, e2, prod_apply]
  unfold Merging.out
  refine congrArg _ (congrArg _ (Finset.sum_congr rfl fun j _ => ?_))
  rw [mix_value]
end

end Cert.MergeReferenceIdeal.Pieces
-- ==== Proof.MergeEquation.lean ====
/-
  The merge kernel's result and its reference's are the same array.
-/
module

public import proofs.«01_k».proof.Proof.MergeArray
public import proofs.«01_k».proof.Proof.MergeRef

@[expose] public section

set_option maxRecDepth 16384

noncomputable section

namespace Cert.Merging

open Idealize.ShloMosaic Idealize.ShloMosaic.TcCoe Cert.MergeIdeal Cert.MergeIdeal.Gen

variable (m : (ℓ : Loc nD τ sig) → Buf (Elt Ideal) ℓ) (c : Dev nD)

/-- Both results, entry by entry, are the same function of the arguments' entries. -/
theorem equation :
    (Cert.MergeReferenceIdeal.Pieces.whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) : (⟨2, ![32768, 1024]⟩ : Shape).Idx → EReal) = (dats m 0 c).arrAt 10 cfg0.N := by
  funext i
  obtain ⟨a, d, rfl⟩ : ∃ (a : Fin 32768) (d : Fin 1024), i = ix2 a d := ⟨i 0, i 1, eq_ix2 i⟩
  have ha := a.isLt
  have e : a = ⟨2048 * (a.val / 2048) + a.val % 2048, by omega⟩ := Fin.ext (by dsimp only; omega)
  have hk := Cert.MergeIdeal.Pieces.array_value m c ⟨a.val / 2048, by omega⟩ ⟨a.val % 2048, Nat.mod_lt _ (by decide)⟩ d (by dsimp only; omega)
  refine (Cert.MergeReferenceIdeal.Pieces.whole_value _ _ _ _ _ _ _ _ ⟨a.val / 2048, by omega⟩ ⟨a.val % 2048, Nat.mod_lt _ (by decide)⟩ d a
    (by dsimp only; omega)).trans ?_
  exact hk.symm.trans (congrArg (fun z => ((dats m 0 c).arrAt 10 cfg0.N : S32768x1024.Idx → EReal) (ix2 z d)) e.symm)

end Cert.Merging
-- ==== Proof.ProjTiles.lean ====
/-
  One grid point of the input projection's kernel, as functions of the blocks it reads: the modulated rows, and their
  products with the weights, 1024 columns at a time.
-/
module

public import proofs.«01_k».proof.Proof.Gen.ProjIdeal.Value
public import Idealize.ShloMosaic.Lib.Pointwise

@[expose] public section

set_option maxRecDepth 16384

noncomputable section

namespace Cert.ProjIdeal.Tiles

open Idealize.ShloMosaic Idealize.ShloMosaic.TcCoe Idealize.ShloMosaic.Tactic Cert.ProjIdeal Cert.ProjIdeal.Gen

variable {F : FTy → Type} [FloatOps F]

theorem inbCol (j : Fin 6) : ∀ a, (![0, 1024 * j.val] : Fin 2 → ℕ) a + (![512, 1024] : Fin 2 → ℕ) a ≤ S512x6144.size a :=
  fun a => by match a with | ⟨0, _⟩ => simp [S512x6144] | ⟨1, _⟩ => simp [S512x6144]; omega
theorem inbSlab (i : Fin 12) : ∀ a, (![i.val, 0, 0] : Fin 3 → ℕ) a + (![1, 512, 256] : Fin 3 → ℕ) a ≤ S12x512x256.size a :=
  fun a => by match a with | ⟨0, _⟩ => simp [S12x512x256] | ⟨1, _⟩ => simp [S12x512x256] | ⟨2, _⟩ => simp [S12x512x256]
theorem inbMain (j : ℕ) (h : j < 4) : ∀ a, (![1024 * j, 0] : Fin 2 → ℕ) a + (![1024, 1024] : Fin 2 → ℕ) a ≤ S4096x1024.size a :=
  fun a => by match a with | ⟨0, _⟩ => simp [S4096x1024]; omega | ⟨1, _⟩ => simp [S4096x1024]
theorem inbFox (j : ℕ) (h : j < 3) : ∀ a, (![1024 * j, 0] : Fin 2 → ℕ) a + (![1024, 1024] : Fin 2 → ℕ) a ≤ S3072x1024.size a :=
  fun a => by match a with | ⟨0, _⟩ => simp [S3072x1024]; omega | ⟨1, _⟩ => simp [S3072x1024]
theorem inbGab (j : ℕ) (h : j < 2) : ∀ a, (![1024 * j, 0] : Fin 2 → ℕ) a + (![1024, 1024] : Fin 2 → ℕ) a ≤ S2048x1024.size a :=
  fun a => by match a with | ⟨0, _⟩ => simp [S2048x1024]; omega | ⟨1, _⟩ => simp [S2048x1024]
theorem inbAda (k : ℕ) (hk : k < 6) : ∀ a, (![0, k, 0] : Fin 3 → ℕ) a + (![1, 1, 1024] : Fin 3 → ℕ) a ≤ S1x6x1024.size a :=
  fun a => by match a with | ⟨0, _⟩ => simp [S1x6x1024] | ⟨1, _⟩ => simp [S1x6x1024]; omega | ⟨2, _⟩ => simp [S1x6x1024]

/-- The `j`-th 1024 columns of the first result's block. -/
abbrev colR (j : Fin 6) : Rect S512x6144 := Rect.unit ![0, 1024 * j.val] ![512, 1024] (inbCol j)
/-- The `i`-th slab of the second result's block. -/
abbrev slabR (i : Fin 12) : Rect S12x512x256 := Rect.unit ![i.val, 0, 0] ![1, 512, 256] (inbSlab i)
/-- 1024 rows of the first weights. -/
abbrev mainR (j : ℕ) (h : j < 4) : Rect S4096x1024 := Rect.unit ![1024 * j, 0] ![1024, 1024] (inbMain j h)
/-- 1024 rows of the second weights. -/
abbrev foxR (j : ℕ) (h : j < 3) : Rect S3072x1024 := Rect.unit ![1024 * j, 0] ![1024, 1024] (inbFox j h)
/-- 1024 rows of the third weights. -/
abbrev gabR (j : ℕ) (h : j < 2) : Rect S2048x1024 := Rect.unit ![1024 * j, 0] ![1024, 1024] (inbGab j h)
/-- The `k`-th conditioning row. -/
abbrev adaR (k : ℕ) (hk : k < 6) : Rect S1x6x1024 := Rect.unit ![0, k, 0] ![1, 1, 1024] (inbAda k hk)

/-- A load of a whole buffer after a store of all of it reads the store. -/
theorem readCov_whole {sig : RefSig} {κ : Kind} {sp : Space} {e : EltTy} (v : View sig κ sp S512x1024 e)
    (ha hb : ∀ x, (![0, 0] : Fin 2 → ℕ) x + (![512, 1024] : Fin 2 → ℕ) x ≤ S512x1024.size x)
    (w : Vec F S512x1024 e) (L : List (View.Piece (Elt F) S512x1024 e)) :
    v.readCov ((⟨Rect.unit (s := S512x1024) ![0, 0] ![512, 1024] ha, w⟩ : View.Piece (Elt F) S512x1024 e) :: L)
        (Rect.unit (s := S512x1024) ![0, 0] ![512, 1024] hb).toLoadRect
      = w := by
  rw [View.readCov_eq_canon']
  funext j
  have e' : (Rect.unit (s := S512x1024) ![0, 0] ![512, 1024] hb).toLoadRect.idx j = (Rect.unit (s := S512x1024) ![0, 0] ![512, 1024] ha).emb j := rfl
  rw [e', View.canon_cons_emb]

section
variable (x0 : Vec F S512x1024 .f32) (x1 : Vec F S1x6x1024 .f32) (x2 : Vec F S1x1024 .f32) (x3 : Vec F S4096x1024 .bf16)
  (x4 : Vec F S3072x1024 .bf16) (x5 : Vec F S2048x1024 .bf16) (x6 : Vec F S128x1024 .bf16) (x7 : Vec F S1x128 .f32)

/-- The modulated rows. -/
def hT : FVec F S512x1024 .bf16 :=
  k0_pay7 (View.ld x0 (Rect.unit ![0, 0] ![512, 1024] inb_S512x1024_S512x1024_0_0))
    (View.ld x2 (Rect.unit ![0, 0] ![1, 1024] inb_S1x1024_S1x1024_0_0)) (View.ld x1 (adaR 0 (by decide))) (View.ld x1 (adaR 1 (by decide)))
/-- The rows of weights of the `j`-th 1024 columns. -/
def colW : Fin 6 → Vec F S1024x1024 .bf16
  | ⟨0, _⟩ => View.ld x3 (mainR 0 (by decide))
  | ⟨1, _⟩ => View.ld x3 (mainR 1 (by decide))
  | ⟨2, _⟩ => View.ld x3 (mainR 2 (by decide))
  | ⟨3, _⟩ => View.ld x3 (mainR 3 (by decide))
  | ⟨4, _⟩ => View.ld x5 (gabR 0 (by decide))
  | ⟨5, _⟩ => View.ld x5 (gabR 1 (by decide))
/-- The `j`-th 1024 columns of the first result's block. -/
def colV (j : Fin 6) : FVec F S512x1024 .bf16 := k0_pay9 (hT x0 x1 x2) (colW x3 x5 j)
/-- The `i`-th slab of the second result's block. -/
def slabV : Fin 12 → FVec F S1x512x256 .bf16
  | ⟨0, _⟩ => k0_pay30 (hT x0 x1 x2) (View.ld x4 (foxR 0 (by decide)))
  | ⟨1, _⟩ => k0_pay31 (hT x0 x1 x2) (View.ld x4 (foxR 0 (by decide)))
  | ⟨2, _⟩ => k0_pay32 (hT x0 x1 x2) (View.ld x4 (foxR 0 (by decide)))
  | ⟨3, _⟩ => k0_pay33 (hT x0 x1 x2) (View.ld x4 (foxR 0 (by decide)))
  | ⟨4, _⟩ => k0_pay30 (hT x0 x1 x2) (View.ld x4 (foxR 1 (by decide)))
  | ⟨5, _⟩ => k0_pay31 (hT x0 x1 x2) (View.ld x4 (foxR 1 (by decide)))
  | ⟨6, _⟩ => k0_pay32 (hT x0 x1 x2) (View.ld x4 (foxR 1 (by decide)))
  | ⟨7, _⟩ => k0_pay33 (hT x0 x1 x2) (View.ld x4 (foxR 1 (by decide)))
  | ⟨8, _⟩ => k0_pay30 (hT x0 x1 x2) (View.ld x4 (foxR 2 (by decide)))
  | ⟨9, _⟩ => k0_pay31 (hT x0 x1 x2) (View.ld x4 (foxR 2 (by decide)))
  | ⟨10, _⟩ => k0_pay32 (hT x0 x1 x2) (View.ld x4 (foxR 2 (by decide)))
  | ⟨11, _⟩ => k0_pay33 (hT x0 x1 x2) (View.ld x4 (foxR 2 (by decide)))
/-- The gates. -/
def gateV : FVec F S512x128 .f32 :=
  k0_pay8 (hT x0 x1 x2) (View.ld x6 (Rect.unit ![0, 0] ![128, 1024] inb_S128x1024_S128x1024_0_0))
    (View.ld x7 (Rect.unit ![0, 0] ![1, 128] inb_S1x128_S1x128_0_0))
/-- A store of the `j`-th 1024 columns. -/
def colP (j : Fin 6) : View.Piece (Elt F) S512x6144 .bf16 := ⟨colR j, colV x0 x1 x2 x3 x5 j⟩
/-- A store of the `i`-th slab. -/
def slabP (i : Fin 12) : View.Piece (Elt F) S12x512x256 .bf16 := ⟨slabR i, slabV x0 x1 x2 x4 i⟩
/-- The stores into the first result's block, the last first. -/
def colL : List (View.Piece (Elt F) S512x6144 .bf16) := [5, 4, 3, 2, 1, 0].map (colP x0 x1 x2 x3 x5)
/-- The stores into the second result's block, the last first. -/
def slabL : List (View.Piece (Elt F) S12x512x256 .bf16) := [11, 10, 9, 8, 7, 6, 5, 4, 3, 2, 1, 0].map (slabP x0 x1 x2 x4)
end

end Cert.ProjIdeal.Tiles
-- ==== Proof.ProjMath.lean ====
/-
  The input projection as functions of its arrays' entries: the products of the modulated rows with the weights' columns.
-/
module

public import proofs.«01_k».proof.Proof.FfnMath

@[expose] public section

noncomputable section

namespace Cert.Projection

open Idealize.ShloMosaic Cert.FeedForward

variable (X : Fin 16 → Fin 2048 → Fin 1024 → EReal) (A : Fin 16 → Fin 6144 → EReal) (N : Fin 1024 → EReal)
  (W : Fin 1024 → Fin 9240 → EReal)

/-- Row `s` of sequence `b`, modulated. -/
def row (b : Fin 16) (s : Fin 2048) (k : Fin 1024) : EReal :=
  hid (X b s) N (fun k => A b ⟨1024 + k.val, by omega⟩) (fun k => A b ⟨k.val, by omega⟩) k
/-- Its product with column `c` of the weights. -/
def prod (b : Fin 16) (s : Fin 2048) (c : Fin 9240) : EReal := ∑ k : Fin 1024, row X A N b s k * W k c
/-- The weights' column that column `c` of the first result is of. -/
def colOf (c : Fin 6144) : Fin 9240 := if h : c.val < 4096 then ⟨c.val, by omega⟩ else ⟨c.val + 3096, by omega⟩
/-- The weights' column that column `j` of slab `i` of the second result is of. -/
def slabOf (i : Fin 12) (j : Fin 256) : Fin 9240 := ⟨4104 + (256 * i.val + j.val), by omega⟩

end Cert.Projection
-- ==== Proof.ProjValue.lean ====
/-
  The functions of one grid point of the input projection's kernel, entry by entry.
-/
module

public import proofs.«01_k».proof.Proof.ProjTiles
public import proofs.«01_k».proof.Proof.ProjMath

@[expose] public section

set_option maxRecDepth 16384

noncomputable section

namespace Cert.ProjIdeal.Tiles

open Idealize.ShloMosaic Idealize.ShloMosaic.TcCoe Cert.ProjIdeal Cert.ProjIdeal.Gen Cert.FeedForward

section
variable {F : FTy → Type} [FloatOps F]

theorem ld_x (x : Vec F S512x1024 .f32) (r : Fin 512) (k : Fin 1024) :
    View.ld x (Rect.unit (s := S512x1024) ![0, 0] ![512, 1024] inb_S512x1024_S512x1024_0_0) (ix2 r k) = x (ix2 r k) := by
  show x ((Rect.unit (s := S512x1024) ![0, 0] ![512, 1024] inb_S512x1024_S512x1024_0_0).emb (ix2 r k)) = _
  congr 1
  funext a
  match a with
  | ⟨0, _⟩ => exact Fin.ext (show 0 + 1 * r.val = r.val by omega)
  | ⟨1, _⟩ => exact Fin.ext (show 0 + 1 * k.val = k.val by omega)
theorem ld_n (x : Vec F S1x1024 .f32) (k : Fin 1024) :
    View.ld x (Rect.unit (s := S1x1024) ![0, 0] ![1, 1024] inb_S1x1024_S1x1024_0_0) (ix2 0 k) = x (ix2 0 k) := by
  show x ((Rect.unit (s := S1x1024) ![0, 0] ![1, 1024] inb_S1x1024_S1x1024_0_0).emb (ix2 0 k)) = _
  congr 1
  funext a
  match a with
  | ⟨0, _⟩ => exact Fin.ext (show 0 + 1 * 0 = 0 by omega)
  | ⟨1, _⟩ => exact Fin.ext (show 0 + 1 * k.val = k.val by omega)
theorem ld_ada (x : Vec F S1x6x1024 .f32) (i : ℕ) (hi : i < 6) (k : Fin 1024) : View.ld x (adaR i hi) (ix3 0 0 k) = x (ix3 0 ⟨i, hi⟩ k) := by
  show x ((adaR i hi).emb (ix3 0 0 k)) = _
  congr 1
  funext a
  match a with
  | ⟨0, _⟩ => exact Fin.ext (show 0 + 1 * 0 = 0 by omega)
  | ⟨1, _⟩ => exact Fin.ext (show i + 1 * 0 = i by omega)
  | ⟨2, _⟩ => exact Fin.ext (show 0 + 1 * k.val = k.val by omega)
theorem ld_main (x : Vec F S4096x1024 .bf16) (i : ℕ) (hi : i < 4) (j k : Fin 1024) :
    View.ld x (mainR i hi) (ix2 j k) = x (ix2 ⟨1024 * i + j.val, by omega⟩ k) := by
  show x ((mainR i hi).emb (ix2 j k)) = _
  congr 1
  funext a
  match a with
  | ⟨0, _⟩ => exact Fin.ext (show 1024 * i + 1 * j.val = 1024 * i + j.val by omega)
  | ⟨1, _⟩ => exact Fin.ext (show 0 + 1 * k.val = k.val by omega)
theorem ld_fox (x : Vec F S3072x1024 .bf16) (i : ℕ) (hi : i < 3) (j k : Fin 1024) :
    View.ld x (foxR i hi) (ix2 j k) = x (ix2 ⟨1024 * i + j.val, by omega⟩ k) := by
  show x ((foxR i hi).emb (ix2 j k)) = _
  congr 1
  funext a
  match a with
  | ⟨0, _⟩ => exact Fin.ext (show 1024 * i + 1 * j.val = 1024 * i + j.val by omega)
  | ⟨1, _⟩ => exact Fin.ext (show 0 + 1 * k.val = k.val by omega)
theorem ld_gab (x : Vec F S2048x1024 .bf16) (i : ℕ) (hi : i < 2) (j k : Fin 1024) :
    View.ld x (gabR i hi) (ix2 j k) = x (ix2 ⟨1024 * i + j.val, by omega⟩ k) := by
  show x ((gabR i hi).emb (ix2 j k)) = _
  congr 1
  funext a
  match a with
  | ⟨0, _⟩ => exact Fin.ext (show 1024 * i + 1 * j.val = 1024 * i + j.val by omega)
  | ⟨1, _⟩ => exact Fin.ext (show 0 + 1 * k.val = k.val by omega)
end

theorem hid_apply (x : Vec Ideal S512x1024 .f32) (n : Vec Ideal S1x1024 .f32) (sh sc : Vec Ideal S1x1x1024 .f32) (r : Fin 512) (k : Fin 1024) :
    k0_pay7 x n sh sc (ix2 r k)
      = hid (fun k => x (ix2 r k)) (fun k => n (ix2 0 k)) (fun k => sc (ix3 0 0 k)) (fun k => sh (ix3 0 0 k)) k := by
  pointwise [k0_pay7]
  rfl
theorem col_apply (h : Vec Ideal S512x1024 .bf16) (w : Vec Ideal S1024x1024 .bf16) (r : Fin 512) (j : Fin 1024) :
    k0_pay9 h w (ix2 r j) = ∑ k : Fin 1024, (h (ix2 r k) : EReal) * w (ix2 j k) := by
  pointwise [k0_pay9, dot_S512x1024_S1024x1024_S512x1024_1_1_0_0_n_n]
theorem slab_apply (h : Vec Ideal S512x1024 .bf16) (w : Vec Ideal S1024x1024 .bf16) (r : Fin 512) (j : Fin 1024) :
    k0_pay29 h w (ix2 r j) = ∑ k : Fin 1024, (h (ix2 r k) : EReal) * w (ix2 j k) := col_apply h w r j
theorem slab0_apply (h : Vec Ideal S512x1024 .bf16) (w : Vec Ideal S1024x1024 .bf16) (r : Fin 512) (j : Fin 256) :
    k0_pay30 h w (ix3 0 r j) = k0_pay29 h w (ix2 r ⟨j.val, by omega⟩) := by
  pointwise [k0_pay30]
theorem slab1_apply (h : Vec Ideal S512x1024 .bf16) (w : Vec Ideal S1024x1024 .bf16) (r : Fin 512) (j : Fin 256) :
    k0_pay31 h w (ix3 0 r j) = k0_pay29 h w (ix2 r ⟨256 + j.val, by omega⟩) := by
  pointwise [k0_pay31]
theorem slab2_apply (h : Vec Ideal S512x1024 .bf16) (w : Vec Ideal S1024x1024 .bf16) (r : Fin 512) (j : Fin 256) :
    k0_pay32 h w (ix3 0 r j) = k0_pay29 h w (ix2 r ⟨512 + j.val, by omega⟩) := by
  pointwise [k0_pay32]
theorem slab3_apply (h : Vec Ideal S512x1024 .bf16) (w : Vec Ideal S1024x1024 .bf16) (r : Fin 512) (j : Fin 256) :
    k0_pay33 h w (ix3 0 r j) = k0_pay29 h w (ix2 r ⟨768 + j.val, by omega⟩) := by
  pointwise [k0_pay33]

section
variable (x0 : Vec Ideal S512x1024 .f32) (x1 : Vec Ideal S1x6x1024 .f32) (x2 : Vec Ideal S1x1024 .f32) (x3 : Vec Ideal S4096x1024 .bf16)
  (x4 : Vec Ideal S3072x1024 .bf16) (x5 : Vec Ideal S2048x1024 .bf16)

/-- Column `c` of the first result's weights. -/
def colWt (c : Fin 6144) (k : Fin 1024) : EReal :=
  if h : c.val < 4096 then x3 (ix2 ⟨c.val, h⟩ k) else x5 (ix2 ⟨c.val - 4096, by omega⟩ k)

theorem colWt_lo (c : Fin 6144) (k : Fin 1024) (h : c.val < 4096) : colWt x3 x5 c k = x3 (ix2 ⟨c.val, h⟩ k) := by
  unfold colWt
  rw [dif_pos h]
theorem colWt_hi (c : Fin 6144) (k : Fin 1024) (j : Fin 2048) (h : c.val = 4096 + j.val) : colWt x3 x5 c k = x5 (ix2 j k) := by
  unfold colWt
  rw [dif_neg (by omega)]
  exact congrArg (fun a => x5 (ix2 a k)) (Fin.ext (show c.val - 4096 = j.val by omega))

theorem colW_apply (i : Fin 6) (j k : Fin 1024) : colW x3 x5 i (ix2 j k) = colWt x3 x5 ⟨1024 * i.val + j.val, by omega⟩ k := by
  match i with
  | ⟨0, _⟩ => exact (ld_main x3 0 (by decide) j k).trans (colWt_lo x3 x5 ⟨1024 * 0 + j.val, by omega⟩ k (show 1024 * 0 + j.val < 4096 by omega)).symm
  | ⟨1, _⟩ => exact (ld_main x3 1 (by decide) j k).trans (colWt_lo x3 x5 ⟨1024 * 1 + j.val, by omega⟩ k (show 1024 * 1 + j.val < 4096 by omega)).symm
  | ⟨2, _⟩ => exact (ld_main x3 2 (by decide) j k).trans (colWt_lo x3 x5 ⟨1024 * 2 + j.val, by omega⟩ k (show 1024 * 2 + j.val < 4096 by omega)).symm
  | ⟨3, _⟩ => exact (ld_main x3 3 (by decide) j k).trans (colWt_lo x3 x5 ⟨1024 * 3 + j.val, by omega⟩ k (show 1024 * 3 + j.val < 4096 by omega)).symm
  | ⟨4, _⟩ =>
    exact (ld_gab x5 0 (by decide) j k).trans (colWt_hi x3 x5 ⟨1024 * 4 + j.val, by omega⟩ k _
      (show 1024 * 4 + j.val = 4096 + (1024 * 0 + j.val) by omega)).symm
  | ⟨5, _⟩ =>
    exact (ld_gab x5 1 (by decide) j k).trans (colWt_hi x3 x5 ⟨1024 * 5 + j.val, by omega⟩ k _
      (show 1024 * 5 + j.val = 4096 + (1024 * 1 + j.val) by omega)).symm

theorem colV_apply (i : Fin 6) (r : Fin 512) (j : Fin 1024) :
    colV x0 x1 x2 x3 x5 i (ix2 r j) = ∑ k : Fin 1024, (hT x0 x1 x2 (ix2 r k) : EReal) * colWt x3 x5 ⟨1024 * i.val + j.val, by omega⟩ k := by
  unfold colV
  refine (col_apply _ _ r j).trans (Finset.sum_congr rfl fun k _ => ?_)
  rw [colW_apply]

theorem piece_apply (i a : ℕ) (hi : i < 3) (r : Fin 512) (j : Fin 256) (p : ℕ) (hp : p < 1024) (hn : 1024 * i + p = 256 * a + j.val) (ha : a < 12) :
    k0_pay29 (hT x0 x1 x2) (View.ld x4 (foxR i hi)) (ix2 r ⟨p, hp⟩)
      = ∑ k : Fin 1024, (hT x0 x1 x2 (ix2 r k) : EReal) * x4 (ix2 ⟨256 * a + j.val, by omega⟩ k) := by
  refine (slab_apply _ _ r _).trans (Finset.sum_congr rfl fun k _ => ?_)
  exact congrArg _ ((ld_fox x4 i hi _ k).trans (congrArg (fun z => x4 (ix2 z k)) (Fin.ext hn)))

theorem slabV_apply (i : Fin 12) (r : Fin 512) (j : Fin 256) :
    slabV x0 x1 x2 x4 i (ix3 0 r j) = ∑ k : Fin 1024, (hT x0 x1 x2 (ix2 r k) : EReal) * x4 (ix2 ⟨256 * i.val + j.val, by omega⟩ k) := by
  match i with
  | ⟨0, _⟩ => exact (slab0_apply _ _ r j).trans (piece_apply x0 x1 x2 x4 0 0 (by decide) r j _ _ (by omega) (by decide))
  | ⟨1, _⟩ => exact (slab1_apply _ _ r j).trans (piece_apply x0 x1 x2 x4 0 1 (by decide) r j _ _ (by omega) (by decide))
  | ⟨2, _⟩ => exact (slab2_apply _ _ r j).trans (piece_apply x0 x1 x2 x4 0 2 (by decide) r j _ _ (by omega) (by decide))
  | ⟨3, _⟩ => exact (slab3_apply _ _ r j).trans (piece_apply x0 x1 x2 x4 0 3 (by decide) r j _ _ (by omega) (by decide))
  | ⟨4, _⟩ => exact (slab0_apply _ _ r j).trans (piece_apply x0 x1 x2 x4 1 4 (by decide) r j _ _ (by omega) (by decide))
  | ⟨5, _⟩ => exact (slab1_apply _ _ r j).trans (piece_apply x0 x1 x2 x4 1 5 (by decide) r j _ _ (by omega) (by decide))
  | ⟨6, _⟩ => exact (slab2_apply _ _ r j).trans (piece_apply x0 x1 x2 x4 1 6 (by decide) r j _ _ (by omega) (by decide))
  | ⟨7, _⟩ => exact (slab3_apply _ _ r j).trans (piece_apply x0 x1 x2 x4 1 7 (by decide) r j _ _ (by omega) (by decide))
  | ⟨8, _⟩ => exact (slab0_apply _ _ r j).trans (piece_apply x0 x1 x2 x4 2 8 (by decide) r j _ _ (by omega) (by decide))
  | ⟨9, _⟩ => exact (slab1_apply _ _ r j).trans (piece_apply x0 x1 x2 x4 2 9 (by decide) r j _ _ (by omega) (by decide))
  | ⟨10, _⟩ => exact (slab2_apply _ _ r j).trans (piece_apply x0 x1 x2 x4 2 10 (by decide) r j _ _ (by omega) (by decide))
  | ⟨11, _⟩ => exact (slab3_apply _ _ r j).trans (piece_apply x0 x1 x2 x4 2 11 (by decide) r j _ _ (by omega) (by decide))
end

end Cert.ProjIdeal.Tiles
-- ==== Proof.ProjBlocks.lean ====
/-
  What a grid point of the input projection's kernel reads of its arrays: its 512 rows of the stream, its sequence's
  conditioning rows, the norm weights and the rows of the transposed weights.
-/
module

public import proofs.«01_k».proof.Proof.ProjValue
public import Idealize.ShloMosaic.Lib.Pipeline.ValueKit.Point

@[expose] public section

set_option maxRecDepth 16384

noncomputable section

namespace Cert.ProjIdeal.Tiles

open Idealize.ShloMosaic Idealize.ShloMosaic.TcCoe Cert.ProjIdeal Cert.ProjIdeal.Gen Cert.FeedForward Cert.Projection

variable (m : (ℓ : Loc nD τ sig) → Buf (Elt Ideal) ℓ) (c : Dev nD)

/-- The stream, as launched. -/
def xArr : Fin 16 → Fin 2048 → Fin 1024 → EReal := fun b s k => m ((c : Thread nD τ).loc main_arg0) (ix3 b s k)
/-- The conditioning, as launched. -/
def aArr : Fin 16 → Fin 6144 → EReal := fun b k => m ((c : Thread nD τ).loc main_arg1) (ix2 b k)
/-- The norm weights, as launched. -/
def nArr : Fin 1024 → EReal := fun k => m ((c : Thread nD τ).loc main_arg2) (ix1 k)
/-- The projection's weights, as launched. -/
def wArr : Fin 1024 → Fin 9240 → EReal := fun k f => m ((c : Thread nD τ).loc main_arg3) (ix2 k f)

theorem index0 : ∀ t : Fin cfg0.N, win0_0.index t = ![t.val, 0] := (by decide +kernel : ∀ t : Fin grid0.N, _)
theorem index1 : ∀ t : Fin cfg0.N, win0_1.index t = ![t.val / 4, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

variable (t : Fin cfg0.N)

theorem tlt : t.val < 64 := lt_of_lt_of_eq t.isLt N_0
/-- The point's sequence. -/
def seqOf : Fin 16 := ⟨t.val / 4, by have := tlt t; omega⟩
/-- The `r`-th row of the point, in its sequence. -/
def posOf (r : Fin 512) : Fin 2048 := ⟨512 * (t.val % 4) + r.val, by omega⟩

theorem iblk0_apply (r : Fin 512) (k : Fin 1024) : iblk m c 0 t (ix2 r k) = xArr m c (seqOf t) (posOf t r) k := by
  have := tlt t
  unfold xArr seqOf posOf
  blk_ext! [iblk, V, index0 t]
theorem iblk1_apply (i : Fin 6) (k : Fin 1024) (hi : 1024 * i.val + k.val < 6144) :
    iblk m c 1 t (ix3 0 i k) = aArr m c (seqOf t) ⟨1024 * i.val + k.val, hi⟩ := by
  have := tlt t
  unfold aArr seqOf
  blk_ext! [iblk, V, index1 t]
theorem iblk2_apply (k : Fin 1024) : iblk m c 2 t (ix2 0 k) = nArr m c k := by
  unfold nArr
  blk_ext! [iblk, V, index2 t]
theorem iblk3_apply (f : Fin 4096) (k : Fin 1024) : iblk m c 3 t (ix2 f k) = wArr m c k ⟨f.val, by omega⟩ := by
  unfold wArr
  blk_ext! [iblk, V, index3 t]
theorem iblk4_apply (f : Fin 3072) (k : Fin 1024) : iblk m c 4 t (ix2 f k) = wArr m c k ⟨4104 + f.val, by omega⟩ := by
  unfold wArr
  blk_ext! [iblk, V, index4 t]
theorem iblk5_apply (f : Fin 2048) (k : Fin 1024) : iblk m c 5 t (ix2 f k) = wArr m c k ⟨7192 + f.val, by omega⟩ := by
  unfold wArr
  blk_ext! [iblk, V, index5 t]

theorem hT_apply (r : Fin 512) (k : Fin 1024) : hT (iblk m c 0 t) (iblk m c 1 t) (iblk m c 2 t) (ix2 r k)
    = row (xArr m c) (aArr m c) (nArr m c) (seqOf t) (posOf t r) k := by
  unfold hT row
  refine (hid_apply _ _ _ _ r k).trans ?_
  have e0 : (fun k => View.ld (iblk m c 0 t) (Rect.unit (s := S512x1024) ![0, 0] ![512, 1024] inb_S512x1024_S512x1024_0_0) (ix2 r k))
      = xArr m c (seqOf t) (posOf t r) := funext fun k => (ld_x _ r k).trans (iblk0_apply m c t r k)
  have e2 : (fun k => View.ld (iblk m c 2 t) (Rect.unit (s := S1x1024) ![0, 0] ![1, 1024] inb_S1x1024_S1x1024_0_0) (ix2 0 k))
      = nArr m c := funext fun k => (ld_n _ k).trans (iblk2_apply m c t k)
  have e1 : (fun k => View.ld (iblk m c 1 t) (adaR 1 (by decide)) (ix3 0 0 k)) = fun k => aArr m c (seqOf t) ⟨1024 + k.val, by omega⟩ :=
    funext fun k => (ld_ada _ 1 (by decide) k).trans (iblk1_apply m c t 1 k (show 1024 * 1 + k.val < 6144 by omega))
  have e3 : (fun k => View.ld (iblk m c 1 t) (adaR 0 (by decide)) (ix3 0 0 k)) = fun k => aArr m c (seqOf t) ⟨k.val, by omega⟩ :=
    funext fun k => (ld_ada _ 0 (by decide) k).trans ((iblk1_apply m c t 0 k (show 1024 * 0 + k.val < 6144 by omega)).trans
      (congrArg _ (Fin.ext (show 1024 * 0 + k.val = k.val by omega))))
  exact congr (congr (congr (congr (congrArg hid e0) e2) e1) e3) rfl

/-- An entry of the first result's block. -/
theorem block8_apply (i : Fin 6) (r : Fin 512) (j : Fin 1024) :
    colV (iblk m c 0 t) (iblk m c 1 t) (iblk m c 2 t) (iblk m c 3 t) (iblk m c 5 t) i (ix2 r j)
      = prod (xArr m c) (aArr m c) (nArr m c) (wArr m c) (seqOf t) (posOf t r) (colOf ⟨1024 * i.val + j.val, by omega⟩) := by
  refine (colV_apply _ _ _ _ _ i r j).trans ?_
  unfold prod
  refine Finset.sum_congr rfl fun k _ => congr (congrArg HMul.hMul (hT_apply m c t r k)) ?_
  unfold colWt colOf
  split
  · exact iblk3_apply m c t _ k
  · rename_i h
    have h' : ¬ 1024 * i.val + j.val < 4096 := h
    refine (iblk5_apply m c t _ k).trans (congrArg _ (Fin.ext ?_))
    show 7192 + (1024 * i.val + j.val - 4096) = 1024 * i.val + j.val + 3096
    omega

/-- An entry of the second result's block. -/
theorem block9_apply (i : Fin 12) (r : Fin 512) (j : Fin 256) :
    slabV (iblk m c 0 t) (iblk m c 1 t) (iblk m c 2 t) (iblk m c 4 t) i (ix3 0 r j)
      = prod (xArr m c) (aArr m c) (nArr m c) (wArr m c) (seqOf t) (posOf t r) (slabOf i j) := by
  refine (slabV_apply _ _ _ _ i r j).trans ?_
  unfold prod
  exact Finset.sum_congr rfl fun k _ => congr (congrArg HMul.hMul (hT_apply m c t r k)) (iblk4_apply m c t _ k)

end Cert.ProjIdeal.Tiles
-- ==== Proof.ProjRunA.lean ====
/-
  What a grid point of the input projection's kernel that is the first leaves in its results' blocks, as lists of stores.
-/
module

public import proofs.«01_k».proof.Proof.ProjTiles

@[expose] public section

set_option maxRecDepth 16384

noncomputable section

namespace Cert.ProjIdeal.Tiles

open Idealize.ShloMosaic Idealize.ShloMosaic.TcCoe Idealize.ShloMosaic.Tactic Cert.ProjIdeal Cert.ProjIdeal.Gen

variable {F : FTy → Type} [FloatOps F]

theorem runA_eq (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S4096x1024 .bf16) (harg4 : arg4.IsWhole) (arg5 : Memref sig .tc .vmem S3072x1024 .bf16) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S1x128 .f32) (harg8 : arg8.IsWhole) (arg9 : Memref sig .tc .vmem S512x6144 .bf16) (harg9 : arg9.IsWhole) (arg10 : Memref sig .tc .vmem S12x512x256 .bf16) (harg10 : arg10.IsWhole) (arg11 : Memref sig .tc .vmem S512x128 .f32) (harg11 : arg11.IsWhole) (arg12 : Memref sig .tc .vmem S512x384 .bf16) (harg12 : arg12.IsWhole) (arg13 : Memref sig .tc .vmem S512x1024 .bf16) (harg13 : arg13.IsWhole) (arg14 : Memref sig .tc .vmem S8x128 .f32) (harg14 : arg14.IsWhole) (hc0 : cond0_0 i)
    (x0 : Vec F S512x1024 .f32) (x1 : Vec F S1x6x1024 .f32) (x2 : Vec F S1x1024 .f32) (x3 : Vec F S4096x1024 .bf16) (x4 : Vec F S3072x1024 .bf16) (x5 : Vec F S2048x1024 .bf16) (x6 : Vec F S128x1024 .bf16) (x7 : Vec F S1x128 .f32) :
   (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 = colL x0 x1 x2 x3 x5
     ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 = slabL x0 x1 x2 x4
     ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 = [⟨Rect.unit ![0, 0] ![512, 128] inb_S512x128_S512x128_0_0, gateV x0 x1 x2 x6 x7⟩] := by
  unfold kernelRun0_A
  dsimp only
  sl_unfold_words
  simp (disch := first | decide | rfl) only [View.readAt_eq_ld, harg1.read_unread, harg2.read_unread, harg3.read_unread, harg4.read_unread, harg5.read_unread, harg6.read_unread, harg7.read_unread, harg8.read_unread, readCov_whole]
  exact ⟨rfl, rfl, rfl⟩

end Cert.ProjIdeal.Tiles
-- ==== Proof.ProjRunB.lean ====
/-
  What a grid point of the input projection's kernel other than the first leaves in its results' blocks, as lists of stores.
-/
module

public import proofs.«01_k».proof.Proof.ProjTiles

@[expose] public section

set_option maxRecDepth 16384

noncomputable section

namespace Cert.ProjIdeal.Tiles

open Idealize.ShloMosaic Idealize.ShloMosaic.TcCoe Idealize.ShloMosaic.Tactic Cert.ProjIdeal Cert.ProjIdeal.Gen

variable {F : FTy → Type} [FloatOps F]

theorem runB_eq (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S4096x1024 .bf16) (harg4 : arg4.IsWhole) (arg5 : Memref sig .tc .vmem S3072x1024 .bf16) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S1x128 .f32) (harg8 : arg8.IsWhole) (arg9 : Memref sig .tc .vmem S512x6144 .bf16) (harg9 : arg9.IsWhole) (arg10 : Memref sig .tc .vmem S12x512x256 .bf16) (harg10 : arg10.IsWhole) (arg11 : Memref sig .tc .vmem S512x128 .f32) (harg11 : arg11.IsWhole) (arg12 : Memref sig .tc .vmem S512x384 .bf16) (harg12 : arg12.IsWhole) (arg13 : Memref sig .tc .vmem S512x1024 .bf16) (harg13 : arg13.IsWhole) (arg14 : Memref sig .tc .vmem S8x128 .f32) (harg14 : arg14.IsWhole) (hc0 : ¬cond0_0 i)
    (x0 : Vec F S512x1024 .f32) (x1 : Vec F S1x6x1024 .f32) (x2 : Vec F S1x1024 .f32) (x3 : Vec F S4096x1024 .bf16) (x4 : Vec F S3072x1024 .bf16) (x5 : Vec F S2048x1024 .bf16) (x6 : Vec F S128x1024 .bf16) (x7 : Vec F S1x128 .f32) (xs1 : Vec F S8x128 .f32) :
   (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).1 = colL x0 x1 x2 x3 x5
     ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.1 = slabL x0 x1 x2 x4
     ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs1).2.2.1 = [⟨Rect.unit ![0, 0] ![512, 128] inb_S512x128_S512x128_0_0, gateV x0 x1 x2 x6 x7⟩] := by
  unfold kernelRun0_B
  dsimp only
  sl_unfold_words
  simp (disch := first | decide | rfl) only [View.readAt_eq_ld, harg1.read_unread, harg2.read_unread, harg3.read_unread, harg4.read_unread, harg5.read_unread, harg6.read_unread, harg7.read_unread, harg8.read_unread, readCov_whole]
  exact ⟨rfl, rfl, rfl⟩

end Cert.ProjIdeal.Tiles
-- ==== Proof.ProjState.lean ====
/-
  What each grid point of the input projection's kernel leaves in its results' blocks, entry by entry.
-/
module

public import proofs.«01_k».proof.Proof.ProjBlocks
public import proofs.«01_k».proof.Proof.ProjRunA
public import proofs.«01_k».proof.Proof.ProjRunB

@[expose] public section

set_option maxRecDepth 16384

noncomputable section

namespace Cert.ProjIdeal.Tiles

open Idealize.ShloMosaic Idealize.ShloMosaic.TcCoe Cert.ProjIdeal Cert.ProjIdeal.Gen Cert.FeedForward Cert.Projection

section
variable {F : FTy → Type} [FloatOps F]
variable (x0 : Vec F S512x1024 .f32) (x1 : Vec F S1x6x1024 .f32) (x2 : Vec F S1x1024 .f32) (x3 : Vec F S4096x1024 .bf16)
  (x4 : Vec F S3072x1024 .bf16) (x5 : Vec F S2048x1024 .bf16)

theorem canon_cols (r : Fin 512) (c : Fin 6144) : ∀ js : List (Fin 6), (⟨c.val / 1024, by omega⟩ : Fin 6) ∈ js →
    View.canon (js.map (colP x0 x1 x2 x3 x5)) (ix2 r c)
      = colV x0 x1 x2 x3 x5 ⟨c.val / 1024, by omega⟩ (ix2 r ⟨c.val % 1024, Nat.mod_lt _ (by decide)⟩)
  | [], h => absurd h (List.not_mem_nil)
  | j :: js, h => by
    rw [List.map_cons]
    by_cases e : j = ⟨c.val / 1024, by omega⟩
    · subst e
      have he : (colR ⟨c.val / 1024, by omega⟩).emb (ix2 r ⟨c.val % 1024, Nat.mod_lt _ (by decide)⟩ : (colR ⟨c.val / 1024, by omega⟩).shape.Idx) = ix2 r c := by
        funext x
        match x with
        | ⟨0, _⟩ => exact Fin.ext (show 0 + 1 * r.val = r.val by omega)
        | ⟨1, _⟩ => exact Fin.ext (show 1024 * (c.val / 1024) + 1 * (c.val % 1024) = c.val by omega)
      conv_lhs => rw [← he]
      unfold colP
      rw [View.canon_cons_emb]
    · rw [View.canon_cons_of_not_mem]
      · refine canon_cols r c js ?_
        rcases List.mem_cons.mp h with h | h
        · exact absurd h.symm e
        · exact h
      · intro hm
        have hm' : ix2 r c ∈ (colR j).set := hm
        have h1 := (Rect.mem_set_unit.mp hm') 1
        have h2 : 1024 * j.val ≤ c.val ∧ c.val < 1024 * j.val + 1024 := h1
        exact e (Fin.ext (show j.val = c.val / 1024 by omega))

theorem canon_slabs (a : Fin 12) (r : Fin 512) (c : Fin 256) : ∀ js : List (Fin 12), a ∈ js →
    View.canon (js.map (slabP x0 x1 x2 x4)) (ix3 a r c) = slabV x0 x1 x2 x4 a (ix3 0 r c)
  | [], h => absurd h (List.not_mem_nil)
  | j :: js, h => by
    rw [List.map_cons]
    by_cases e : j = a
    · subst e
      have he : (slabR j).emb (ix3 0 r c : (slabR j).shape.Idx) = ix3 j r c := by
        funext x
        match x with
        | ⟨0, _⟩ => exact Fin.ext (show j.val + 1 * 0 = j.val by omega)
        | ⟨1, _⟩ => exact Fin.ext (show 0 + 1 * r.val = r.val by omega)
        | ⟨2, _⟩ => exact Fin.ext (show 0 + 1 * c.val = c.val by omega)
      conv_lhs => rw [← he]
      unfold slabP
      rw [View.canon_cons_emb]
    · rw [View.canon_cons_of_not_mem]
      · refine canon_slabs a r c js ?_
        rcases List.mem_cons.mp h with h | h
        · exact absurd h.symm e
        · exact h
      · intro hm
        have hm' : ix3 a r c ∈ (slabR j).set := hm
        have h1 := (Rect.mem_set_unit.mp hm') 0
        have h2 : j.val ≤ a.val ∧ a.val < j.val + 1 := h1
        exact e (Fin.ext (show j.val = a.val by omega))

theorem six_mem : ∀ j : Fin 6, j ∈ ([5, 4, 3, 2, 1, 0] : List (Fin 6)) := by decide
theorem twelve_mem : ∀ j : Fin 12, j ∈ ([11, 10, 9, 8, 7, 6, 5, 4, 3, 2, 1, 0] : List (Fin 12)) := by decide

variable (m : (ℓ : Loc nD τ sig) → Buf (Elt F) ℓ) (c : Dev nD) (t : Fin cfg0.N)

/-- What a point leaves in the first result's block. -/
theorem outs8 : (outsAt0 m c t.val t.isLt).1 = View.canon (colL (iblk m c 0 t) (iblk m c 1 t) (iblk m c 2 t) (iblk m c 3 t) (iblk m c 5 t)) := by
  by_cases h0 : t.val % 64 = 0
  · rw [outsAt0_A m c t h0]
    unfold out0_A_8
    rw [View.read_writes_junk_eq_canon, (runA_eq ..).1]
  · rw [outsAt0_B m c t h0]
    unfold out0_B_8
    rw [View.read_writes_junk_eq_canon, (runB_eq ..).1]

/-- What a point leaves in the second result's block. -/
theorem outs9 : (outsAt0 m c t.val t.isLt).2.1 = View.canon (slabL (iblk m c 0 t) (iblk m c 1 t) (iblk m c 2 t) (iblk m c 4 t)) := by
  by_cases h0 : t.val % 64 = 0
  · rw [outsAt0_A m c t h0]
    unfold out0_A_9
    rw [View.read_writes_junk_eq_canon, (runA_eq ..).2.1]
  · rw [outsAt0_B m c t h0]
    unfold out0_B_9
    rw [View.read_writes_junk_eq_canon, (runB_eq ..).2.1]
end

variable (m : (ℓ : Loc nD τ sig) → Buf (Elt Ideal) ℓ) (c : Dev nD) (t : Fin cfg0.N)

theorem outs8_apply (r : Fin 512) (f : Fin 6144) : (outsAt0 m c t.val t.isLt).1 (ix2 r f)
    = prod (xArr m c) (aArr m c) (nArr m c) (wArr m c) (seqOf t) (posOf t r) (colOf f) := by
  rw [outs8]
  refine (canon_cols _ _ _ _ _ r f _ (six_mem _)).trans ((block8_apply m c t _ r _).trans ?_)
  exact congrArg (fun f => prod (xArr m c) (aArr m c) (nArr m c) (wArr m c) (seqOf t) (posOf t r) (colOf f))
    (Fin.ext (show 1024 * (f.val / 1024) + f.val % 1024 = f.val by omega))

theorem outs9_apply (i : Fin 12) (r : Fin 512) (j : Fin 256) : (outsAt0 m c t.val t.isLt).2.1 (ix3 i r j)
    = prod (xArr m c) (aArr m c) (nArr m c) (wArr m c) (seqOf t) (posOf t r) (slabOf i j) := by
  rw [outs9]
  exact (canon_slabs _ _ _ _ i r j _ (twelve_mem i)).trans (block9_apply m c t i r j)

end Cert.ProjIdeal.Tiles
-- ==== Proof.ProjArray.lean ====
/-
  The input projection kernel's two large result arrays, entry by entry.
-/
module

public import proofs.«01_k».proof.Proof.ProjState

@[expose] public section

set_option maxRecDepth 16384

noncomputable section

namespace Cert.ProjIdeal.Tiles

open Idealize.ShloMosaic Idealize.ShloMosaic.TcCoe Cert.ProjIdeal Cert.ProjIdeal.Gen Cert.FeedForward Cert.Projection

variable (m : (ℓ : Loc nD τ sig) → Buf (Elt Ideal) ℓ) (c : Dev nD)

theorem point_lt (b : Fin 16) (s : Fin 2048) : 4 * b.val + s.val / 512 < cfg0.N := lt_of_lt_of_eq (show _ < 64 by omega) N_0.symm
theorem point_seq (b : Fin 16) (s : Fin 2048) : seqOf ⟨4 * b.val + s.val / 512, point_lt b s⟩ = b :=
  Fin.ext (show (4 * b.val + s.val / 512) / 4 = b.val by omega)
theorem point_pos (b : Fin 16) (s : Fin 2048) :
    posOf ⟨4 * b.val + s.val / 512, point_lt b s⟩ ⟨s.val % 512, Nat.mod_lt _ (by decide)⟩ = s :=
  Fin.ext (show 512 * ((4 * b.val + s.val / 512) % 4) + s.val % 512 = s.val by omega)

/-- Row `2048 b + s` of the kernel's first result. -/
theorem array8 (b : Fin 16) (s : Fin 2048) (f : Fin 6144) (h : 2048 * b.val + s.val < 32768) :
    Value.G8 m c (ix2 ⟨2048 * b.val + s.val, h⟩ f) = prod (xArr m c) (aArr m c) (nArr m c) (wArr m c) b s (colOf f) := by
  have hs := s.isLt
  have hf := f.isLt
  have hp : Value.pt8Of (ix2 ⟨2048 * b.val + s.val, h⟩ f) = 4 * b.val + s.val / 512 := by
    show 1 * ((2048 * b.val + s.val) / 512 - 0) + 1 * (f.val / 6144 - 0) = _
    omega
  have hl : Value.loc8Of (ix2 ⟨2048 * b.val + s.val, h⟩ f) = ix2 ⟨s.val % 512, Nat.mod_lt _ (by decide)⟩ f := by
    funext a
    match a with
    | ⟨0, _⟩ => exact Fin.ext (show (2048 * b.val + s.val) % 512 = s.val % 512 by omega)
    | ⟨1, _⟩ => exact Fin.ext (show f.val % 6144 = f.val by omega)
  have hn := point_lt b s
  unfold Value.G8
  rw [dif_pos (by rw [hp]; exact hn), Value.fold0_congr m c _ _ _ (by omega) hp, ← Value.outsAt0_sweep m c _ hn, hl]
  refine (outs8_apply m c ⟨_, hn⟩ _ f).trans ?_
  rw [point_seq, point_pos]

/-- Row `2048 b + s` of slab `i` of the kernel's second result. -/
theorem array9 (i : Fin 12) (b : Fin 16) (s : Fin 2048) (j : Fin 256) (h : 2048 * b.val + s.val < 32768) :
    Value.G9 m c (ix3 i ⟨2048 * b.val + s.val, h⟩ j) = prod (xArr m c) (aArr m c) (nArr m c) (wArr m c) b s (slabOf i j) := by
  have hs := s.isLt
  have hi := i.isLt
  have hj := j.isLt
  have hp : Value.pt9Of (ix3 i ⟨2048 * b.val + s.val, h⟩ j) = 4 * b.val + s.val / 512 := by
    show 64 * (i.val / 12 - 0) + 1 * ((2048 * b.val + s.val) / 512 - 0) + 1 * (j.val / 256 - 0) = _
    omega
  have hl : Value.loc9Of (ix3 i ⟨2048 * b.val + s.val, h⟩ j) = ix3 i ⟨s.val % 512, Nat.mod_lt _ (by decide)⟩ j := by
    funext a
    match a with
    | ⟨0, _⟩ => exact Fin.ext (show i.val % 12 = i.val by omega)
    | ⟨1, _⟩ => exact Fin.ext (show (2048 * b.val + s.val) % 512 = s.val % 512 by omega)
    | ⟨2, _⟩ => exact Fin.ext (show j.val % 256 = j.val by omega)
  have hn := point_lt b s
  unfold Value.G9
  rw [dif_pos (by rw [hp]; exact hn), Value.fold0_congr m c _ _ _ (by omega) hp, ← Value.outsAt0_sweep m c _ hn, hl]
  refine (outs9_apply m c ⟨_, hn⟩ i _ j).trans ?_
  rw [point_seq, point_pos]

end Cert.ProjIdeal.Tiles
-- ==== Proof.ProjRef.lean ====
/-
  The input projection reference's results, entry by entry: its composed terms cut into the modulated rows, their product
  with the weights, and the columns each result takes of it.
-/
module

public import proofs.«01_k».proof.Proof.Gen.ProjReferenceIdeal.Run
public import proofs.«01_k».proof.Proof.ProjMath
public import Idealize.ShloMosaic.Lib.Pointwise

@[expose] public section

set_option maxRecDepth 16384

noncomputable section

namespace Cert.ProjReferenceIdeal.Pieces

open Idealize.ShloMosaic Idealize.ShloMosaic.TcCoe Cert.ProjReferenceIdeal Cert.ProjReferenceIdeal.Gen Cert.FeedForward Cert.Projection

abbrev X3 := (⟨S16x2048x1024, .f32⟩ : BufTy).Contents (Elt Ideal)
abbrev A2 := (⟨S16x6144, .f32⟩ : BufTy).Contents (Elt Ideal)
abbrev P3 := (⟨S16x2048x9240, .f32⟩ : BufTy).Contents (Elt Ideal)

/-- The sums of the rows' squares. -/
def squares (x : X3) : (⟨S16x2048, .f32⟩ : BufTy).Contents (Elt Ideal) :=
  Host.reduceAdd (F := Ideal) (φ := .f32) (mulf x x) (constant S_ .f32 0x00000000#32) reducesTo_S16x2048x1024_S16x2048_d2 h_S_
theorem squares_apply (x : X3) (b : Fin 16) (s : Fin 2048) : squares x (ix2 b s) = ∑ d : Fin 1024, (x (ix3 b s d) : EReal) * x (ix3 b s d) := by
  pointwise [squares]

/-- The modulated rows. -/
def hidden (x : X3) (q : (⟨S16x2048, .f32⟩ : BufTy).Contents (Elt Ideal)) (a : A2) (n : (⟨S1024, .f32⟩ : BufTy).Contents (Elt Ideal)) : X3 :=
  addf (F := Ideal) (φ := .f32) (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 q) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 n))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] a slices_S16x6144_S16x1024_0_1024))))) (broadcastInDim S16x2048x1024 ![0, 1, 2] bcast_S16x1x1024_S16x2048x1024_0_1_2 (broadcastInDim S16x1x1024 ![0, 2] bcast_S16x1024_S16x1x1024_0_2 (extractStridedSlice S16x1024 ![0, 0] a slices_S16x6144_S16x1024_0_0)))
theorem hidden_apply (x : X3) (q : (⟨S16x2048, .f32⟩ : BufTy).Contents (Elt Ideal)) (a : A2) (n : (⟨S1024, .f32⟩ : BufTy).Contents (Elt Ideal))
    (b : Fin 16) (s : Fin 2048) (k : Fin 1024) : hidden x q a n (ix3 b s k)
      = (x (ix3 b s k) : EReal) * Ideal.rsqrt (Ideal.div (q (ix2 b s)) (Ideal.ofBits .f32 0x44800000#32) + Ideal.ofBits .f32 0x358637BD#32) * n (ix1 k)
          * (1 + a (ix2 b ⟨1024 + k.val, by omega⟩)) + a (ix2 b ⟨k.val, by omega⟩) := by
  pointwise [hidden]

/-- The product with the weights. -/
def product (h : X3) (w : (⟨S1024x9240, .f32⟩ : BufTy).Contents (Elt Ideal)) : P3 :=
  Host.dotGeneral (F := Ideal) (φ₁ := .f32) (φ₂ := .f32) dot_S16x2048x1024_S1024x9240_S16x2048x9240_2_0_01_1_n_n none h w
theorem product_apply (h : X3) (w : (⟨S1024x9240, .f32⟩ : BufTy).Contents (Elt Ideal)) (b : Fin 16) (s : Fin 2048) (f : Fin 9240) :
    product h w (ix3 b s f) = ∑ k : Fin 1024, (h (ix3 b s k) : EReal) * w (ix2 k f) := by
  pointwise [product, dot_S16x2048x1024_S1024x9240_S16x2048x9240_2_0_01_1_n_n]

/-- The first result: the product's first 4096 columns and its last 2048. -/
def cols (p : P3) : (⟨S32768x6144, .bf16⟩ : BufTy).Contents (Elt Ideal) :=
  shapeCast _ (truncf (F := Ideal) (φ := .f32) .bf16 (concatenate S16x2048x6144 2 [⟨S16x2048x4096, (extractStridedSlice S16x2048x4096 ![0, 0, 0] p slices_S16x2048x9240_S16x2048x4096_0_0_0)⟩, ⟨S16x2048x2048, (extractStridedSlice S16x2048x2048 ![0, 0, 7192] p slices_S16x2048x9240_S16x2048x2048_0_0_7192)⟩] concatenates_S16x2048x4096_S16x2048x2048_S16x2048x6144_d2) bitsLt_bf16_f32) shapeCasts_S16x2048x6144_S32768x6144
theorem cols_apply (p : P3) (i : Fin 32768) (f : Fin 6144) : cols p (ix2 i f)
    = if h : f.val < 4096 then p (ix3 ⟨i.val / 2048, by omega⟩ ⟨i.val % 2048, Nat.mod_lt _ (by decide)⟩ ⟨f.val, by omega⟩)
      else p (ix3 ⟨i.val / 2048, by omega⟩ ⟨i.val % 2048, Nat.mod_lt _ (by decide)⟩ ⟨7192 + (f.val - 4096), by omega⟩) := by
  pointwise [cols]

/-- The second result: the product's columns from 4104 on, by slabs of 256. -/
def slabs (p : P3) : (⟨S12x32768x256, .bf16⟩ : BufTy).Contents (Elt Ideal) :=
  transpose S12x32768x256 [1, 0, 2] (shapeCast _ (truncf (F := Ideal) (φ := .f32) .bf16 (extractStridedSlice S16x2048x3072 ![0, 0, 4104] p slices_S16x2048x9240_S16x2048x3072_0_0_4104) bitsLt_bf16_f32) shapeCasts_S16x2048x3072_S32768x12x256) transposes_S32768x12x256_S12x32768x256_1_0_2
theorem slabs_apply (p : P3) (a : Fin 12) (i : Fin 32768) (j : Fin 256) : slabs p (ix3 a i j)
    = p (ix3 ⟨i.val / 2048, by omega⟩ ⟨i.val % 2048, Nat.mod_lt _ (by decide)⟩ ⟨4104 + (256 * a.val + j.val), by omega⟩) := by
  have e : (⟨4104 + (256 * a.val + j.val), by omega⟩ : Fin 9240) = ⟨4104 + (a.val * 256 + j.val), by omega⟩ := Fin.ext (by dsimp only; omega)
  rw [e]
  pointwise [slabs]

section
variable (x : X3) (a : A2) (n : (⟨S1024, .f32⟩ : BufTy).Contents (Elt Ideal)) (w : (⟨S1024x9240, .f32⟩ : BufTy).Contents (Elt Ideal))

abbrev fX : Fin 16 → Fin 2048 → Fin 1024 → EReal := fun b s k => x (ix3 b s k)
abbrev fA : Fin 16 → Fin 6144 → EReal := fun b k => a (ix2 b k)
abbrev fN : Fin 1024 → EReal := fun k => n (ix1 k)
abbrev fW : Fin 1024 → Fin 9240 → EReal := fun k f => w (ix2 k f)

/-- The whole product of the arguments. -/
def whole : P3 := product (hidden x (squares x) a n) w

theorem whole_value (b : Fin 16) (s : Fin 2048) (f : Fin 9240) : whole x a n w (ix3 b s f) = prod (fX x) (fA a) (fN n) (fW w) b s f := by
  unfold whole
  rw [product_apply]
  unfold prod
  refine Finset.sum_congr rfl fun k _ => ?_
  rw [hidden_apply, squares_apply]
  rfl

theorem cols_value (b : Fin 16) (s : Fin 2048) (f : Fin 6144) (i : Fin 32768) (hi : i.val = 2048 * b.val + s.val) :
    cols (whole x a n w) (ix2 i f) = prod (fX x) (fA a) (fN n) (fW w) b s (colOf f) := by
  have hs := s.isLt
  have e1 : (⟨i.val / 2048, by omega⟩ : Fin 16) = b := Fin.ext (by dsimp only; omega)
  have e2 : (⟨i.val % 2048, Nat.mod_lt _ (by decide)⟩ : Fin 2048) = s := Fin.ext (by dsimp only; omega)
  rw [cols_apply, e1, e2]
  unfold colOf
  split
  · exact whole_value x a n w b s _
  · refine (whole_value x a n w b s _).trans (congrArg _ (Fin.ext ?_))
    show 7192 + (f.val - 4096) = f.val + 3096
    omega

theorem slabs_value (g : Fin 12) (b : Fin 16) (s : Fin 2048) (j : Fin 256) (i : Fin 32768) (hi : i.val = 2048 * b.val + s.val) :
    slabs (whole x a n w) (ix3 g i j) = prod (fX x) (fA a) (fN n) (fW w) b s (slabOf g j) := by
  have hs := s.isLt
  have e1 : (⟨i.val / 2048, by omega⟩ : Fin 16) = b := Fin.ext (by dsimp only; omega)
  have e2 : (⟨i.val % 2048, Nat.mod_lt _ (by decide)⟩ : Fin 2048) = s := Fin.ext (by dsimp only; omega)
  rw [slabs_apply, e1, e2]
  exact whole_value x a n w b s _
end

end Cert.ProjReferenceIdeal.Pieces
-- ==== Proof.ProjEquation.lean ====
/-
  The input projection kernel's two large results and its reference's are the same arrays.
-/
module

public import proofs.«01_k».proof.Proof.ProjArray
public import proofs.«01_k».proof.Proof.ProjRef

@[expose] public section

set_option maxRecDepth 16384

noncomputable section

namespace Cert.Projection

open Idealize.ShloMosaic Idealize.ShloMosaic.TcCoe Cert.ProjIdeal

variable (m : (ℓ : Loc nD τ sig) → Buf (Elt Ideal) ℓ) (c : Dev nD)

/-- The first results agree. -/
theorem equation_cols :
    (Cert.ProjReferenceIdeal.Pieces.cols (Cert.ProjReferenceIdeal.Pieces.whole (m ((c : Thread nD τ).loc main_arg0)) (m ((c : Thread nD τ).loc main_arg1))
      (m ((c : Thread nD τ).loc main_arg2)) (m ((c : Thread nD τ).loc main_arg3))) : (⟨2, ![32768, 6144]⟩ : Shape).Idx → EReal) = Value.G8 m c := by
  funext i
  obtain ⟨a, d, rfl⟩ : ∃ (a : Fin 32768) (d : Fin 6144), i = ix2 a d := ⟨i 0, i 1, eq_ix2 i⟩
  have ha := a.isLt
  have e : a = ⟨2048 * (a.val / 2048) + a.val % 2048, by omega⟩ := Fin.ext (by dsimp only; omega)
  have hk := Tiles.array8 m c ⟨a.val / 2048, by omega⟩ ⟨a.val % 2048, Nat.mod_lt _ (by decide)⟩ d (by dsimp only; omega)
  refine (Cert.ProjReferenceIdeal.Pieces.cols_value _ _ _ _ ⟨a.val / 2048, by omega⟩ ⟨a.val % 2048, Nat.mod_lt _ (by decide)⟩ d a
    (by dsimp only; omega)).trans ?_
  exact hk.symm.trans (congrArg (fun z => Value.G8 m c (ix2 z d)) e.symm)

/-- The second results agree. -/
theorem equation_slabs :
    (Cert.ProjReferenceIdeal.Pieces.slabs (Cert.ProjReferenceIdeal.Pieces.whole (m ((c : Thread nD τ).loc main_arg0)) (m ((c : Thread nD τ).loc main_arg1))
      (m ((c : Thread nD τ).loc main_arg2)) (m ((c : Thread nD τ).loc main_arg3))) : (⟨3, ![12, 32768, 256]⟩ : Shape).Idx → EReal) = Value.G9 m c := by
  funext i
  obtain ⟨g, a, d, rfl⟩ : ∃ (g : Fin 12) (a : Fin 32768) (d : Fin 256), i = ix3 g a d := ⟨i 0, i 1, i 2, eq_ix3 i⟩
  have ha := a.isLt
  have e : a = ⟨2048 * (a.val / 2048) + a.val % 2048, by omega⟩ := Fin.ext (by dsimp only; omega)
  have hk := Tiles.array9 m c g ⟨a.val / 2048, by omega⟩ ⟨a.val % 2048, Nat.mod_lt _ (by decide)⟩ d (by dsimp only; omega)
  refine (Cert.ProjReferenceIdeal.Pieces.slabs_value _ _ _ _ g ⟨a.val / 2048, by omega⟩ ⟨a.val % 2048, Nat.mod_lt _ (by decide)⟩ d a
    (by dsimp only; omega)).trans ?_
  exact hk.symm.trans (congrArg (fun z => Value.G9 m c (ix3 g z d)) e.symm)

end Cert.Projection
-- ==== Proof.ProjGates.lean ====
/-
  The gates of the input projection's kernel, entry by entry: its third result.
-/
module

public import proofs.«01_k».proof.Proof.ProjArray
public import Idealize.ShloMosaic.Lib.StableHlo.RunRead

@[expose] public section

set_option maxRecDepth 16384

noncomputable section

namespace Cert.Projection

open Idealize.ShloMosaic Cert.FeedForward

/-- The logarithm of the sigmoid. -/
def lsig (x : EReal) : EReal := min x 0 - Ideal.log1p (Ideal.exp (0 - max x (-x)))

section
variable (X : Fin 16 → Fin 2048 → Fin 1024 → EReal) (A : Fin 16 → Fin 6144 → EReal) (N : Fin 1024 → EReal)
  (W : Fin 1024 → Fin 9240 → EReal) (Bi Bm : Fin 4 → EReal) (Bf : Fin 16 → EReal)

/-- A gate before its logarithm of a sigmoid: the input gates, the two kinds of forget gates, and zeros. -/
def pre (b : Fin 16) (s : Fin 2048) (c : Fin 128) : EReal :=
  if h : c.val < 4 then prod X A N W b s ⟨4096 + c.val, by omega⟩ + Bi ⟨c.val, h⟩
  else if h : c.val < 8 then prod X A N W b s ⟨4096 + c.val, by omega⟩ + Bm ⟨c.val - 4, by omega⟩
  else if h : c.val < 24 then prod X A N W b s ⟨7176 + (c.val - 8), by omega⟩ + Bf ⟨c.val - 8, by omega⟩
  else 0
/-- A gate. -/
def gate (b : Fin 16) (s : Fin 2048) (c : Fin 128) : EReal :=
  if c.val < 4 then pre X A N W Bi Bm Bf b s c else lsig (pre X A N W Bi Bm Bf b s c)
end

end Cert.Projection

namespace Cert.ProjIdeal.Tiles

open Idealize.ShloMosaic Idealize.ShloMosaic.TcCoe Cert.ProjIdeal Cert.ProjIdeal.Gen Cert.FeedForward Cert.Projection

section
variable {F : FTy → Type} [FloatOps F]

theorem ld_wg (x : Vec F S128x1024 .bf16) (j : Fin 128) (k : Fin 1024) :
    View.ld x (Rect.unit (s := S128x1024) ![0, 0] ![128, 1024] inb_S128x1024_S128x1024_0_0) (ix2 j k) = x (ix2 j k) := by
  show x ((Rect.unit (s := S128x1024) ![0, 0] ![128, 1024] inb_S128x1024_S128x1024_0_0).emb (ix2 j k)) = _
  congr 1
  funext a
  match a with
  | ⟨0, _⟩ => exact Fin.ext (show 0 + 1 * j.val = j.val by omega)
  | ⟨1, _⟩ => exact Fin.ext (show 0 + 1 * k.val = k.val by omega)
theorem ld_bg (x : Vec F S1x128 .f32) (j : Fin 128) :
    View.ld x (Rect.unit (s := S1x128) ![0, 0] ![1, 128] inb_S1x128_S1x128_0_0) (ix2 0 j) = x (ix2 0 j) := by
  show x ((Rect.unit (s := S1x128) ![0, 0] ![1, 128] inb_S1x128_S1x128_0_0).emb (ix2 0 j)) = _
  congr 1
  funext a
  match a with
  | ⟨0, _⟩ => exact Fin.ext (show 0 + 1 * 0 = 0 by omega)
  | ⟨1, _⟩ => exact Fin.ext (show 0 + 1 * j.val = j.val by omega)
end

/-- A gate's sum. -/
def gsum (h : Vec Ideal S512x1024 .bf16) (w : Vec Ideal S128x1024 .bf16) (b : Vec Ideal S1x128 .f32) (r : Fin 512) (j : Fin 128) : EReal :=
  (∑ k : Fin 1024, (h (ix2 r k) : EReal) * w (ix2 j k)) + b (ix2 0 j)

theorem gate_apply (h : Vec Ideal S512x1024 .bf16) (w : Vec Ideal S128x1024 .bf16) (b : Vec Ideal S1x128 .f32) (r : Fin 512) (j : Fin 128) :
    k0_pay8 h w b (ix2 r j) = if j.val < 4 then gsum h w b r j else lsig (gsum h w b r j) := by
  have hc : ∀ j : Fin 128, IntOp.cmpi CmpIPredicate.slt (BitVec.ofNat 32 j.val) 4#32 = if j.val < 4 then 1 else 0 := by decide +kernel
  unfold lsig gsum
  pointwise [k0_pay8, dot_S512x1024_S128x1024_S512x128_1_1_0_0_n_n]
  rw [hc j]
  by_cases h4 : j.val < 4
  · rw [if_pos h4, if_pos h4]; rfl
  · rw [if_neg h4, if_neg h4]; rfl

variable (m : (ℓ : Loc nD τ sig) → Buf (Elt Ideal) ℓ) (c : Dev nD)

/-- The input gates' bias, as launched. -/
def biArr : Fin 4 → EReal := fun k => m ((c : Thread nD τ).loc main_arg4) (ix1 k)
/-- The memory's forget gates' bias, as launched. -/
def bmArr : Fin 4 → EReal := fun k => m ((c : Thread nD τ).loc main_arg5) (ix1 k)
/-- The attention's forget gates' bias, as launched. -/
def bfArr : Fin 16 → EReal := fun k => m ((c : Thread nD τ).loc main_arg6) (ix1 k)

theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

/-- The kernel's weights of the gates, before their rounding. -/
def gatesW (w : Vec Ideal S1024x9240 .f32) : Vec Ideal S128x1024 .f32 :=
  concatenate S128x1024 0
    [⟨S8x1024, extractStridedSlice S8x1024 ![4096, 0] (transpose S9240x1024 [1, 0] w transposes_S1024x9240_S9240x1024_1_0) slices_S9240x1024_S8x1024_4096_0⟩,
      ⟨S16x1024, extractStridedSlice S16x1024 ![7176, 0] (transpose S9240x1024 [1, 0] w transposes_S1024x9240_S9240x1024_1_0) slices_S9240x1024_S16x1024_7176_0⟩,
      ⟨S104x1024, broadcastInDim S104x1024 ![] bcast_S_S104x1024 (constant (F := Ideal) S_ .f32 0x00000000#32)⟩]
    concatenates_S8x1024_S16x1024_S104x1024_S128x1024_d0
/-- The kernel's biases of the gates. -/
def gatesB (bi bm : Vec Ideal S4 .f32) (bf : Vec Ideal S16 .f32) : Vec Ideal S128 .f32 :=
  concatenate S128 0
    [⟨S4, bi⟩, ⟨S4, bm⟩, ⟨S16, bf⟩, ⟨S104, broadcastInDim S104 ![] bcast_S_S104 (constant (F := Ideal) S_ .f32 0x00000000#32)⟩]
    concatenates_S4_S4_S16_S104_S128_d0

theorem gatesW_apply (w : Vec Ideal S1024x9240 .f32) (j : Fin 128) (k : Fin 1024) : gatesW w (ix2 j k)
    = if h : j.val < 8 then w (ix2 k ⟨4096 + j.val, by omega⟩) else if h : j.val - 8 < 16 then w (ix2 k ⟨7176 + (j.val - 8), by omega⟩) else 0 := by
  pointwise [gatesW]
theorem gatesB_apply (bi bm : Vec Ideal S4 .f32) (bf : Vec Ideal S16 .f32) (j : Fin 128) : gatesB bi bm bf (ix1 j)
    = if h : j.val < 4 then bi (ix1 ⟨j.val, h⟩) else if h : j.val - 4 < 4 then bm (ix1 ⟨j.val - 4, h⟩)
      else if h : j.val - 4 - 4 < 16 then bf (ix1 ⟨j.val - 4 - 4, h⟩) else 0 := by
  pointwise [gatesB]

theorem staged7 : StableHlo.upto hostOps0 (fun b => m (c, b)) 11 (Proc.tc.devRef main_v7)
    = extractStridedSlice S8x1024 ![4096, 0] (transpose S9240x1024 [1, 0] (m ((c : Thread nD τ).loc main_arg3)) transposes_S1024x9240_S9240x1024_1_0) slices_S9240x1024_S8x1024_4096_0 := by
  after_reads_simp
  first | done | rfl
theorem staged8 : StableHlo.upto hostOps0 (fun b => m (c, b)) 11 (Proc.tc.devRef main_v8)
    = extractStridedSlice S16x1024 ![7176, 0] (transpose S9240x1024 [1, 0] (m ((c : Thread nD τ).loc main_arg3)) transposes_S1024x9240_S9240x1024_1_0) slices_S9240x1024_S16x1024_7176_0 := by
  after_reads_simp
  first | done | rfl
theorem staged9 : StableHlo.upto hostOps0 (fun b => m (c, b)) 11 (Proc.tc.devRef main_v9)
    = broadcastInDim S104x1024 ![] bcast_S_S104x1024 (constant (F := Ideal) S_ .f32 0x00000000#32) := by
  after_reads_simp
  first | done | rfl
theorem staged12 : StableHlo.upto hostOps0 (fun b => m (c, b)) 15 (Proc.tc.devRef main_v12)
    = broadcastInDim S104 ![] bcast_S_S104 (constant (F := Ideal) S_ .f32 0x00000000#32) := by
  after_reads_simp
  first | done | rfl
theorem staged4 : StableHlo.upto hostOps0 (fun b => m (c, b)) 15 (Proc.tc.devRef main_arg4) = m ((c : Thread nD τ).loc main_arg4) := by
  after_reads_simp
  first | done | rfl
theorem staged5 : StableHlo.upto hostOps0 (fun b => m (c, b)) 15 (Proc.tc.devRef main_arg5) = m ((c : Thread nD τ).loc main_arg5) := by
  after_reads_simp
  first | done | rfl
theorem staged6 : StableHlo.upto hostOps0 (fun b => m (c, b)) 15 (Proc.tc.devRef main_arg6) = m ((c : Thread nD τ).loc main_arg6) := by
  after_reads_simp
  first | done | rfl

theorem staged11 : V m c main_v11 = (truncf (F := Ideal) (φ := .f32) .bf16 (gatesW (m ((c : Thread nD τ).loc main_arg3))) bitsLt_bf16_f32 : Vec Ideal S128x1024 .bf16) := by
  unfold V gatesW
  after_reads_simp
  rw [← staged7 m c, ← staged8 m c, ← staged9 m c]
  rfl
theorem staged14 : V m c main_v14
    = shapeCast S1x128 (gatesB (m ((c : Thread nD τ).loc main_arg4)) (m ((c : Thread nD τ).loc main_arg5)) (m ((c : Thread nD τ).loc main_arg6))) shapeCasts_S128_S1x128 := by
  unfold V gatesB
  after_reads_simp
  rw [← staged4 m c, ← staged5 m c, ← staged6 m c, ← staged12 m c]
  rfl

variable (t : Fin cfg0.N)

theorem place6 (j : Fin 128) (k : Fin 1024) : (win0_6.blk t).view.emb (ix2 j k) = ix2 j k := by
  blk_ext [index6 t]
theorem place7 (j : Fin 128) : (win0_7.blk t).view.emb (ix2 0 j) = ix2 0 j := by
  blk_ext [index7 t]

theorem iblk6_apply (j : Fin 128) (k : Fin 1024) : iblk m c 6 t (ix2 j k)
    = if h : j.val < 8 then wArr m c k ⟨4096 + j.val, by omega⟩ else if h : j.val - 8 < 16 then wArr m c k ⟨7176 + (j.val - 8), by omega⟩ else 0 := by
  have e : iblk m c 6 t (ix2 j k) = V m c main_v11 (ix2 j k) := congrArg (V m c main_v11) (place6 t j k)
  rw [e, staged11]
  exact (gatesW_apply _ j k)
theorem iblk7_apply (j : Fin 128) : iblk m c 7 t (ix2 0 j)
    = if h : j.val < 4 then biArr m c ⟨j.val, h⟩ else if h : j.val - 4 < 4 then bmArr m c ⟨j.val - 4, h⟩
      else if h : j.val - 4 - 4 < 16 then bfArr m c ⟨j.val - 4 - 4, h⟩ else 0 := by
  have e : iblk m c 7 t (ix2 0 j) = V m c main_v14 (ix2 0 j) := congrArg (V m c main_v14) (place7 t j)
  rw [e, staged14]
  refine Eq.trans ?_ (gatesB_apply _ _ _ j)
  pointwise

/-- The sum behind a gate, at a point. -/
theorem gsum_apply (r : Fin 512) (j : Fin 128) :
    gsum (hT (iblk m c 0 t) (iblk m c 1 t) (iblk m c 2 t))
      (View.ld (iblk m c 6 t : Vec Ideal S128x1024 .bf16) (Rect.unit (s := S128x1024) ![0, 0] ![128, 1024] inb_S128x1024_S128x1024_0_0))
      (View.ld (iblk m c 7 t : Vec Ideal S1x128 .f32) (Rect.unit (s := S1x128) ![0, 0] ![1, 128] inb_S1x128_S1x128_0_0)) r j
      = pre (xArr m c) (aArr m c) (nArr m c) (wArr m c) (biArr m c) (bmArr m c) (bfArr m c) (seqOf t) (posOf t r) j := by
  unfold gsum pre prod
  rw [ld_bg, iblk7_apply]
  by_cases h4 : j.val < 4
  · rw [dif_pos h4, dif_pos h4]
    refine congrArg (· + _) (Finset.sum_congr rfl fun k _ => congr (congrArg HMul.hMul (hT_apply m c t r k)) ?_)
    rw [ld_wg, iblk6_apply, dif_pos (show j.val < 8 by omega)]
  · rw [dif_neg h4, dif_neg h4]
    by_cases h8 : j.val < 8
    · rw [dif_pos h8, dif_pos (show j.val - 4 < 4 by omega)]
      refine congrArg (· + _) (Finset.sum_congr rfl fun k _ => congr (congrArg HMul.hMul (hT_apply m c t r k)) ?_)
      rw [ld_wg, iblk6_apply, dif_pos h8]
    · rw [dif_neg h8, dif_neg (show ¬ j.val - 4 < 4 by omega)]
      by_cases h24 : j.val < 24
      · rw [dif_pos h24, dif_pos (show j.val - 4 - 4 < 16 by omega)]
        refine congr (congrArg HAdd.hAdd (Finset.sum_congr rfl fun k _ => congr (congrArg HMul.hMul (hT_apply m c t r k)) ?_))
          (congrArg (bfArr m c) (Fin.ext (show j.val - 4 - 4 = j.val - 8 by omega)))
        rw [ld_wg, iblk6_apply, dif_neg h8, dif_pos (show j.val - 8 < 16 by omega)]
      · rw [dif_neg h24, dif_neg (show ¬ j.val - 4 - 4 < 16 by omega)]
        refine (add_zero _).trans (Finset.sum_eq_zero fun k _ => ?_)
        rw [ld_wg, iblk6_apply, dif_neg h8, dif_neg (show ¬ j.val - 8 < 16 by omega)]
        exact mul_zero _

/-- What a point leaves in the third result's block. -/
theorem outs10 : (outsAt0 m c t.val t.isLt).2.2.1
    = View.canon [⟨Rect.unit (s := S512x128) ![0, 0] ![512, 128] inb_S512x128_S512x128_0_0, gateV (iblk m c 0 t) (iblk m c 1 t) (iblk m c 2 t) (iblk m c 6 t) (iblk m c 7 t)⟩] := by
  by_cases h0 : t.val % 64 = 0
  · rw [outsAt0_A m c t h0]
    unfold out0_A_10
    rw [View.read_writes_junk_eq_canon, (runA_eq ..).2.2]
  · rw [outsAt0_B m c t h0]
    unfold out0_B_10
    rw [View.read_writes_junk_eq_canon, (runB_eq ..).2.2]

theorem origin2 : (![0, 0] : Fin 2 → Nat) = fun _ => 0 := by
  funext a
  match a with
  | ⟨0, _⟩ => rfl
  | ⟨1, _⟩ => rfl

theorem outs10_apply (r : Fin 512) (j : Fin 128) : (outsAt0 m c t.val t.isLt).2.2.1 (ix2 r j)
    = gate (xArr m c) (aArr m c) (nArr m c) (wArr m c) (biArr m c) (bmArr m c) (bfArr m c) (seqOf t) (posOf t r) j := by
  rw [outs10, View.canon_unit_zero (S := S512x128) origin2]
  unfold gateV
  exact (gate_apply _ _ _ r j).trans (congrArg (fun z => if j.val < 4 then z else lsig z) (gsum_apply m c t r j))

/-- Row `2048 b + s` of the kernel's third result. -/
theorem array10 (b : Fin 16) (s : Fin 2048) (j : Fin 128) (h : 2048 * b.val + s.val < 32768) :
    Value.G10 m c (ix2 ⟨2048 * b.val + s.val, h⟩ j)
      = gate (xArr m c) (aArr m c) (nArr m c) (wArr m c) (biArr m c) (bmArr m c) (bfArr m c) b s j := by
  have hs := s.isLt
  have hj := j.isLt
  have hp : Value.pt10Of (ix2 ⟨2048 * b.val + s.val, h⟩ j) = 4 * b.val + s.val / 512 := by
    show 1 * ((2048 * b.val + s.val) / 512 - 0) + 1 * (j.val / 128 - 0) = _
    omega
  have hl : Value.loc10Of (ix2 ⟨2048 * b.val + s.val, h⟩ j) = ix2 ⟨s.val % 512, Nat.mod_lt _ (by decide)⟩ j := by
    funext a
    match a with
    | ⟨0, _⟩ => exact Fin.ext (show (2048 * b.val + s.val) % 512 = s.val % 512 by omega)
    | ⟨1, _⟩ => exact Fin.ext (show j.val % 128 = j.val by omega)
  have hn := point_lt b s
  unfold Value.G10
  rw [dif_pos (by rw [hp]; exact hn), Value.fold0_congr m c _ _ _ (by omega) hp, ← Value.outsAt0_sweep m c _ hn, hl]
  refine (outs10_apply m c ⟨_, hn⟩ _ j).trans ?_
  rw [point_seq, point_pos]

end Cert.ProjIdeal.Tiles
-- ==== Proof.ProjGatesRef.lean ====
/-
  The gates of the input projection's reference, entry by entry.
-/
module

public import proofs.«01_k».proof.Proof.ProjRef
public import proofs.«01_k».proof.Proof.ProjGates

@[expose] public section

set_option maxRecDepth 16384

noncomputable section

namespace Cert.Projection

open Idealize.ShloMosaic

theorem log1p_exp_ne_bot (x : EReal) : Ideal.log1p (Ideal.exp x) ≠ ⊥ := by
  induction x using EReal.rec with
  | bot =>
    show Ideal.log (1 + 0) ≠ ⊥
    rw [add_zero]
    show (if (1 : ℝ) ≤ 0 then (⊥ : EReal) else ((Real.log 1 : ℝ) : EReal)) ≠ ⊥
    rw [if_neg (by norm_num)]
    exact EReal.coe_ne_bot _
  | top =>
    show Ideal.log (((1 : ℝ) : EReal) + ⊤) ≠ ⊥
    rw [EReal.add_top_of_ne_bot (EReal.coe_ne_bot 1)]
    exact top_ne_bot
  | coe r =>
    show Ideal.log (((1 : ℝ) : EReal) + ((Real.exp r : ℝ) : EReal)) ≠ ⊥
    rw [← EReal.coe_add]
    show (if 1 + Real.exp r ≤ 0 then (⊥ : EReal) else ((Real.log (1 + Real.exp r) : ℝ) : EReal)) ≠ ⊥
    rw [if_neg (by have := Real.exp_pos r; linarith)]
    exact EReal.coe_ne_bot _

/-- The two ways to write the logarithm of the sigmoid. -/
theorem neg_softplus (x : EReal) : -(max (-x) 0 + Ideal.log1p (Ideal.exp (-(max (-x) (- -x))))) = lsig x := by
  unfold lsig
  have h1 : max (-x) (- -x) = max x (-x) := by rw [neg_neg, max_comm]
  have h2 : max (-x) 0 ≠ ⊥ := fun h => absurd (h ▸ le_max_right (-x) 0 : (0 : EReal) ≤ ⊥) (by simp)
  have h3 : -(max (-x) 0) = min x 0 := by
    rcases le_total x 0 with h | h
    · rw [max_eq_left (EReal.neg_nonneg.mpr h), min_eq_left h, neg_neg]
    · rw [max_eq_right (by simpa using EReal.neg_le_neg_iff.mpr h), min_eq_right h, neg_zero]
  rw [h1, zero_sub, EReal.neg_add (Or.inl h2) (Or.inr (log1p_exp_ne_bot _)), h3]

end Cert.Projection

namespace Cert.ProjReferenceIdeal.Pieces

open Idealize.ShloMosaic Idealize.ShloMosaic.TcCoe Cert.ProjReferenceIdeal Cert.ProjReferenceIdeal.Gen Cert.FeedForward Cert.Projection

abbrev B4 := (⟨S4, .f32⟩ : BufTy).Contents (Elt Ideal)
abbrev B16 := (⟨S16, .f32⟩ : BufTy).Contents (Elt Ideal)

/-- The forget gates before their logarithm of a sigmoid. -/
def forgets (p : P3) (bm : B4) (bf : B16) : (⟨S16x2048x124, .f32⟩ : BufTy).Contents (Elt Ideal) :=
  concatenate S16x2048x124 2 [⟨S16x2048x4, (addf (F := Ideal) (φ := .f32) (extractStridedSlice S16x2048x4 ![0, 0, 4100] p slices_S16x2048x9240_S16x2048x4_0_0_4100) (broadcastInDim S16x2048x4 ![0, 1, 2] bcast_S1x1x4_S16x2048x4_0_1_2 (broadcastInDim S1x1x4 ![2] bcast_S4_S1x1x4_2 bm)))⟩, ⟨S16x2048x16, (addf (F := Ideal) (φ := .f32) (extractStridedSlice S16x2048x16 ![0, 0, 7176] p slices_S16x2048x9240_S16x2048x16_0_0_7176) (broadcastInDim S16x2048x16 ![0, 1, 2] bcast_S1x1x16_S16x2048x16_0_1_2 (broadcastInDim S1x1x16 ![2] bcast_S16_S1x1x16_2 bf)))⟩, ⟨S16x2048x104, (broadcastInDim S16x2048x104 ![] bcast_S_S16x2048x104 (constant (F := Ideal) S_ .f32 0x00000000#32))⟩] concatenates_S16x2048x4_S16x2048x16_S16x2048x104_S16x2048x124_d2
theorem forgets_apply (p : P3) (bm : B4) (bf : B16) (b : Fin 16) (s : Fin 2048) (j : Fin 124) : forgets p bm bf (ix3 b s j)
    = if h : j.val < 4 then (p (ix3 b s ⟨4100 + j.val, by omega⟩) : EReal) + bm (ix1 ⟨j.val, h⟩)
      else if h : j.val - 4 < 16 then (p (ix3 b s ⟨7176 + (j.val - 4), by omega⟩) : EReal) + bf (ix1 ⟨j.val - 4, h⟩)
      else (0 : EReal) := by
  pointwise [forgets]

/-- The logarithms of the sigmoids, as the reference computes them. -/
def logs (z : (⟨S16x2048x124, .f32⟩ : BufTy).Contents (Elt Ideal)) : (⟨S16x2048x124, .f32⟩ : BufTy).Contents (Elt Ideal) :=
  Host.negf (F := Ideal) (φ := .f32) (select (cmpf (F := Ideal) (φ := .f32) .une (subf (Host.negf z) (broadcastInDim S16x2048x124 ![] bcast_S_S16x2048x124 (constant S_ .f32 0x00000000#32))) (subf (Host.negf z) (broadcastInDim S16x2048x124 ![] bcast_S_S16x2048x124 (constant S_ .f32 0x00000000#32)))) (addf (Host.negf z) (broadcastInDim S16x2048x124 ![] bcast_S_S16x2048x124 (constant S_ .f32 0x00000000#32))) (addf (maximumf (Host.negf z) (broadcastInDim S16x2048x124 ![] bcast_S_S16x2048x124 (constant S_ .f32 0x00000000#32))) (Host.log1p (Host.exp (Host.negf (Host.absf (subf (Host.negf z) (broadcastInDim S16x2048x124 ![] bcast_S_S16x2048x124 (constant S_ .f32 0x00000000#32)))))))))
theorem logs_apply (z : (⟨S16x2048x124, .f32⟩ : BufTy).Contents (Elt Ideal)) (b : Fin 16) (s : Fin 2048) (j : Fin 124) :
    logs z (ix3 b s j) = lsig (z (ix3 b s j)) := by
  pointwise [logs]
  rw [if_neg (fun h => h rfl)]
  exact neg_softplus (z (ix3 b s j))

/-- The third result: the input gates, and the logarithms of the forget gates. -/
def gates (p : P3) (bi bm : B4) (bf : B16) : (⟨S32768x128, .f32⟩ : BufTy).Contents (Elt Ideal) :=
  shapeCast _ (concatenate S16x2048x128 2 [⟨S16x2048x4, (addf (F := Ideal) (φ := .f32) (extractStridedSlice S16x2048x4 ![0, 0, 4096] p slices_S16x2048x9240_S16x2048x4_0_0_4096) (broadcastInDim S16x2048x4 ![0, 1, 2] bcast_S1x1x4_S16x2048x4_0_1_2 (broadcastInDim S1x1x4 ![2] bcast_S4_S1x1x4_2 bi)))⟩, ⟨S16x2048x124, logs (forgets p bm bf)⟩] concatenates_S16x2048x4_S16x2048x124_S16x2048x128_d2) shapeCasts_S16x2048x128_S32768x128
theorem gates_apply (p : P3) (bi bm : B4) (bf : B16) (i : Fin 32768) (j : Fin 128) : gates p bi bm bf (ix2 i j)
    = if h : j.val < 4 then (p (ix3 ⟨i.val / 2048, by omega⟩ ⟨i.val % 2048, Nat.mod_lt _ (by decide)⟩ ⟨4096 + j.val, by omega⟩) : EReal) + bi (ix1 ⟨j.val, h⟩)
      else logs (forgets p bm bf) (ix3 ⟨i.val / 2048, by omega⟩ ⟨i.val % 2048, Nat.mod_lt _ (by decide)⟩ ⟨j.val - 4, by omega⟩) := by
  pointwise [gates]

theorem gates_res (m : (ℓ : Loc nD τ sig) → Buf (Elt Ideal) ℓ) (c : Dev nD) : Value.res_main_v49 m c
    = gates (whole (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) := by
  unfold Value.res_main_v49
  rfl

section
variable (x : X3) (a : A2) (n : (⟨S1024, .f32⟩ : BufTy).Contents (Elt Ideal)) (w : (⟨S1024x9240, .f32⟩ : BufTy).Contents (Elt Ideal)) (bi bm : B4) (bf : B16)

theorem gates_value (b : Fin 16) (s : Fin 2048) (j : Fin 128) (i : Fin 32768) (hi : i.val = 2048 * b.val + s.val) :
    gates (whole x a n w) bi bm bf (ix2 i j)
      = gate (fX x) (fA a) (fN n) (fW w) (fun k => bi (ix1 k)) (fun k => bm (ix1 k)) (fun k => bf (ix1 k)) b s j := by
  have hs := s.isLt
  have e1 : (⟨i.val / 2048, by omega⟩ : Fin 16) = b := Fin.ext (by dsimp only; omega)
  have e2 : (⟨i.val % 2048, Nat.mod_lt _ (by decide)⟩ : Fin 2048) = s := Fin.ext (by dsimp only; omega)
  rw [gates_apply, e1, e2]
  unfold gate pre
  by_cases h4 : j.val < 4
  · rw [dif_pos h4, if_pos h4, dif_pos h4, whole_value]
  · rw [dif_neg h4, if_neg h4, dif_neg h4, logs_apply, forgets_apply]
    refine congrArg lsig ?_
    by_cases h8 : j.val < 8
    · rw [dif_pos h8, dif_pos (show j.val - 4 < 4 by omega), whole_value]
      have e : (⟨4100 + (j.val - 4), by omega⟩ : Fin 9240) = ⟨4096 + j.val, by omega⟩ := Fin.ext (by dsimp only; omega)
      exact congrArg (fun c => prod (fX x) (fA a) (fN n) (fW w) b s c + (bm (ix1 ⟨j.val - 4, by omega⟩) : EReal)) e
    · rw [dif_neg h8, dif_neg (show ¬ j.val - 4 < 4 by omega)]
      by_cases h24 : j.val < 24
      · rw [dif_pos h24, dif_pos (show j.val - 4 - 4 < 16 by omega), whole_value]
        have e : (⟨7176 + (j.val - 4 - 4), by omega⟩ : Fin 9240) = ⟨7176 + (j.val - 8), by omega⟩ := Fin.ext (by dsimp only; omega)
        have e' : (⟨j.val - 4 - 4, by omega⟩ : Fin 16) = ⟨j.val - 8, by omega⟩ := Fin.ext (by dsimp only; omega)
        exact congr (congrArg HAdd.hAdd (congrArg (prod (fX x) (fA a) (fN n) (fW w) b s) e)) (congrArg (fun k => (bf (ix1 k) : EReal)) e')
      · rw [dif_neg h24, dif_neg (show ¬ j.val - 4 - 4 < 16 by omega)]
end

end Cert.ProjReferenceIdeal.Pieces

namespace Cert.Projection

open Idealize.ShloMosaic Idealize.ShloMosaic.TcCoe Cert.ProjIdeal

variable (m : (ℓ : Loc nD τ sig) → Buf (Elt Ideal) ℓ) (c : Dev nD)

/-- The third results agree. -/
theorem equation_gates :
    (Cert.ProjReferenceIdeal.Pieces.gates (Cert.ProjReferenceIdeal.Pieces.whole (m ((c : Thread nD τ).loc main_arg0)) (m ((c : Thread nD τ).loc main_arg1))
      (m ((c : Thread nD τ).loc main_arg2)) (m ((c : Thread nD τ).loc main_arg3))) (m ((c : Thread nD τ).loc main_arg4)) (m ((c : Thread nD τ).loc main_arg5))
      (m ((c : Thread nD τ).loc main_arg6)) : (⟨2, ![32768, 128]⟩ : Shape).Idx → EReal) = Value.G10 m c := by
  funext i
  obtain ⟨a, d, rfl⟩ : ∃ (a : Fin 32768) (d : Fin 128), i = ix2 a d := ⟨i 0, i 1, eq_ix2 i⟩
  have ha := a.isLt
  have e : a = ⟨2048 * (a.val / 2048) + a.val % 2048, by omega⟩ := Fin.ext (by dsimp only; omega)
  have hk := Tiles.array10 m c ⟨a.val / 2048, by omega⟩ ⟨a.val % 2048, Nat.mod_lt _ (by decide)⟩ d (by dsimp only; omega)
  refine (Cert.ProjReferenceIdeal.Pieces.gates_value _ _ _ _ _ _ _ ⟨a.val / 2048, by omega⟩ ⟨a.val % 2048, Nat.mod_lt _ (by decide)⟩ d a
    (by dsimp only; omega)).trans ?_
  exact hk.symm.trans (congrArg (fun z => Value.G10 m c (ix2 z d)) e.symm)

end Cert.Projection
-- ==== Proof.AdaValue.lean ====
/-
  The conditioning kernel's result array, entry by entry: each of the six grid points computes 1024 columns.
-/
module

public import proofs.«01_k».proof.Proof.Gen.AdaIdeal.Value
public import proofs.«01_k».proof.Proof.FfnMath
public import Idealize.ShloMosaic.Lib.Pointwise
public import Idealize.ShloMosaic.Lib.Pipeline.ValueKit.Point

@[expose] public section

set_option maxRecDepth 16384

noncomputable section

namespace Cert.Conditioning

open Idealize.ShloMosaic Cert.FeedForward

/-- The conditioning of its arrays' entries: column `f` of sequence `b`. -/
def shifts (C : Fin 16 → Fin 1024 → EReal) (W : Fin 1024 → Fin 6144 → EReal) (T : Fin 6144 → EReal) (b : Fin 16) (f : Fin 6144) : EReal :=
  (∑ k : Fin 1024, C b k * sigm (C b k) * W k f) + T f

end Cert.Conditioning

namespace Cert.AdaIdeal.Pieces

open Idealize.ShloMosaic Idealize.ShloMosaic.TcCoe Cert.AdaIdeal Cert.AdaIdeal.Gen Cert.FeedForward Cert.Conditioning

theorem pay_apply (x : Vec Ideal S16x1024 .f32) (w : Vec Ideal S1024x1024 .f32) (b : Vec Ideal S1x1024 .f32) (r : Fin 16) (j : Fin 1024) :
    k0_pay1 x w b (ix2 r j) = (∑ k : Fin 1024, (x (ix2 r k) : EReal) * sigm (x (ix2 r k)) * w (ix2 k j)) + b (ix2 0 j) := by
  pointwise [k0_pay1, dot_S16x1024_S1024x1024_S16x1024_1_0_0_1_n_n]
  rfl

theorem out_eq (x0 : Vec Ideal S16x1024 .f32) (x1 : Vec Ideal S1024x1024 .f32) (x2 : Vec Ideal S1x1024 .f32) : out0_3 x0 x1 x2 = k0_pay1 x0 x1 x2 := by
  unfold out0_3
  refine (View.canon_unit_zero ?_ _ _).trans ?_
  · funext a; match a with | ⟨0, _⟩ => rfl | ⟨1, _⟩ => rfl
  · rw [View.ld_unit_zero (S := S16x1024), View.ld_unit_zero (S := S1024x1024), View.ld_unit_zero (S := S1x1024)]
    all_goals (funext a; match a with | ⟨0, _⟩ => rfl | ⟨1, _⟩ => rfl)

variable (m : (ℓ : Loc nD τ sig) → Buf (Elt Ideal) ℓ) (c : Dev nD)

/-- The sequences' inputs, as launched. -/
def cArr : Fin 16 → Fin 1024 → EReal := fun b k => m ((c : Thread nD τ).loc main_arg0) (ix2 b k)
/-- The weights, as launched. -/
def wArr : Fin 1024 → Fin 6144 → EReal := fun k f => m ((c : Thread nD τ).loc main_arg1) (ix2 k f)
/-- The bias, as launched. -/
def bArr : Fin 6144 → EReal := fun f => m ((c : Thread nD τ).loc main_arg2) (ix1 f)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

variable (t : Fin cfg0.N)

theorem tlt : t.val < 6 := lt_of_lt_of_eq t.isLt N_0
/-- The `j`-th column of the point. -/
def colOf (j : Fin 1024) : Fin 6144 := ⟨1024 * t.val + j.val, by have := tlt t; omega⟩

theorem iblk0_apply (r : Fin 16) (k : Fin 1024) : iblk m c 0 t (ix2 r k) = cArr m c r k := by
  unfold cArr
  blk_ext! [iblk, V, V_main_arg0, index0 t]
theorem iblk1_apply (k j : Fin 1024) : iblk m c 1 t (ix2 k j) = wArr m c k (colOf t j) := by
  have := tlt t
  unfold wArr colOf
  blk_ext! [iblk, V, V_main_arg1, index1 t]
theorem iblk2_apply (j : Fin 1024) : iblk m c 2 t (ix2 0 j) = bArr m c (colOf t j) := by
  have := tlt t
  unfold bArr colOf
  blk_ext! [iblk, V, index2 t]

/-- What a point computes. -/
theorem point_value (r : Fin 16) (j : Fin 1024) :
    out0_3 (iblk m c 0 t) (iblk m c 1 t) (iblk m c 2 t) (ix2 r j) = shifts (cArr m c) (wArr m c) (bArr m c) r (colOf t j) := by
  refine (congrFun (out_eq _ _ _) (ix2 r j)).trans ((pay_apply _ _ _ r j).trans ?_)
  unfold shifts
  refine congr (congrArg HAdd.hAdd (Finset.sum_congr rfl fun k _ => ?_)) (iblk2_apply m c t j)
  exact congr (congrArg HMul.hMul (congr (congrArg HMul.hMul (iblk0_apply m c t r k)) (congrArg sigm (iblk0_apply m c t r k)))) (iblk1_apply m c t k j)

/-- An index of the result's block at a point is this index of the array. -/
theorem emb_out (r : Fin 16) (j : Fin 1024) : ((cfg0.win 3).blk t).view.emb (ix2 r j) = (ix2 r (colOf t j) : S16x6144.Idx) := by
  have e0 : win0_3.index t (0 : Fin 2) = 0 := congrFun (index3 t) 0
  have e1 : win0_3.index t (1 : Fin 2) = t.val := congrFun (index3 t) 1
  funext a
  apply Fin.ext
  match a with
  | ⟨0, _⟩ => show win0_3.index t (0 : Fin 2) * 16 + 1 * r.val = r.val; omega
  | ⟨1, _⟩ => show win0_3.index t (1 : Fin 2) * 1024 + 1 * j.val = 1024 * t.val + j.val; omega

/-- An entry of the kernel's result. -/
theorem array_value (b : Fin 16) (f : Fin 6144) :
    ((dats m 0 c).arrAt 3 cfg0.N : S16x6144.Idx → EReal) (ix2 b f) = shifts (cArr m c) (wArr m c) (bArr m c) b f := by
  have hn : f.val / 1024 < cfg0.N := lt_of_lt_of_eq (show _ < 6 by omega) N_0.symm
  have e : colOf ⟨f.val / 1024, hn⟩ ⟨f.val % 1024, Nat.mod_lt _ (by decide)⟩ = f :=
    Fin.ext (show 1024 * (f.val / 1024) + f.val % 1024 = f.val by omega)
  have key := congrFun ((Value.blocks3 m c ⟨f.val / 1024, hn⟩ (flush0_3 _)).trans (Value.flushed3 m c ⟨f.val / 1024, hn⟩))
    (ix2 b ⟨f.val % 1024, Nat.mod_lt _ (by decide)⟩)
  have pv := point_value m c ⟨f.val / 1024, hn⟩ b ⟨f.val % 1024, Nat.mod_lt _ (by decide)⟩
  rw [e] at pv
  have ei : (ix2 b f : S16x6144.Idx) = ((cfg0.win 3).blk ⟨f.val / 1024, hn⟩).view.emb (ix2 b ⟨f.val % 1024, Nat.mod_lt _ (by decide)⟩) := by
    rw [emb_out, e]
  rw [ei]
  exact key.trans pv

end Cert.AdaIdeal.Pieces
-- ==== Proof.AdaEquation.lean ====
/-
  The conditioning reference's result, entry by entry, and its equality with the kernel's.
-/
module

public import proofs.«01_k».proof.Proof.AdaValue
public import proofs.«01_k».proof.Proof.Gen.AdaReferenceIdeal.Run

@[expose] public section

set_option maxRecDepth 16384

noncomputable section

namespace Cert.AdaReferenceIdeal.Pieces

open Idealize.ShloMosaic Idealize.ShloMosaic.TcCoe Cert.AdaReferenceIdeal Cert.AdaReferenceIdeal.Gen Cert.FeedForward Cert.Conditioning

/-- The whole of the reference of its arguments. -/
def whole (x : (⟨S16x1024, .f32⟩ : BufTy).Contents (Elt Ideal)) (w : (⟨S1024x6144, .f32⟩ : BufTy).Contents (Elt Ideal)) (b : (⟨S6144, .f32⟩ : BufTy).Contents (Elt Ideal)) :
    (⟨S16x6144, .f32⟩ : BufTy).Contents (Elt Ideal) :=
  addf (F := Ideal) (φ := .f32) (Host.dotGeneral (F := Ideal) (φ₁ := .f32) (φ₂ := .f32) dot_S16x1024_S1024x6144_S16x6144_1_0_0_1_n_n none (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))) w) (broadcastInDim S16x6144 ![0, 1] bcast_S1x6144_S16x6144_0_1 (broadcastInDim S1x6144 ![1] bcast_S6144_S1x6144_1 b))
theorem whole_apply (x : (⟨S16x1024, .f32⟩ : BufTy).Contents (Elt Ideal)) (w : (⟨S1024x6144, .f32⟩ : BufTy).Contents (Elt Ideal)) (b : (⟨S6144, .f32⟩ : BufTy).Contents (Elt Ideal))
    (r : Fin 16) (f : Fin 6144) :
    whole x w b (ix2 r f) = shifts (fun b k => x (ix2 b k)) (fun k f => w (ix2 k f)) (fun f => b (ix1 f)) r f := by
  pointwise [whole, dot_S16x1024_S1024x6144_S16x6144_1_0_0_1_n_n]
  rfl

end Cert.AdaReferenceIdeal.Pieces

namespace Cert.Conditioning

open Idealize.ShloMosaic Idealize.ShloMosaic.TcCoe Cert.AdaIdeal Cert.AdaIdeal.Gen

variable (m : (ℓ : Loc nD τ sig) → Buf (Elt Ideal) ℓ) (c : Dev nD)

/-- Both results, entry by entry, are the same function of the arguments' entries. -/
theorem equation :
    (Cert.AdaReferenceIdeal.Pieces.whole (m ((c : Thread nD τ).loc main_arg0)) (m ((c : Thread nD τ).loc main_arg1)) (m ((c : Thread nD τ).loc main_arg2))
        : (⟨2, ![16, 6144]⟩ : Shape).Idx → EReal) = (dats m 0 c).arrAt 3 cfg0.N := by
  funext i
  obtain ⟨b, f, rfl⟩ : ∃ (b : Fin 16) (f : Fin 6144), i = ix2 b f := ⟨i 0, i 1, eq_ix2 i⟩
  exact (Cert.AdaReferenceIdeal.Pieces.whole_apply _ _ _ b f).trans (Cert.AdaIdeal.Pieces.array_value m c b f).symm

end Cert.Conditioning
-- ==== Proof.Pre.lean ====
/-
  What the precondition says over the extended reals: the entries that the recurrence reads are real numbers.
-/
module

public import proofs.«01_k».proof.Defs
public import proofs.«01_k».proof.Proof.Data
public import Idealize.ShloMosaic.Lib.Pointwise

@[expose] public section

set_option maxRecDepth 16384

noncomputable section

namespace Cert.Recurrence

open Idealize.ShloMosaic

/-- The side conditions of the precondition's operations. -/
theorem pre_facts : Cert.Pre_finite.Facts where
  bitsLt_bf16_f32 := by decide
  slices_S32768x6144_S32768x3072_0_0 := by decide
  slices_S32768x128_S32768x8_0_0 := by decide
  concatenates_S32768x3072_S32768x8_S32768x3080_d1 := by decide
  bcast_S_S32768x3080 := by decide

/-- A number whose absolute value is below infinity is real. -/
theorem real_of_lt (x : EReal) (h : FloatOps.cmpf (F := Ideal) (φ := .f32) .olt (FloatOps.absf (F := Ideal) (φ := .f32) x) (Ideal.ofBits .f32 (0x7F800000 : BitVec 32)) = 1#1) :
    x = (x.toReal : EReal) := by
  have hi : Ideal.ofBits .f32 (0x7F800000 : BitVec 32) = ⊤ := by simp [Ideal.ofBits, Ideal.ieee]
  rw [hi] at h
  induction x with
  | coe r => rfl
  | bot => simp [FloatOps.cmpf, FloatOps.absf, Ideal.cmp] at h
  | top => simp [FloatOps.cmpf, FloatOps.absf, Ideal.cmp] at h

variable (x : FVec Ideal Cert.Pre_finite.S32768x6144 .bf16) (y : FVec Ideal Cert.Pre_finite.S32768x128 .f32) (w : FVec Ideal Cert.Pre_finite.S1x1024 .f32)

/-- The precondition, entry by entry. -/
theorem finite_of_pre (hp : @Cert.Pre_finite.fn pre_facts Ideal _ x y w = fun _ => 1#1) :
    Finite (fun a l => x (ix2 a l)) (fun a l => y (ix2 a l)) := by
  have hcol : ∀ (a : Fin 32768) (l : Fin 3080), FloatOps.cmpf (F := Ideal) (φ := .f32) .olt (FloatOps.absf (F := Ideal) (φ := .f32)
      (if hl : l.val < 3072 then x (ix2 a ⟨l.val, by omega⟩) else y (ix2 a ⟨l.val - 3072, by omega⟩))) (Ideal.ofBits .f32 (0x7F800000 : BitVec 32)) = 1#1 := by
    intro a l
    have h := congrFun hp (ix2 a l)
    rw [← h]
    pointwise [Cert.Pre_finite.fn]
    rfl
  constructor
  · intro a l hl
    have h := hcol a ⟨l.val, by omega⟩
    rw [dif_pos hl] at h
    exact real_of_lt _ h
  · intro a l hl
    have h := hcol a ⟨3072 + l.val, by omega⟩
    rw [dif_neg (by simp)] at h
    have e : (⟨3072 + l.val - 3072, by omega⟩ : Fin 128) = l := Fin.ext (by simp)
    exact real_of_lt _ (by rw [← e]; exact h)

end Cert.Recurrence
-- ==== Proof.lean ====
/-
  The certificate's claims. The two frames of the kernel are its generated ones; the reference's is its generated run
  weakened. The value claim puts the kernel's generated run beside the reference's iterated trips: both results are the
  normalised read-out of the same recurrence (Proof/Equation.lean), where the precondition makes what it reads real
  (Proof/Pre.lean). The feed-forward call's claims are of the same kinds: both results are one function of the arguments'
  entries (Proof/FfnEquation.lean), with no precondition. So are the merge call's (Proof/MergeEquation.lean), the conditioning's (Proof/AdaEquation.lean)
  and those of the input projection's first three results (Proof/ProjEquation.lean, Proof/ProjGatesRef.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.RefRun
public import proofs.«01_k».proof.Proof.Gen.FfnIdeal.Value
public import proofs.«01_k».proof.Proof.Gen.Ffn.Frame
public import proofs.«01_k».proof.Proof.Gen.FfnReferenceIdeal.Run
public import proofs.«01_k».proof.Proof.Gen.ProjIdeal.Value
public import proofs.«01_k».proof.Proof.Gen.Proj.Frame
public import proofs.«01_k».proof.Proof.Gen.ProjReferenceIdeal.Run
public import proofs.«01_k».proof.Proof.Gen.AdaIdeal.Value
public import proofs.«01_k».proof.Proof.Gen.Ada.Frame
public import proofs.«01_k».proof.Proof.Gen.AdaReferenceIdeal.Run
public import proofs.«01_k».proof.Proof.Gen.MergeIdeal.Value
public import proofs.«01_k».proof.Proof.Gen.Merge.Frame
public import proofs.«01_k».proof.Proof.Gen.MergeReferenceIdeal.Run
public import proofs.«01_k».proof.Proof.Equation
public import proofs.«01_k».proof.Proof.FfnEquation
public import proofs.«01_k».proof.Proof.MergeEquation
public import proofs.«01_k».proof.Proof.ProjEquation
public import proofs.«01_k».proof.Proof.ProjGatesRef
public import proofs.«01_k».proof.Proof.AdaEquation
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, its arguments unchanged and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same result wherever the precondition holds. -/
theorem algebraic : algebraic_KernelIdeal_ReferenceIdeal_pre_finite (hPre_finite := Cert.Recurrence.pre_facts) := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Trips.run (F := Ideal) m' ρ'
      (fun c => Cert.ReferenceIdeal.Chunk.states (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))) (fun _ => rfl) (fun _ _ => rfl))
  rw [(h c).1, (hagree c).1, (hagree c).2.1, (hagree c).2.2]
  exact Cert.Recurrence.equation m c (Cert.Recurrence.finite_of_pre _ _ _ (hpre c))

/-- The feed-forward reference terminates, its arguments unchanged and no semaphore raised. -/
theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The feed-forward kernel and its reference end with the same result. -/
theorem algebraic_ffn : algebraic_FfnIdeal_FfnReferenceIdeal := by
  intro m ρ m' ρ' _ hagree
  refine ⟨_, Cert.FfnIdeal.Value.run (F := Ideal) m ρ, ?_⟩
  refine (θ_run Cert.FfnReferenceIdeal.defs _ _).mono (fun _ h c => ⟨?_, (h c).2⟩) (Cert.FfnReferenceIdeal.Value.run (F := Ideal) m' ρ')
  refine ((h c).1.trans (Cert.FfnReferenceIdeal.Pieces.res_eq m' c)).trans ?_
  obtain ⟨h0, h1, h2, h3, h4, h5, h6⟩ := hagree c
  rw [h0, h1, h2, h3, h4, h5, h6]
  exact Cert.FeedForward.equation m c

/-- The merge reference terminates, its arguments unchanged and no semaphore raised. -/
theorem quiescent_MergeReferenceIdeal : quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The merge kernel and its reference end with the same result. -/
theorem algebraic_merge : algebraic_MergeIdeal_MergeReferenceIdeal := by
  intro m ρ m' ρ' _ hagree
  refine ⟨_, Cert.MergeIdeal.Value.run_blocks (F := Ideal) m ρ, ?_⟩
  refine (θ_run Cert.MergeReferenceIdeal.defs _ _).mono (fun _ h c => ⟨?_, (h c).2⟩) (Cert.MergeReferenceIdeal.Value.run (F := Ideal) m' ρ')
  refine ((h c).1.trans (show _ = Cert.MergeReferenceIdeal.Pieces.whole _ _ _ _ _ _ _ _ from rfl)).trans ?_
  obtain ⟨h0, h1, h2, h3, h4, h5, h6, h7⟩ := hagree c
  rw [h0, h1, h2, h3, h4, h5, h6, h7]
  exact Cert.Merging.equation m c

/-- The projection's reference terminates, its arguments unchanged and no semaphore raised. -/
theorem quiescent_ProjReferenceIdeal : quiescent_ProjReferenceIdeal := fun m ρ _ =>
  (θ_run Cert.ProjReferenceIdeal.defs _ _).mono (fun r h => ⟨fun c => (h c).2.2.2, sem_eq_zero_of_no_sems (by decide) r.2⟩)
    (Cert.ProjReferenceIdeal.Value.run (F := Ideal) m ρ)

/-- The projection's kernel and its reference end with the same three results. -/
theorem algebraic_proj : algebraic_ProjIdeal_ProjReferenceIdeal := by
  intro m ρ m' ρ' _ hagree
  refine ⟨_, _, _, (θ_run Cert.ProjIdeal.defs _ _).mono (fun _ h c => ⟨(h c).1, (h c).2.1, (h c).2.2.1, (h c).2.2.2.2⟩) (Cert.ProjIdeal.Value.run (F := Ideal) m ρ), ?_⟩
  refine (θ_run Cert.ProjReferenceIdeal.defs _ _).mono (fun _ h c => ⟨?_, ?_, ?_, (h c).2.2.2⟩) (Cert.ProjReferenceIdeal.Value.run (F := Ideal) m' ρ')
  · refine ((h c).1.trans (show _ = Cert.ProjReferenceIdeal.Pieces.cols (Cert.ProjReferenceIdeal.Pieces.whole _ _ _ _) from rfl)).trans ?_
    obtain ⟨h0, h1, h2, h3, _⟩ := hagree c
    rw [h0, h1, h2, h3]
    exact Cert.Projection.equation_cols m c
  · refine ((h c).2.1.trans (show _ = Cert.ProjReferenceIdeal.Pieces.slabs (Cert.ProjReferenceIdeal.Pieces.whole _ _ _ _) from rfl)).trans ?_
    obtain ⟨h0, h1, h2, h3, _⟩ := hagree c
    rw [h0, h1, h2, h3]
    exact Cert.Projection.equation_slabs m c
  · refine ((h c).2.2.1.trans (Cert.ProjReferenceIdeal.Pieces.gates_res m' c)).trans ?_
    obtain ⟨h0, h1, h2, h3, h4, h5, h6⟩ := hagree c
    rw [h0, h1, h2, h3, h4, h5, h6]
    exact Cert.Projection.equation_gates m c

/-- The conditioning's reference terminates, its arguments unchanged and no semaphore raised. -/
theorem quiescent_AdaReferenceIdeal : quiescent_AdaReferenceIdeal := fun m ρ _ =>
  (θ_run Cert.AdaReferenceIdeal.defs _ _).mono (fun r h => ⟨fun c => (h c).2, sem_eq_zero_of_no_sems (by decide) r.2⟩)
    (Cert.AdaReferenceIdeal.Value.run (F := Ideal) m ρ)

/-- The conditioning's kernel and its reference end with the same result. -/
theorem algebraic_ada : algebraic_AdaIdeal_AdaReferenceIdeal := by
  intro m ρ m' ρ' _ hagree
  refine ⟨_, Cert.AdaIdeal.Value.run_blocks (F := Ideal) m ρ, ?_⟩
  refine (θ_run Cert.AdaReferenceIdeal.defs _ _).mono (fun _ h c => ⟨?_, (h c).2⟩) (Cert.AdaReferenceIdeal.Value.run (F := Ideal) m' ρ')
  refine ((h c).1.trans (show _ = Cert.AdaReferenceIdeal.Pieces.whole _ _ _ from rfl)).trans ?_
  obtain ⟨h0, h1, h2⟩ := hagree c
  rw [h0, h1, h2]
  exact Cert.Conditioning.equation m c

/-- Every claim of the certificate. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.Proj.Gen.facts, Cert.ProjIdeal.Gen.facts, Cert.ProjReferenceIdeal.Gen.facts,
  Cert.Ada.Gen.facts, Cert.AdaIdeal.Gen.facts, Cert.AdaReferenceIdeal.Gen.facts, Cert.Recurrence.pre_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Ffn.Gen.frame m ρ, fun m ρ _ => Cert.FfnIdeal.Gen.frame m ρ, quiescent_FfnReferenceIdeal,
  fun m ρ _ => Cert.Merge.Gen.frame m ρ, fun m ρ _ => Cert.MergeIdeal.Gen.frame m ρ, quiescent_MergeReferenceIdeal,
  fun m ρ _ => Cert.Proj.Gen.frame m ρ, fun m ρ _ => Cert.ProjIdeal.Gen.frame m ρ, quiescent_ProjReferenceIdeal,
  fun m ρ _ => Cert.Ada.Gen.frame m ρ, fun m ρ _ => Cert.AdaIdeal.Gen.frame m ρ, quiescent_AdaReferenceIdeal,
  (trivial : preserves_Kernel_KernelIdeal), algebraic, (trivial : preserves_Ffn_FfnIdeal), algebraic_ffn,
  (trivial : preserves_Merge_MergeIdeal), algebraic_merge,
  (trivial : preserves_Proj_ProjIdeal), algebraic_proj,
  (trivial : preserves_Ada_AdaIdeal), algebraic_ada⟩

end Cert.Proof

end
